-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite1 [hPre_finite1 : Cert.Pre_finite1.Facts] (m : (ℓ : Loc Cert.FirstIdeal.nD Cert.FirstIdeal.τ Cert.FirstIdeal.sig) → Buf (Elt Ideal) ℓ) : Prop :=
  ∀ c : Dev Cert.FirstIdeal.nD,
    (Cert.Pre_finite1.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))) = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_finite1 [hPre_finite1 : Cert.Pre_finite1.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_finite1.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4)) (m ((c.tc : Thread Cert.FirstRefIdeal.nD Cert.FirstRefIdeal.τ).loc Cert.FirstRefIdeal.main_arg5)) (m ((c.tc : Thread Cert.FirstRefIdeal.nD Cert.FirstRefIdeal.τ).loc Cert.FirstRefIdeal.main_arg6)) (m ((c.tc : Thread Cert.FirstRefIdeal.nD Cert.FirstRefIdeal.τ).loc Cert.FirstRefIdeal.main_arg7))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_gate_finite [hPre_gate_finite : Cert.Pre_gate_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_gate_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7)) (m ((c.tc : Thread Cert.AttentionIdeal.nD Cert.AttentionIdeal.τ).loc Cert.AttentionIdeal.main_arg8)) (m ((c.tc : Thread Cert.AttentionIdeal.nD Cert.AttentionIdeal.τ).loc Cert.AttentionIdeal.main_arg9)) (m ((c.tc : Thread Cert.AttentionIdeal.nD Cert.AttentionIdeal.τ).loc Cert.AttentionIdeal.main_arg10)) (m ((c.tc : Thread Cert.AttentionIdeal.nD Cert.AttentionIdeal.τ).loc Cert.AttentionIdeal.main_arg11)) (m ((c.tc : Thread Cert.AttentionIdeal.nD Cert.AttentionIdeal.τ).loc Cert.AttentionIdeal.main_arg12)) (m ((c.tc : Thread Cert.AttentionIdeal.nD Cert.AttentionIdeal.τ).loc Cert.AttentionIdeal.main_arg13)) (m ((c.tc : Thread Cert.AttentionIdeal.nD Cert.AttentionIdeal.τ).loc Cert.AttentionIdeal.main_arg14)) (m ((c.tc : Thread Cert.AttentionIdeal.nD Cert.AttentionIdeal.τ).loc Cert.AttentionIdeal.main_arg15)) (m ((c.tc : Thread Cert.AttentionIdeal.nD Cert.AttentionIdeal.τ).loc Cert.AttentionIdeal.main_arg16))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_gate_finite [hPre_gate_finite : Cert.Pre_gate_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_gate_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6)) (m ((c.tc : Thread Cert.AttentionRefIdeal.nD Cert.AttentionRefIdeal.τ).loc Cert.AttentionRefIdeal.main_arg7)) (m ((c.tc : Thread Cert.AttentionRefIdeal.nD Cert.AttentionRefIdeal.τ).loc Cert.AttentionRefIdeal.main_arg8)) (m ((c.tc : Thread Cert.AttentionRefIdeal.nD Cert.AttentionRefIdeal.τ).loc Cert.AttentionRefIdeal.main_arg9)) (m ((c.tc : Thread Cert.AttentionRefIdeal.nD Cert.AttentionRefIdeal.τ).loc Cert.AttentionRefIdeal.main_arg10)) (m ((c.tc : Thread Cert.AttentionRefIdeal.nD Cert.AttentionRefIdeal.τ).loc Cert.AttentionRefIdeal.main_arg11)) (m ((c.tc : Thread Cert.AttentionRefIdeal.nD Cert.AttentionRefIdeal.τ).loc Cert.AttentionRefIdeal.main_arg12)) (m ((c.tc : Thread Cert.AttentionRefIdeal.nD Cert.AttentionRefIdeal.τ).loc Cert.AttentionRefIdeal.main_arg13)) (m ((c.tc : Thread Cert.AttentionRefIdeal.nD Cert.AttentionRefIdeal.τ).loc Cert.AttentionRefIdeal.main_arg14)) (m ((c.tc : Thread Cert.AttentionRefIdeal.nD Cert.AttentionRefIdeal.τ).loc Cert.AttentionRefIdeal.main_arg15)) (m ((c.tc : Thread Cert.AttentionRefIdeal.nD Cert.AttentionRefIdeal.τ).loc Cert.AttentionRefIdeal.main_arg16))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstIdeal_pre_finite1 [hFirstIdeal : Cert.FirstIdeal.Facts] [hPre_finite1 : Cert.Pre_finite1.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite1 m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_FirstRefIdeal_pre_finite1 [hFirstRefIdeal : Cert.FirstRefIdeal.Facts] [hPre_finite1 : Cert.Pre_finite1.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_finite1 m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9)
      ∧ r.2.mem ((c.tc : Thread Cert.Attention.nD Cert.Attention.τ).loc Cert.Attention.main_arg10) = m ((c.tc : Thread Cert.Attention.nD Cert.Attention.τ).loc Cert.Attention.main_arg10)
      ∧ r.2.mem ((c.tc : Thread Cert.Attention.nD Cert.Attention.τ).loc Cert.Attention.main_arg11) = m ((c.tc : Thread Cert.Attention.nD Cert.Attention.τ).loc Cert.Attention.main_arg11)
      ∧ r.2.mem ((c.tc : Thread Cert.Attention.nD Cert.Attention.τ).loc Cert.Attention.main_arg12) = m ((c.tc : Thread Cert.Attention.nD Cert.Attention.τ).loc Cert.Attention.main_arg12)
      ∧ r.2.mem ((c.tc : Thread Cert.Attention.nD Cert.Attention.τ).loc Cert.Attention.main_arg13) = m ((c.tc : Thread Cert.Attention.nD Cert.Attention.τ).loc Cert.Attention.main_arg13)
      ∧ r.2.mem ((c.tc : Thread Cert.Attention.nD Cert.Attention.τ).loc Cert.Attention.main_arg14) = m ((c.tc : Thread Cert.Attention.nD Cert.Attention.τ).loc Cert.Attention.main_arg14)
      ∧ r.2.mem ((c.tc : Thread Cert.Attention.nD Cert.Attention.τ).loc Cert.Attention.main_arg15) = m ((c.tc : Thread Cert.Attention.nD Cert.Attention.τ).loc Cert.Attention.main_arg15)
      ∧ r.2.mem ((c.tc : Thread Cert.Attention.nD Cert.Attention.τ).loc Cert.Attention.main_arg16) = m ((c.tc : Thread Cert.Attention.nD Cert.Attention.τ).loc Cert.Attention.main_arg16))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
      ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
      ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
      ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
      ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16))
      ∧ r.2.sem = fun _ => 0)

def quiescent_AttentionIdeal_pre_gate_finite [hAttentionIdeal : Cert.AttentionIdeal.Facts] [hPre_gate_finite : Cert.Pre_gate_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_gate_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
      ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
      ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
      ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
      ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8)
      ∧ r.2.mem ((c.tc : Thread Cert.AttentionRefIdeal.nD Cert.AttentionRefIdeal.τ).loc Cert.AttentionRefIdeal.main_arg9) = m ((c.tc : Thread Cert.AttentionRefIdeal.nD Cert.AttentionRefIdeal.τ).loc Cert.AttentionRefIdeal.main_arg9)
      ∧ r.2.mem ((c.tc : Thread Cert.AttentionRefIdeal.nD Cert.AttentionRefIdeal.τ).loc Cert.AttentionRefIdeal.main_arg10) = m ((c.tc : Thread Cert.AttentionRefIdeal.nD Cert.AttentionRefIdeal.τ).loc Cert.AttentionRefIdeal.main_arg10)
      ∧ r.2.mem ((c.tc : Thread Cert.AttentionRefIdeal.nD Cert.AttentionRefIdeal.τ).loc Cert.AttentionRefIdeal.main_arg11) = m ((c.tc : Thread Cert.AttentionRefIdeal.nD Cert.AttentionRefIdeal.τ).loc Cert.AttentionRefIdeal.main_arg11)
      ∧ r.2.mem ((c.tc : Thread Cert.AttentionRefIdeal.nD Cert.AttentionRefIdeal.τ).loc Cert.AttentionRefIdeal.main_arg12) = m ((c.tc : Thread Cert.AttentionRefIdeal.nD Cert.AttentionRefIdeal.τ).loc Cert.AttentionRefIdeal.main_arg12)
      ∧ r.2.mem ((c.tc : Thread Cert.AttentionRefIdeal.nD Cert.AttentionRefIdeal.τ).loc Cert.AttentionRefIdeal.main_arg13) = m ((c.tc : Thread Cert.AttentionRefIdeal.nD Cert.AttentionRefIdeal.τ).loc Cert.AttentionRefIdeal.main_arg13)
      ∧ r.2.mem ((c.tc : Thread Cert.AttentionRefIdeal.nD Cert.AttentionRefIdeal.τ).loc Cert.AttentionRefIdeal.main_arg14) = m ((c.tc : Thread Cert.AttentionRefIdeal.nD Cert.AttentionRefIdeal.τ).loc Cert.AttentionRefIdeal.main_arg14)
      ∧ r.2.mem ((c.tc : Thread Cert.AttentionRefIdeal.nD Cert.AttentionRefIdeal.τ).loc Cert.AttentionRefIdeal.main_arg15) = m ((c.tc : Thread Cert.AttentionRefIdeal.nD Cert.AttentionRefIdeal.τ).loc Cert.AttentionRefIdeal.main_arg15)
      ∧ r.2.mem ((c.tc : Thread Cert.AttentionRefIdeal.nD Cert.AttentionRefIdeal.τ).loc Cert.AttentionRefIdeal.main_arg16) = m ((c.tc : Thread Cert.AttentionRefIdeal.nD Cert.AttentionRefIdeal.τ).loc Cert.AttentionRefIdeal.main_arg16))
      ∧ r.2.sem = fun _ => 0)

def quiescent_AttentionRefIdeal_pre_gate_finite [hAttentionRefIdeal : Cert.AttentionRefIdeal.Facts] [hPre_gate_finite : Cert.Pre_gate_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_gate_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8)
      ∧ r.2.mem ((c.tc : Thread Cert.AttentionRefIdeal.nD Cert.AttentionRefIdeal.τ).loc Cert.AttentionRefIdeal.main_arg9) = m ((c.tc : Thread Cert.AttentionRefIdeal.nD Cert.AttentionRefIdeal.τ).loc Cert.AttentionRefIdeal.main_arg9)
      ∧ r.2.mem ((c.tc : Thread Cert.AttentionRefIdeal.nD Cert.AttentionRefIdeal.τ).loc Cert.AttentionRefIdeal.main_arg10) = m ((c.tc : Thread Cert.AttentionRefIdeal.nD Cert.AttentionRefIdeal.τ).loc Cert.AttentionRefIdeal.main_arg10)
      ∧ r.2.mem ((c.tc : Thread Cert.AttentionRefIdeal.nD Cert.AttentionRefIdeal.τ).loc Cert.AttentionRefIdeal.main_arg11) = m ((c.tc : Thread Cert.AttentionRefIdeal.nD Cert.AttentionRefIdeal.τ).loc Cert.AttentionRefIdeal.main_arg11)
      ∧ r.2.mem ((c.tc : Thread Cert.AttentionRefIdeal.nD Cert.AttentionRefIdeal.τ).loc Cert.AttentionRefIdeal.main_arg12) = m ((c.tc : Thread Cert.AttentionRefIdeal.nD Cert.AttentionRefIdeal.τ).loc Cert.AttentionRefIdeal.main_arg12)
      ∧ r.2.mem ((c.tc : Thread Cert.AttentionRefIdeal.nD Cert.AttentionRefIdeal.τ).loc Cert.AttentionRefIdeal.main_arg13) = m ((c.tc : Thread Cert.AttentionRefIdeal.nD Cert.AttentionRefIdeal.τ).loc Cert.AttentionRefIdeal.main_arg13)
      ∧ r.2.mem ((c.tc : Thread Cert.AttentionRefIdeal.nD Cert.AttentionRefIdeal.τ).loc Cert.AttentionRefIdeal.main_arg14) = m ((c.tc : Thread Cert.AttentionRefIdeal.nD Cert.AttentionRefIdeal.τ).loc Cert.AttentionRefIdeal.main_arg14)
      ∧ r.2.mem ((c.tc : Thread Cert.AttentionRefIdeal.nD Cert.AttentionRefIdeal.τ).loc Cert.AttentionRefIdeal.main_arg15) = m ((c.tc : Thread Cert.AttentionRefIdeal.nD Cert.AttentionRefIdeal.τ).loc Cert.AttentionRefIdeal.main_arg15)
      ∧ r.2.mem ((c.tc : Thread Cert.AttentionRefIdeal.nD Cert.AttentionRefIdeal.τ).loc Cert.AttentionRefIdeal.main_arg16) = m ((c.tc : Thread Cert.AttentionRefIdeal.nD Cert.AttentionRefIdeal.τ).loc Cert.AttentionRefIdeal.main_arg16))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9)
      ∧ r.2.mem ((c.tc : Thread Cert.Loss.nD Cert.Loss.τ).loc Cert.Loss.main_arg10) = m ((c.tc : Thread Cert.Loss.nD Cert.Loss.τ).loc Cert.Loss.main_arg10))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)) (v6 : (c : Dev Cert.KernelIdeal.nD) → Buf (Elt Ideal) ((c.tc : Thread Cert.KernelIdeal.nD Cert.KernelIdeal.τ).loc Cert.KernelIdeal.main_v24_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_v24_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_v97) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_First_FirstIdeal : Prop :=
  True

def algebraic_FirstIdeal_FirstRefIdeal_pre_finite1 [hFirstIdeal : Cert.FirstIdeal.Facts] [hFirstRefIdeal : Cert.FirstRefIdeal.Facts] [hPre_finite1 : Cert.Pre_finite1.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_finite1 m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v25_0)) (v1 : (c : Dev Cert.FirstIdeal.nD) → Buf (Elt Ideal) ((c.tc : Thread Cert.FirstIdeal.nD Cert.FirstIdeal.τ).loc Cert.FirstIdeal.main_v25_1)) (v2 : (c : Dev Cert.FirstIdeal.nD) → Buf (Elt Ideal) ((c.tc : Thread Cert.FirstIdeal.nD Cert.FirstIdeal.τ).loc Cert.FirstIdeal.main_v25_2)) (v3 : (c : Dev Cert.FirstIdeal.nD) → Buf (Elt Ideal) ((c.tc : Thread Cert.FirstIdeal.nD Cert.FirstIdeal.τ).loc Cert.FirstIdeal.main_v25_3)) (v4 : (c : Dev Cert.FirstIdeal.nD) → Buf (Elt Ideal) ((c.tc : Thread Cert.FirstIdeal.nD Cert.FirstIdeal.τ).loc Cert.FirstIdeal.main_v25_4)) (v5 : (c : Dev Cert.FirstIdeal.nD) → Buf (Elt Ideal) ((c.tc : Thread Cert.FirstIdeal.nD Cert.FirstIdeal.τ).loc Cert.FirstIdeal.main_v25_5)) (v6 : (c : Dev Cert.FirstIdeal.nD) → Buf (Elt Ideal) ((c.tc : Thread Cert.FirstIdeal.nD Cert.FirstIdeal.τ).loc Cert.FirstIdeal.main_v25_6)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v25_0) = v0 c
          ∧ r.2.mem ((c.tc : Thread Cert.FirstIdeal.nD Cert.FirstIdeal.τ).loc Cert.FirstIdeal.main_v25_1) = v1 c
          ∧ r.2.mem ((c.tc : Thread Cert.FirstIdeal.nD Cert.FirstIdeal.τ).loc Cert.FirstIdeal.main_v25_2) = v2 c
          ∧ r.2.mem ((c.tc : Thread Cert.FirstIdeal.nD Cert.FirstIdeal.τ).loc Cert.FirstIdeal.main_v25_3) = v3 c
          ∧ r.2.mem ((c.tc : Thread Cert.FirstIdeal.nD Cert.FirstIdeal.τ).loc Cert.FirstIdeal.main_v25_4) = v4 c
          ∧ r.2.mem ((c.tc : Thread Cert.FirstIdeal.nD Cert.FirstIdeal.τ).loc Cert.FirstIdeal.main_v25_5) = v5 c
          ∧ r.2.mem ((c.tc : Thread Cert.FirstIdeal.nD Cert.FirstIdeal.τ).loc Cert.FirstIdeal.main_v25_6) = v6 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v93) = v0 c
          ∧ r.2.mem ((c.tc : Thread Cert.FirstRefIdeal.nD Cert.FirstRefIdeal.τ).loc Cert.FirstRefIdeal.main_v94) = v1 c
          ∧ r.2.mem ((c.tc : Thread Cert.FirstRefIdeal.nD Cert.FirstRefIdeal.τ).loc Cert.FirstRefIdeal.main_v95) = v2 c
          ∧ r.2.mem ((c.tc : Thread Cert.FirstRefIdeal.nD Cert.FirstRefIdeal.τ).loc Cert.FirstRefIdeal.main_v96) = v3 c
          ∧ r.2.mem ((c.tc : Thread Cert.FirstRefIdeal.nD Cert.FirstRefIdeal.τ).loc Cert.FirstRefIdeal.main_v97) = v4 c
          ∧ r.2.mem ((c.tc : Thread Cert.FirstRefIdeal.nD Cert.FirstRefIdeal.τ).loc Cert.FirstRefIdeal.main_v98) = v5 c
          ∧ r.2.mem ((c.tc : Thread Cert.FirstRefIdeal.nD Cert.FirstRefIdeal.τ).loc Cert.FirstRefIdeal.main_v99) = v6 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7))

def preserves_Attention_AttentionIdeal : Prop :=
  True

def algebraic_AttentionIdeal_AttentionRefIdeal_pre_gate_finite [hAttentionIdeal : Cert.AttentionIdeal.Facts] [hAttentionRefIdeal : Cert.AttentionRefIdeal.Facts] [hPre_gate_finite : Cert.Pre_gate_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_gate_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)
      ∧ m' ((c.tc : Thread Cert.AttentionRefIdeal.nD Cert.AttentionRefIdeal.τ).loc Cert.AttentionRefIdeal.main_arg8) = m ((c.tc : Thread Cert.AttentionIdeal.nD Cert.AttentionIdeal.τ).loc Cert.AttentionIdeal.main_arg8)
      ∧ m' ((c.tc : Thread Cert.AttentionRefIdeal.nD Cert.AttentionRefIdeal.τ).loc Cert.AttentionRefIdeal.main_arg9) = m ((c.tc : Thread Cert.AttentionIdeal.nD Cert.AttentionIdeal.τ).loc Cert.AttentionIdeal.main_arg9)
      ∧ m' ((c.tc : Thread Cert.AttentionRefIdeal.nD Cert.AttentionRefIdeal.τ).loc Cert.AttentionRefIdeal.main_arg10) = m ((c.tc : Thread Cert.AttentionIdeal.nD Cert.AttentionIdeal.τ).loc Cert.AttentionIdeal.main_arg10)
      ∧ m' ((c.tc : Thread Cert.AttentionRefIdeal.nD Cert.AttentionRefIdeal.τ).loc Cert.AttentionRefIdeal.main_arg11) = m ((c.tc : Thread Cert.AttentionIdeal.nD Cert.AttentionIdeal.τ).loc Cert.AttentionIdeal.main_arg11)
      ∧ m' ((c.tc : Thread Cert.AttentionRefIdeal.nD Cert.AttentionRefIdeal.τ).loc Cert.AttentionRefIdeal.main_arg12) = m ((c.tc : Thread Cert.AttentionIdeal.nD Cert.AttentionIdeal.τ).loc Cert.AttentionIdeal.main_arg12)
      ∧ m' ((c.tc : Thread Cert.AttentionRefIdeal.nD Cert.AttentionRefIdeal.τ).loc Cert.AttentionRefIdeal.main_arg13) = m ((c.tc : Thread Cert.AttentionIdeal.nD Cert.AttentionIdeal.τ).loc Cert.AttentionIdeal.main_arg13)
      ∧ m' ((c.tc : Thread Cert.AttentionRefIdeal.nD Cert.AttentionRefIdeal.τ).loc Cert.AttentionRefIdeal.main_arg14) = m ((c.tc : Thread Cert.AttentionIdeal.nD Cert.AttentionIdeal.τ).loc Cert.AttentionIdeal.main_arg14)
      ∧ m' ((c.tc : Thread Cert.AttentionRefIdeal.nD Cert.AttentionRefIdeal.τ).loc Cert.AttentionRefIdeal.main_arg15) = m ((c.tc : Thread Cert.AttentionIdeal.nD Cert.AttentionIdeal.τ).loc Cert.AttentionIdeal.main_arg15)
      ∧ m' ((c.tc : Thread Cert.AttentionRefIdeal.nD Cert.AttentionRefIdeal.τ).loc Cert.AttentionRefIdeal.main_arg16) = m ((c.tc : Thread Cert.AttentionIdeal.nD Cert.AttentionIdeal.τ).loc Cert.AttentionIdeal.main_arg16)) →
    ∃ (v0 : (c : Dev Cert.AttentionIdeal.nD) → Buf (Elt Ideal) ((c.tc : Thread Cert.AttentionIdeal.nD Cert.AttentionIdeal.τ).loc Cert.AttentionIdeal.main_v0_3)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_3) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
          ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
          ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
          ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
          ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
          ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
          ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v21) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7)
          ∧ r.2.mem ((c.tc : Thread Cert.AttentionRefIdeal.nD Cert.AttentionRefIdeal.τ).loc Cert.AttentionRefIdeal.main_arg8) = m' ((c.tc : Thread Cert.AttentionRefIdeal.nD Cert.AttentionRefIdeal.τ).loc Cert.AttentionRefIdeal.main_arg8)
          ∧ r.2.mem ((c.tc : Thread Cert.AttentionRefIdeal.nD Cert.AttentionRefIdeal.τ).loc Cert.AttentionRefIdeal.main_arg9) = m' ((c.tc : Thread Cert.AttentionRefIdeal.nD Cert.AttentionRefIdeal.τ).loc Cert.AttentionRefIdeal.main_arg9)
          ∧ r.2.mem ((c.tc : Thread Cert.AttentionRefIdeal.nD Cert.AttentionRefIdeal.τ).loc Cert.AttentionRefIdeal.main_arg10) = m' ((c.tc : Thread Cert.AttentionRefIdeal.nD Cert.AttentionRefIdeal.τ).loc Cert.AttentionRefIdeal.main_arg10)
          ∧ r.2.mem ((c.tc : Thread Cert.AttentionRefIdeal.nD Cert.AttentionRefIdeal.τ).loc Cert.AttentionRefIdeal.main_arg11) = m' ((c.tc : Thread Cert.AttentionRefIdeal.nD Cert.AttentionRefIdeal.τ).loc Cert.AttentionRefIdeal.main_arg11)
          ∧ r.2.mem ((c.tc : Thread Cert.AttentionRefIdeal.nD Cert.AttentionRefIdeal.τ).loc Cert.AttentionRefIdeal.main_arg12) = m' ((c.tc : Thread Cert.AttentionRefIdeal.nD Cert.AttentionRefIdeal.τ).loc Cert.AttentionRefIdeal.main_arg12)
          ∧ r.2.mem ((c.tc : Thread Cert.AttentionRefIdeal.nD Cert.AttentionRefIdeal.τ).loc Cert.AttentionRefIdeal.main_arg13) = m' ((c.tc : Thread Cert.AttentionRefIdeal.nD Cert.AttentionRefIdeal.τ).loc Cert.AttentionRefIdeal.main_arg13)
          ∧ r.2.mem ((c.tc : Thread Cert.AttentionRefIdeal.nD Cert.AttentionRefIdeal.τ).loc Cert.AttentionRefIdeal.main_arg14) = m' ((c.tc : Thread Cert.AttentionRefIdeal.nD Cert.AttentionRefIdeal.τ).loc Cert.AttentionRefIdeal.main_arg14)
          ∧ r.2.mem ((c.tc : Thread Cert.AttentionRefIdeal.nD Cert.AttentionRefIdeal.τ).loc Cert.AttentionRefIdeal.main_arg15) = m' ((c.tc : Thread Cert.AttentionRefIdeal.nD Cert.AttentionRefIdeal.τ).loc Cert.AttentionRefIdeal.main_arg15)
          ∧ r.2.mem ((c.tc : Thread Cert.AttentionRefIdeal.nD Cert.AttentionRefIdeal.τ).loc Cert.AttentionRefIdeal.main_arg16) = m' ((c.tc : Thread Cert.AttentionRefIdeal.nD Cert.AttentionRefIdeal.τ).loc Cert.AttentionRefIdeal.main_arg16))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)) →
    ∃ (v0 : (c : Dev Cert.ForwardIdeal.nD) → Buf (Elt Ideal) ((c.tc : Thread Cert.ForwardIdeal.nD Cert.ForwardIdeal.τ).loc Cert.ForwardIdeal.main_v5_0)) (v1 : (c : Dev Cert.ForwardIdeal.nD) → Buf (Elt Ideal) ((c.tc : Thread Cert.ForwardIdeal.nD Cert.ForwardIdeal.τ).loc Cert.ForwardIdeal.main_v5_1)) (v2 : (c : Dev Cert.ForwardIdeal.nD) → Buf (Elt Ideal) ((c.tc : Thread Cert.ForwardIdeal.nD Cert.ForwardIdeal.τ).loc Cert.ForwardIdeal.main_v5_2)) (v3 : (c : Dev Cert.ForwardIdeal.nD) → Buf (Elt Ideal) ((c.tc : Thread Cert.ForwardIdeal.nD Cert.ForwardIdeal.τ).loc Cert.ForwardIdeal.main_v5_3)) (v4 : (c : Dev Cert.ForwardIdeal.nD) → Buf (Elt Ideal) ((c.tc : Thread Cert.ForwardIdeal.nD Cert.ForwardIdeal.τ).loc Cert.ForwardIdeal.main_v5_4)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v5_0) = v0 c
          ∧ r.2.mem ((c.tc : Thread Cert.ForwardIdeal.nD Cert.ForwardIdeal.τ).loc Cert.ForwardIdeal.main_v5_1) = v1 c
          ∧ r.2.mem ((c.tc : Thread Cert.ForwardIdeal.nD Cert.ForwardIdeal.τ).loc Cert.ForwardIdeal.main_v5_2) = v2 c
          ∧ r.2.mem ((c.tc : Thread Cert.ForwardIdeal.nD Cert.ForwardIdeal.τ).loc Cert.ForwardIdeal.main_v5_3) = v3 c
          ∧ r.2.mem ((c.tc : Thread Cert.ForwardIdeal.nD Cert.ForwardIdeal.τ).loc Cert.ForwardIdeal.main_v5_4) = v4 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v32) = v0 c
          ∧ r.2.mem ((c.tc : Thread Cert.ForwardRefIdeal.nD Cert.ForwardRefIdeal.τ).loc Cert.ForwardRefIdeal.main_v33) = v1 c
          ∧ r.2.mem ((c.tc : Thread Cert.ForwardRefIdeal.nD Cert.ForwardRefIdeal.τ).loc Cert.ForwardRefIdeal.main_v34) = v2 c
          ∧ r.2.mem ((c.tc : Thread Cert.ForwardRefIdeal.nD Cert.ForwardRefIdeal.τ).loc Cert.ForwardRefIdeal.main_v35) = v3 c
          ∧ r.2.mem ((c.tc : Thread Cert.ForwardRefIdeal.nD Cert.ForwardRefIdeal.τ).loc Cert.ForwardRefIdeal.main_v17) = v4 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)
      ∧ m' ((c.tc : Thread Cert.LossRefIdeal.nD Cert.LossRefIdeal.τ).loc Cert.LossRefIdeal.main_arg9) = m ((c.tc : Thread Cert.LossIdeal.nD Cert.LossIdeal.τ).loc Cert.LossIdeal.main_arg9)
      ∧ m' ((c.tc : Thread Cert.LossRefIdeal.nD Cert.LossRefIdeal.τ).loc Cert.LossRefIdeal.main_arg10) = m ((c.tc : Thread Cert.LossIdeal.nD Cert.LossIdeal.τ).loc Cert.LossIdeal.main_arg10)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)) (v5 : (c : Dev Cert.LossIdeal.nD) → Buf (Elt Ideal) ((c.tc : Thread Cert.LossIdeal.nD Cert.LossIdeal.τ).loc Cert.LossIdeal.main_v6_5)) (v6 : (c : Dev Cert.LossIdeal.nD) → Buf (Elt Ideal) ((c.tc : Thread Cert.LossIdeal.nD Cert.LossIdeal.τ).loc Cert.LossIdeal.main_v6_6)) (v7 : (c : Dev Cert.LossIdeal.nD) → Buf (Elt Ideal) ((c.tc : Thread Cert.LossIdeal.nD Cert.LossIdeal.τ).loc Cert.LossIdeal.main_v6_7)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_v6_5) = v5 c
          ∧ r.2.mem ((c.tc : Thread Cert.LossIdeal.nD Cert.LossIdeal.τ).loc Cert.LossIdeal.main_v6_6) = v6 c
          ∧ r.2.mem ((c.tc : Thread Cert.LossIdeal.nD Cert.LossIdeal.τ).loc Cert.LossIdeal.main_v6_7) = v7 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
          ∧ r.2.mem ((c.tc : Thread Cert.LossIdeal.nD Cert.LossIdeal.τ).loc Cert.LossIdeal.main_arg10) = m ((c.tc : Thread Cert.LossIdeal.nD Cert.LossIdeal.τ).loc Cert.LossIdeal.main_arg10))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v2) = v1 c
          ∧ r.2.mem ((c.tc : Thread Cert.LossRefIdeal.nD Cert.LossRefIdeal.τ).loc Cert.LossRefIdeal.main_v65) = v2 c
          ∧ r.2.mem ((c.tc : Thread Cert.LossRefIdeal.nD Cert.LossRefIdeal.τ).loc Cert.LossRefIdeal.main_v66) = v3 c
          ∧ r.2.mem ((c.tc : Thread Cert.LossRefIdeal.nD Cert.LossRefIdeal.τ).loc Cert.LossRefIdeal.main_v67) = v4 c
          ∧ r.2.mem ((c.tc : Thread Cert.LossRefIdeal.nD Cert.LossRefIdeal.τ).loc Cert.LossRefIdeal.main_v32) = v5 c
          ∧ r.2.mem ((c.tc : Thread Cert.LossRefIdeal.nD Cert.LossRefIdeal.τ).loc Cert.LossRefIdeal.main_v64) = v6 c
          ∧ r.2.mem ((c.tc : Thread Cert.LossRefIdeal.nD Cert.LossRefIdeal.τ).loc Cert.LossRefIdeal.main_v68) = v7 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)) (v3 : (c : Dev Cert.MixIdeal.nD) → Buf (Elt Ideal) ((c.tc : Thread Cert.MixIdeal.nD Cert.MixIdeal.τ).loc Cert.MixIdeal.main_v2_3)) (v4 : (c : Dev Cert.MixIdeal.nD) → Buf (Elt Ideal) ((c.tc : Thread Cert.MixIdeal.nD Cert.MixIdeal.τ).loc Cert.MixIdeal.main_v2_6)) (v5 : (c : Dev Cert.MixIdeal.nD) → Buf (Elt Ideal) ((c.tc : Thread Cert.MixIdeal.nD Cert.MixIdeal.τ).loc Cert.MixIdeal.main_v2_7)) (v6 : (c : Dev Cert.MixIdeal.nD) → Buf (Elt Ideal) ((c.tc : Thread Cert.MixIdeal.nD Cert.MixIdeal.τ).loc Cert.MixIdeal.main_v2_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_v2_3) = v3 c
          ∧ r.2.mem ((c.tc : Thread Cert.MixIdeal.nD Cert.MixIdeal.τ).loc Cert.MixIdeal.main_v2_6) = v4 c
          ∧ r.2.mem ((c.tc : Thread Cert.MixIdeal.nD Cert.MixIdeal.τ).loc Cert.MixIdeal.main_v2_7) = v5 c
          ∧ r.2.mem ((c.tc : Thread Cert.MixIdeal.nD Cert.MixIdeal.τ).loc Cert.MixIdeal.main_v2_10) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v13) = v0 c
          ∧ r.2.mem ((c.tc : Thread Cert.MixRefIdeal.nD Cert.MixRefIdeal.τ).loc Cert.MixRefIdeal.main_v14) = v1 c
          ∧ r.2.mem ((c.tc : Thread Cert.MixRefIdeal.nD Cert.MixRefIdeal.τ).loc Cert.MixRefIdeal.main_v21) = v2 c
          ∧ r.2.mem ((c.tc : Thread Cert.MixRefIdeal.nD Cert.MixRefIdeal.τ).loc Cert.MixRefIdeal.main_v16) = v3 c
          ∧ r.2.mem ((c.tc : Thread Cert.MixRefIdeal.nD Cert.MixRefIdeal.τ).loc Cert.MixRefIdeal.main_v22) = v4 c
          ∧ r.2.mem ((c.tc : Thread Cert.MixRefIdeal.nD Cert.MixRefIdeal.τ).loc Cert.MixRefIdeal.main_v20) = v5 c
          ∧ r.2.mem ((c.tc : Thread Cert.MixRefIdeal.nD Cert.MixRefIdeal.τ).loc Cert.MixRefIdeal.main_v23) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstRefIdeal : Cert.FirstRefIdeal.Facts) (hAttention : Cert.Attention.Facts) (hAttentionIdeal : Cert.AttentionIdeal.Facts) (hAttentionRefIdeal : Cert.AttentionRefIdeal.Facts) (hForward : Cert.Forward.Facts) (hForwardIdeal : Cert.ForwardIdeal.Facts) (hForwardRefIdeal : Cert.ForwardRefIdeal.Facts) (hLoss : Cert.Loss.Facts) (hLossIdeal : Cert.LossIdeal.Facts) (hLossRefIdeal : Cert.LossRefIdeal.Facts) (hMix : Cert.Mix.Facts) (hMixIdeal : Cert.MixIdeal.Facts) (hMixRefIdeal : Cert.MixRefIdeal.Facts) (hPre_finite : Cert.Pre_finite.Facts) (hPre_finite1 : Cert.Pre_finite1.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_First (hFirst := hFirst)
    ∧ quiescent_FirstIdeal (hFirstIdeal := hFirstIdeal)
    ∧ quiescent_FirstIdeal_pre_finite1 (hFirstIdeal := hFirstIdeal) (hPre_finite1 := hPre_finite1)
    ∧ quiescent_FirstRefIdeal (hFirstRefIdeal := hFirstRefIdeal)
    ∧ quiescent_FirstRefIdeal_pre_finite1 (hFirstRefIdeal := hFirstRefIdeal) (hPre_finite1 := hPre_finite1)
    ∧ quiescent_Attention (hAttention := hAttention)
    ∧ quiescent_AttentionIdeal (hAttentionIdeal := hAttentionIdeal)
    ∧ quiescent_AttentionIdeal_pre_gate_finite (hAttentionIdeal := hAttentionIdeal) (hPre_gate_finite := hPre_gate_finite)
    ∧ quiescent_AttentionRefIdeal (hAttentionRefIdeal := hAttentionRefIdeal)
    ∧ quiescent_AttentionRefIdeal_pre_gate_finite (hAttentionRefIdeal := hAttentionRefIdeal) (hPre_gate_finite := hPre_gate_finite)
    ∧ quiescent_Forward (hForward := hForward)
    ∧ quiescent_ForwardIdeal (hForwardIdeal := hForwardIdeal)
    ∧ quiescent_ForwardRefIdeal (hForwardRefIdeal := hForwardRefIdeal)
    ∧ quiescent_Loss (hLoss := hLoss)
    ∧ quiescent_LossIdeal (hLossIdeal := hLossIdeal)
    ∧ quiescent_LossRefIdeal (hLossRefIdeal := hLossRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_First_FirstIdeal
    ∧ algebraic_FirstIdeal_FirstRefIdeal_pre_finite1 (hFirstIdeal := hFirstIdeal) (hFirstRefIdeal := hFirstRefIdeal) (hPre_finite1 := hPre_finite1)
    ∧ preserves_Attention_AttentionIdeal
    ∧ algebraic_AttentionIdeal_AttentionRefIdeal_pre_gate_finite (hAttentionIdeal := hAttentionIdeal) (hAttentionRefIdeal := hAttentionRefIdeal) (hPre_gate_finite := hPre_gate_finite)
    ∧ preserves_Forward_ForwardIdeal
    ∧ algebraic_ForwardIdeal_ForwardRefIdeal (hForwardIdeal := hForwardIdeal) (hForwardRefIdeal := hForwardRefIdeal)
    ∧ preserves_Loss_LossIdeal
    ∧ algebraic_LossIdeal_LossRefIdeal (hLossIdeal := hLossIdeal) (hLossRefIdeal := hLossRefIdeal)
    ∧ preserves_Mix_MixIdeal
    ∧ algebraic_MixIdeal_MixRefIdeal (hMixIdeal := hMixIdeal) (hMixRefIdeal := hMixRefIdeal)
-- ==== Pre_finite.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_arg6 : FVec F S8320x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S8320x1024 .f32 := Host.absf main_arg6
  let main_cst_10 : FVec F S_ .f32 := constant S_ .f32 0x7F800000#32
  let main_v30 : FVec F S8320x1024 .f32 := broadcastInDim S8320x1024 ![] bcast_S_S8320x1024 main_cst_10
  let main_v31 : IVec S8320x1024 1 := cmpf .olt main_v29 main_v30
  let main_c_11 : IVec S_ 1 := constantI S_ 1 1#1
  let main_v32 : IVec S_ 1 := (fun x v => Host.reduce IntOp.andi x v reducesTo_S8320x1024_S_d0_1 h_S_) main_v31 main_c_11
  let main_v33 : IVec S_ 1 := andi main_v28 main_v32
  main_v33

def fn {F : FTy → Type} [FloatOps F] (main_arg0 : FVec F S8320x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite1.lean ====
abbrev S128x1024 : Shape := ⟨2, ![128, 1024]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8320x1024 : Shape := ⟨2, ![8320, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8320x1024 : S_.BroadcastsInDim S8320x1024 (![] : Fin 0 → Fin S8320x1024.rank)
  reducesTo_S8320x1024_S_d0_1 : S8320x1024.ReducesTo [0, 1] S_

variable [Facts]

def fn_part2 {F : FTy → Type} [FloatOps F] (main_arg7 : FVec F S8320x1024 .f32) (main_v33 : IVec S_ 1) : IVec S_ 1 :=
  let main_v34 : FVec F S8320x1024 .f32 := Host.absf main_arg7
  let main_cst_12 : FVec F S_ .f32 := constant S_ .f32 0x7F800000#32
  let main_v35 : FVec F S8320x1024 .f32 := broadcastInDim S8320x1024 ![] bcast_S_S8320x1024 main_cst_12
  let main_v36 : IVec S8320x1024 1 := cmpf .olt main_v34 main_v35
  let main_c_13 : IVec S_ 1 := constantI S_ 1 1#1
  let main_v37 : IVec S_ 1 := (fun x v => Host.reduce IntOp.andi x v reducesTo_S8320x1024_S_d0_1 h_S_) main_v36 main_c_13
  let main_v38 : IVec S_ 1 := andi main_v33 main_v37
  main_v38

def fn_part1 {F : FTy → Type} [FloatOps F] (main_arg4 : FVec F S1024x2816 .f32) (main_arg5 : FVec F S2816x1024 .f32) (main_arg6 : FVec F S1x1024 .f32) (main_arg7 : FVec F S8320x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S128x1024 .f32) (main_arg1 : FVec F S8192x1024 .f32) (main_arg2 : FVec F S1x1024 .f32) (main_arg3 : FVec F S1024x2816 .f32) (main_arg4 : FVec F S1024x2816 .f32) (main_arg5 : FVec F S2816x1024 .f32) (main_arg6 : FVec F S1x1024 .f32) (main_arg7 : FVec F S8320x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_arg7 main_v13 main_v16
-- ==== Pre_gate_finite.lean ====
abbrev S8320x512 : Shape := ⟨2, ![8320, 512]⟩
abbrev S8320x256 : Shape := ⟨2, ![8320, 256]⟩
abbrev S65x2x128x128 : Shape := ⟨4, ![65, 2, 128, 128]⟩
abbrev S1x128 : Shape := ⟨2, ![1, 128]⟩
abbrev S8320x128 : Shape := ⟨2, ![8320, 128]⟩
abbrev S8320x8 : Shape := ⟨2, ![8320, 8]⟩
abbrev S1x8 : Shape := ⟨2, ![1, 8]⟩
abbrev S1x512 : Shape := ⟨2, ![1, 512]⟩
abbrev S_ : Shape := ⟨0, ![]⟩

class Facts : Prop where
  bcast_S_S8320x512 : S_.BroadcastsInDim S8320x512 (![] : Fin 0 → Fin S8320x512.rank)
  reducesTo_S8320x512_S_d0_1 : S8320x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S8320x512 .f32) (main_arg1 : FVec F S8320x512 .f32) (main_arg2 : FVec F S8320x256 .f32) (main_arg3 : FVec F S8320x256 .f32) (main_arg4 : FVec F S8320x512 .bf16) (main_arg5 : FVec F S8320x512 .f32) (main_arg6 : FVec F S8320x256 .f32) (main_arg7 : FVec F S65x2x128x128 .f32) (main_arg8 : FVec F S1x128 .f32) (main_arg9 : FVec F S8320x512 .f32) (main_arg10 : FVec F S8320x512 .f32) (main_arg11 : FVec F S8320x512 .bf16) (main_arg12 : FVec F S8320x128 .bf16) (main_arg13 : FVec F S8320x128 .bf16) (main_arg14 : FVec F S8320x8 .f32) (main_arg15 : FVec F S1x8 .f32) (main_arg16 : FVec F S1x512 .f32) : IVec S_ 1 :=
  let main_v0 : FVec F S8320x512 .f32 := Host.absf main_arg0
  let main_cst : FVec F S_ .f32 := constant S_ .f32 0x7F800000#32
  let main_v1 : FVec F S8320x512 .f32 := broadcastInDim S8320x512 ![] bcast_S_S8320x512 main_cst
  let main_v2 : IVec S8320x512 1 := cmpf .olt main_v0 main_v1
  let main_c : IVec S_ 1 := constantI S_ 1 1#1
  let main_v3 : IVec S_ 1 := (fun x v => Host.reduce IntOp.andi x v reducesTo_S8320x512_S_d0_1 h_S_) main_v2 main_c
  let main_v4 : FVec F S8320x512 .f32 := Host.absf main_arg1
  let main_cst_0 : FVec F S_ .f32 := constant S_ .f32 0x7F800000#32
  let main_v5 : FVec F S8320x512 .f32 := broadcastInDim S8320x512 ![] bcast_S_S8320x512 main_cst_0
  let main_v6 : IVec S8320x512 1 := cmpf .olt main_v4 main_v5
  let main_c_1 : IVec S_ 1 := constantI S_ 1 1#1
  let main_v7 : IVec S_ 1 := (fun x v => Host.reduce IntOp.andi x v reducesTo_S8320x512_S_d0_1 h_S_) main_v6 main_c_1
  let main_v8 : IVec S_ 1 := andi main_v3 main_v7
  let main_v9 : FVec F S8320x512 .f32 := Host.absf main_arg5
  let main_cst_2 : FVec F S_ .f32 := constant S_ .f32 0x7F800000#32
  let main_v10 : FVec F S8320x512 .f32 := broadcastInDim S8320x512 ![] bcast_S_S8320x512 main_cst_2
  let main_v11 : IVec S8320x512 1 := cmpf .olt main_v9 main_v10
  let main_c_3 : IVec S_ 1 := constantI S_ 1 1#1
  let main_v12 : IVec S_ 1 := (fun x v => Host.reduce IntOp.andi x v reducesTo_S8320x512_S_d0_1 h_S_) main_v11 main_c_3
  let main_v13 : IVec S_ 1 := andi main_v8 main_v12
  let main_v14 : FVec F S1x128 .f32 := Host.absf main_arg8
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S8x1024 : Shape := ⟨2, ![8, 1024]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1024 : Shape := ⟨1, ![1024]⟩

abbrev nBuf : Space → Nat
  | .hbm => 49
  | .vmem => 28
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x2816, .f32⟩
  | .hbm, ⟨23, _⟩ => ⟨S8320x2816, .f32⟩
  | .hbm, ⟨24, _⟩ => ⟨S8320x2816, .bf16⟩
  | .hbm, ⟨25, _⟩ => ⟨S8320x2816, .bf16⟩
  | .hbm, ⟨26, _⟩ => ⟨S8320x2816, .f32⟩
  | .hbm, ⟨27, _⟩ => ⟨S8320x2816, .f32⟩
  | .hbm, ⟨28, _⟩ => ⟨S_, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x2816, .f32⟩
  | .hbm, ⟨36, _⟩ => ⟨S8320x1024, .f32⟩
  | .hbm, ⟨37, _⟩ => ⟨S2816x1024, .f32⟩
  | .hbm, ⟨38, _⟩ => ⟨S2816x1024, .bf16⟩
  | .hbm, ⟨39, _⟩ => ⟨S2816x1024, .f32⟩
  | .hbm, ⟨40, _⟩ => ⟨S2816x1024, .bf16⟩
  | .hbm, ⟨41, _⟩ => ⟨S2816x1024, .bf16⟩
  | .hbm, ⟨42, _⟩ => ⟨S8320x1024, .f32⟩
  | .hbm, ⟨43, _⟩ => ⟨S8320x2816, .bf16⟩
  | .hbm, ⟨44, _⟩ => ⟨S8320x2816, .bf16⟩
  | .hbm, ⟨45, _⟩ => ⟨S8320x1024, .bf16⟩
  | .hbm, ⟨46, _⟩ => ⟨S8320x1024, .bf16⟩
  | .hbm, ⟨47, _⟩ => ⟨S8x1024, .f32⟩
  | .hbm, ⟨48, _⟩ => ⟨S8x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x2816, .bf16⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | .local _ .vmem, ⟨11, _⟩ => ⟨S1x1024, .f32⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S416x1024, .f32⟩
  | .local _ .vmem, ⟨16, _⟩ => ⟨S416x1024, .f32⟩
  | .local _ .vmem, ⟨17, _⟩ => ⟨S416x2816, .bf16⟩
  | .local _ .vmem, ⟨18, _⟩ => ⟨S416x2816, .bf16⟩
  | .local _ .vmem, ⟨19, _⟩ => ⟨S416x2816, .bf16⟩
  | .local _ .vmem, ⟨20, _⟩ => ⟨S416x2816, .bf16⟩
  | .local _ .vmem, ⟨21, _⟩ => ⟨S416x1024, .bf16⟩
  | .local _ .vmem, ⟨22, _⟩ => ⟨S416x1024, .bf16⟩
  | .local _ .vmem, ⟨23, _⟩ => ⟨S416x1024, .bf16⟩
  | .local _ .vmem, ⟨24, _⟩ => ⟨S416x1024, .bf16⟩
  | .local _ .vmem, ⟨25, _⟩ => ⟨S8x1024, .f32⟩
  | .local _ .vmem, ⟨26, _⟩ => ⟨S8x1024, .f32⟩
  | .local _ .vmem, ⟨27, _⟩ => ⟨S416x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S416x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320x2816 : Shape := ⟨2, ![8320, 2816]⟩
abbrev S8320 : Shape := ⟨1, ![8320]⟩
abbrev S8320x1 : Shape := ⟨2, ![8320, 1]⟩
abbrev S1024 : Shape := ⟨1, ![1024]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S8320x1024, .f32⟩
  | 1 => ⟨S1x1024, .f32⟩
  | 2 => ⟨S1024x2816, .f32⟩
  | 3 => ⟨S1024x2816, .f32⟩
  | 4 => ⟨S2816x1024, .f32⟩
  | 5 => ⟨S1x1024, .f32⟩
  | 6 => ⟨S8320x1024, .f32⟩
  | 7 => ⟨S_, .f32⟩
  | 8 => ⟨S8320x2816, .f32⟩
  | 9 => ⟨S_, .f32⟩
  | 10 => ⟨S8320x1024, .f32⟩
  | 11 => ⟨S8320x1024, .f32⟩
  | 12 => ⟨S_, .f32⟩
  | 13 => ⟨S8320, .f32⟩
  | 14 => ⟨S8320x1, .f32⟩
  | 15 => ⟨S_, .f32⟩
  | 16 => ⟨S8320x1, .f32⟩
  | 17 => ⟨S8320x1, .f32⟩
  | 18 => ⟨S_, .f32⟩
  | 19 => ⟨S8320x1, .f32⟩
  | 20 => ⟨S8320x1, .f32⟩
  | 21 => ⟨S8320x1, .f32⟩
  | 22 => ⟨S8320x1, .f32⟩
  | 23 => ⟨S_, .f32⟩
  | 24 => ⟨S8320x1, .f32⟩
  | 25 => ⟨S8320x1, .f32⟩
  | 26 => ⟨S8320x1024, .f32⟩
  | 27 => ⟨S8320x1024, .f32⟩
  | 28 => ⟨S8320x1024, .f32⟩
  | 29 => ⟨S8320x1024, .f32⟩
  | 30 => ⟨S8320x2816, .f32⟩
  | 31 => ⟨S8320x2816, .f32⟩
  | 32 => ⟨S8320x2816, .f32⟩
  | 33 => ⟨S8320x2816, .f32⟩
  | 34 => ⟨S_, .f32⟩
  | 35 => ⟨S8320x2816, .f32⟩
  | 36 => ⟨S8320x2816, .f32⟩
  | 37 => ⟨S_, .f32⟩
  | 38 => ⟨S8320x2816, .f32⟩
  | 39 => ⟨S8320x2816, .f32⟩
  | 40 => ⟨S_, .f32⟩
  | 41 => ⟨S8320x2816, .f32⟩
  | 42 => ⟨S8320x2816, .f32⟩
  | 43 => ⟨S8320x2816, .f32⟩
  | 44 => ⟨S8320x2816, .f32⟩
  | 45 => ⟨S8320x2816, .f32⟩
  | 46 => ⟨S8320x2816, .f32⟩
  | 47 => ⟨S8320x2816, .f32⟩
  | 48 => ⟨S8320x1024, .f32⟩
  | 49 => ⟨S8320x1024, .f32⟩
  | 50 => ⟨S8320x1024, .f32⟩
  | 51 => ⟨S_, .f32⟩
  | 52 => ⟨S8320, .f32⟩
  | 53 => ⟨S8320x1, .f32⟩
  | 54 => ⟨S_, .f32⟩
  | 55 => ⟨S8320x1, .f32⟩
  | 56 => ⟨S8320x1, .f32⟩
  | 57 => ⟨S_, .f32⟩
  | 58 => ⟨S8320x1, .f32⟩
  | 59 => ⟨S8320x1, .f32⟩
  | 60 => ⟨S8320x1, .f32⟩
  | 61 => ⟨S8320x1, .f32⟩
  | 62 => ⟨S_, .f32⟩
  | 63 => ⟨S8320x1, .f32⟩
  | 64 => ⟨S8320x1, .f32⟩
  | 65 => ⟨S8320x1024, .f32⟩
  | 66 => ⟨S8320x1024, .f32⟩
  | 67 => ⟨S8320x1024, .f32⟩
  | 68 => ⟨S8320x1024, .f32⟩
  | 69 => ⟨S_, .f32⟩
  | 70 => ⟨S8320x1024, .f32⟩
  | 71 => ⟨S8320x1024, .f32⟩
  | 72 => ⟨S8320x1024, .f32⟩
  | 73 => ⟨S8320x1024, .f32⟩
  | 74 => ⟨S_, .f32⟩
  | 75 => ⟨S8320x1024, .f32⟩
  | 76 => ⟨S8320x1024, .f32⟩
  | 77 => ⟨S8320x1024, .f32⟩
  | 78 => ⟨S_, .f32⟩
  | 79 => ⟨S1024, .f32⟩
  | 80 => ⟨S1x1024, .f32⟩
  | 81 => ⟨S8320x1024, .f32⟩
  | 82 => ⟨S8320x1024, .f32⟩
  | 83 => ⟨S8320x1024, .f32⟩
  | 84 => ⟨S_, .f32⟩
  | 85 => ⟨S8320, .f32⟩
  | 86 => ⟨S8320x1, .f32⟩
  | 87 => ⟨S8320x1024, .f32⟩
  | 88 => ⟨S8320x1024, .f32⟩
  | 89 => ⟨S8320x1, .f32⟩
  | 90 => ⟨S_, .f32⟩
  | 91 => ⟨S8320x1, .f32⟩
  | 92 => ⟨S8320x1, .f32⟩
  | 93 => ⟨S_, .f32⟩
  | 94 => ⟨S8320, .f32⟩
  | 95 => ⟨S8320x1024, .f32⟩
  | 96 => ⟨S8320x1024, .f32⟩
  | 97 => ⟨S8320x1024, .f32⟩
  | 98 => ⟨S8320x1024, .f32⟩
  | 99 => ⟨S8320x1024, .f32⟩
  | 100 => ⟨S8320x2816, .f32⟩
  | 101 => ⟨S8320x2816, .f32⟩
  | 102 => ⟨S8320x2816, .f32⟩
  | 103 => ⟨S8320x1024, .f32⟩
  | 104 => ⟨S8320x2816, .f32⟩
  | 105 => ⟨S8320x2816, .f32⟩
  | 106 => ⟨S8320x2816, .f32⟩
  | 107 => ⟨S8320x2816, .f32⟩
  | 108 => ⟨S8320x1024, .f32⟩
  | 109 => ⟨S8320x1024, .f32⟩
  | 110 => ⟨S8320x1024, .f32⟩
  | 111 => ⟨S_, .f32⟩
  | 112 => ⟨S1024, .f32⟩
  | 113 => ⟨S1x1024, .f32⟩
  | 114 => ⟨S8320x1024, .f32⟩
  | 115 => ⟨S8320x1024, .f32⟩
  | 116 => ⟨S8320x1024, .f32⟩
  | 117 => ⟨S_, .f32⟩
  | 118 => ⟨S8320, .f32⟩
  | 119 => ⟨S8320x1, .f32⟩
  | 120 => ⟨S8320x1024, .f32⟩
  | 121 => ⟨S8320x1024, .f32⟩
  | 122 => ⟨S8320x1024, .f32⟩
  | 123 => ⟨S8320x1, .f32⟩
  | 124 => ⟨S_, .f32⟩
  | 125 => ⟨S8320x1, .f32⟩
  | 126 => ⟨S8320x1, .f32⟩
  | 127 => ⟨S_, .f32⟩
  | _ => ⟨S8320x1024, .f32⟩

abbrev hbmTy0_1 (i : Nat) : BufTy := match i % 128 with
  | 0 => ⟨S8320, .f32⟩
  | 1 => ⟨S8320x1024, .f32⟩
  | 2 => ⟨S8320x1024, .f32⟩
  | 3 => ⟨S8320x1024, .f32⟩
  | 4 => ⟨S8320x1024, .f32⟩
  | 5 => ⟨S8320x1024, .f32⟩
  | 6 => ⟨S8320x2816, .bf16⟩
  | 7 => ⟨S8320x2816, .bf16⟩
  | 8 => ⟨S8320x1024, .bf16⟩
  | 9 => ⟨S8320x1024, .bf16⟩
  | 10 => ⟨S_, .i32⟩
  | 11 => ⟨S_, .f32⟩
  | 12 => ⟨S8x1024, .f32⟩
  | 13 => ⟨S_, .i32⟩
  | 14 => ⟨S_, .f32⟩
  | 15 => ⟨S8x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v19_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v19_1 : Ref sig .tc := ⟨.hbm, 43, rfl⟩
abbrev main_v19_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c : Ref sig .tc := ⟨.hbm, 138, rfl⟩
abbrev main_call2_v0 : Ref sig .tc := ⟨.hbm, 139, rfl⟩
abbrev main_v96 : Ref sig .tc := ⟨.hbm, 140, rfl⟩
abbrev main_c_19 : Ref sig .tc := ⟨.hbm, 141, rfl⟩
abbrev main_call3_v0 : Ref sig .tc := ⟨.hbm, 142, rfl⟩
abbrev main_v97 : Ref sig .tc := ⟨.hbm, 143, rfl⟩

abbrev nD : Nat := 1
abbrev τ : Topo := Topo.v7x

variable {F : FTy → Type} [FloatOps F]
-- ==== First.lean ====
abbrev S128x1024 : Shape := ⟨2, ![128, 1024]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8320x1024 : Shape := ⟨2, ![8320, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S8x1024 : Shape := ⟨2, ![8, 1024]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1024 : Shape := ⟨1, ![1024]⟩
abbrev S288x1024 : Shape := ⟨2, ![288, 1024]⟩

abbrev nBuf : Space → Nat
  | .hbm => 51
  | .vmem => 29
  | .smem => 0
  | _ => 0

abbrev bufTy : (tb : Table) → Fin (tcTables nBuf tb) → BufTy
  | .hbm, ⟨0, _⟩ => ⟨S128x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x2816, .f32⟩
  | .hbm, ⟨25, _⟩ => ⟨S8320x2816, .f32⟩
  | .hbm, ⟨26, _⟩ => ⟨S8320x2816, .bf16⟩
  | .hbm, ⟨27, _⟩ => ⟨S8320x2816, .bf16⟩
  | .hbm, ⟨28, _⟩ => ⟨S8320x2816, .f32⟩
  | .hbm, ⟨29, _⟩ => ⟨S8320x2816, .f32⟩
  | .hbm, ⟨30, _⟩ => ⟨S_, .f32⟩
  | .hbm, ⟨31, _⟩ => ⟨S8320x2816, .f32⟩
  | .hbm, ⟨32, _⟩ => ⟨S8320x2816, .f32⟩
  | .hbm, ⟨33, _⟩ => ⟨S_, .f32⟩
  | .hbm, ⟨34, _⟩ => ⟨S8320x2816, .f32⟩
  | .hbm, ⟨35, _⟩ => ⟨S8320x2816, .f32⟩
  | .hbm, ⟨36, _⟩ => ⟨S8320x2816, .f32⟩
  | .hbm, ⟨37, _⟩ => ⟨S8320x2816, .f32⟩
  | .hbm, ⟨38, _⟩ => ⟨S8320x1024, .f32⟩
  | .hbm, ⟨39, _⟩ => ⟨S2816x1024, .f32⟩
  | .hbm, ⟨40, _⟩ => ⟨S2816x1024, .bf16⟩
  | .hbm, ⟨41, _⟩ => ⟨S2816x1024, .f32⟩
  | .hbm, ⟨42, _⟩ => ⟨S2816x1024, .bf16⟩
  | .hbm, ⟨43, _⟩ => ⟨S2816x1024, .bf16⟩
  | .hbm, ⟨44, _⟩ => ⟨S8320x1024, .f32⟩
  | .hbm, ⟨45, _⟩ => ⟨S8320x2816, .bf16⟩
  | .hbm, ⟨46, _⟩ => ⟨S8320x2816, .bf16⟩
  | .hbm, ⟨47, _⟩ => ⟨S8320x1024, .bf16⟩
  | .hbm, ⟨48, _⟩ => ⟨S8320x1024, .bf16⟩
  | .hbm, ⟨49, _⟩ => ⟨S8x1024, .f32⟩
  | .hbm, ⟨50, _⟩ => ⟨S8x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x2816, .bf16⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | .local _ .vmem, ⟨11, _⟩ => ⟨S1x1024, .f32⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S128x1024, .f32⟩
  | .local _ .vmem, ⟨16, _⟩ => ⟨S416x1024, .f32⟩
  | .local _ .vmem, ⟨17, _⟩ => ⟨S416x1024, .f32⟩
  | .local _ .vmem, ⟨18, _⟩ => ⟨S416x2816, .bf16⟩
  | .local _ .vmem, ⟨19, _⟩ => ⟨S416x2816, .bf16⟩
  | .local _ .vmem, ⟨20, _⟩ => ⟨S416x2816, .bf16⟩
  | .local _ .vmem, ⟨21, _⟩ => ⟨S416x2816, .bf16⟩
  | .local _ .vmem, ⟨22, _⟩ => ⟨S416x1024, .bf16⟩
  | .local _ .vmem, ⟨23, _⟩ => ⟨S416x1024, .bf16⟩
  | .local _ .vmem, ⟨24, _⟩ => ⟨S416x1024, .bf16⟩
  | .local _ .vmem, ⟨25, _⟩ => ⟨S416x1024, .bf16⟩
  | .local _ .vmem, ⟨26, _⟩ => ⟨S8x1024, .f32⟩
  | .local _ .vmem, ⟨27, _⟩ => ⟨S8x1024, .f32⟩
  | .local _ .vmem, ⟨28, _⟩ => ⟨S416x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev main_v25_4 : Ref sig .tc := ⟨.hbm, 48, rfl⟩
abbrev main_v25_5 : Ref sig .tc := ⟨.hbm, 49, rfl⟩
abbrev main_v25_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S416x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S416x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S416x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== FirstRefIdeal.lean ====
abbrev S128x1024 : Shape := ⟨2, ![128, 1024]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8320x1024 : Shape := ⟨2, ![8320, 1024]⟩
abbrev S_ : Shape := ⟨0, ![]⟩
abbrev S8320x2816 : Shape := ⟨2, ![8320, 2816]⟩
abbrev S8320 : Shape := ⟨1, ![8320]⟩
abbrev S8320x1 : Shape := ⟨2, ![8320, 1]⟩
abbrev S1024 : Shape := ⟨1, ![1024]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S128x1024, .f32⟩
  | 1 => ⟨S8192x1024, .f32⟩
  | 2 => ⟨S1x1024, .f32⟩
  | 3 => ⟨S1024x2816, .f32⟩
  | 4 => ⟨S1024x2816, .f32⟩
  | 5 => ⟨S2816x1024, .f32⟩
  | 6 => ⟨S1x1024, .f32⟩
  | 7 => ⟨S8320x1024, .f32⟩
  | 8 => ⟨S8320x1024, .f32⟩
  | 9 => ⟨S_, .f32⟩
  | 10 => ⟨S8320x2816, .f32⟩
  | 11 => ⟨S_, .f32⟩
  | 12 => ⟨S8320x1024, .f32⟩
  | 13 => ⟨S8320x1024, .f32⟩
  | 14 => ⟨S_, .f32⟩
  | 15 => ⟨S8320, .f32⟩
  | 16 => ⟨S8320x1, .f32⟩
  | 17 => ⟨S_, .f32⟩
  | 18 => ⟨S8320x1, .f32⟩
  | 19 => ⟨S8320x1, .f32⟩
  | 20 => ⟨S_, .f32⟩
  | 21 => ⟨S8320x1, .f32⟩
  | 22 => ⟨S8320x1, .f32⟩
  | 23 => ⟨S8320x1, .f32⟩
  | 24 => ⟨S8320x1, .f32⟩
  | 25 => ⟨S_, .f32⟩
  | 26 => ⟨S8320x1, .f32⟩
  | 27 => ⟨S8320x1, .f32⟩
  | 28 => ⟨S8320x1024, .f32⟩
  | 29 => ⟨S8320x1024, .f32⟩
  | 30 => ⟨S8320x1024, .f32⟩
  | 31 => ⟨S8320x1024, .f32⟩
  | 32 => ⟨S8320x2816, .f32⟩
  | 33 => ⟨S8320x2816, .f32⟩
  | 34 => ⟨S8320x2816, .f32⟩
  | 35 => ⟨S8320x2816, .f32⟩
  | 36 => ⟨S_, .f32⟩
  | 37 => ⟨S8320x2816, .f32⟩
  | 38 => ⟨S8320x2816, .f32⟩
  | 39 => ⟨S_, .f32⟩
  | 40 => ⟨S8320x2816, .f32⟩
  | 41 => ⟨S8320x2816, .f32⟩
  | 42 => ⟨S_, .f32⟩
  | 43 => ⟨S8320x2816, .f32⟩
  | 44 => ⟨S8320x2816, .f32⟩
  | 45 => ⟨S8320x2816, .f32⟩
  | 46 => ⟨S8320x2816, .f32⟩
  | 47 => ⟨S8320x2816, .f32⟩
  | 48 => ⟨S8320x2816, .f32⟩
  | 49 => ⟨S8320x2816, .f32⟩
  | 50 => ⟨S8320x1024, .f32⟩
  | 51 => ⟨S8320x1024, .f32⟩
  | 52 => ⟨S8320x1024, .f32⟩
  | 53 => ⟨S_, .f32⟩
  | 54 => ⟨S8320, .f32⟩
  | 55 => ⟨S8320x1, .f32⟩
  | 56 => ⟨S_, .f32⟩
  | 57 => ⟨S8320x1, .f32⟩
  | 58 => ⟨S8320x1, .f32⟩
  | 59 => ⟨S_, .f32⟩
  | 60 => ⟨S8320x1, .f32⟩
  | 61 => ⟨S8320x1, .f32⟩
  | 62 => ⟨S8320x1, .f32⟩
  | 63 => ⟨S8320x1, .f32⟩
  | 64 => ⟨S_, .f32⟩
  | 65 => ⟨S8320x1, .f32⟩
  | 66 => ⟨S8320x1, .f32⟩
  | 67 => ⟨S8320x1024, .f32⟩
  | 68 => ⟨S8320x1024, .f32⟩
  | 69 => ⟨S8320x1024, .f32⟩
  | 70 => ⟨S8320x1024, .f32⟩
  | 71 => ⟨S_, .f32⟩
  | 72 => ⟨S8320x1024, .f32⟩
  | 73 => ⟨S8320x1024, .f32⟩
  | 74 => ⟨S8320x1024, .f32⟩
  | 75 => ⟨S8320x1024, .f32⟩
  | 76 => ⟨S8320x1024, .f32⟩
  | 77 => ⟨S_, .f32⟩
  | 78 => ⟨S8320x1024, .f32⟩
  | 79 => ⟨S8320x1024, .f32⟩
  | 80 => ⟨S8320x1024, .f32⟩
  | 81 => ⟨S_, .f32⟩
  | 82 => ⟨S1024, .f32⟩
  | 83 => ⟨S1x1024, .f32⟩
  | 84 => ⟨S8320x1024, .f32⟩
  | 85 => ⟨S8320x1024, .f32⟩
  | 86 => ⟨S8320x1024, .f32⟩
  | 87 => ⟨S_, .f32⟩
  | 88 => ⟨S8320, .f32⟩
  | 89 => ⟨S8320x1, .f32⟩
  | 90 => ⟨S8320x1024, .f32⟩
  | 91 => ⟨S8320x1024, .f32⟩
  | 92 => ⟨S8320x1, .f32⟩
  | 93 => ⟨S_, .f32⟩
  | 94 => ⟨S8320x1, .f32⟩
  | 95 => ⟨S8320x1, .f32⟩
  | 96 => ⟨S_, .f32⟩
  | 97 => ⟨S8320, .f32⟩
  | 98 => ⟨S8320x1024, .f32⟩
  | 99 => ⟨S8320x1024, .f32⟩
  | 100 => ⟨S8320x1024, .f32⟩
  | 101 => ⟨S8320x1024, .f32⟩
  | 102 => ⟨S8320x1024, .f32⟩
  | 103 => ⟨S8320x2816, .f32⟩
  | 104 => ⟨S8320x2816, .f32⟩
  | 105 => ⟨S8320x2816, .f32⟩
  | 106 => ⟨S8320x1024, .f32⟩
  | 107 => ⟨S8320x2816, .f32⟩
  | 108 => ⟨S8320x2816, .f32⟩
  | 109 => ⟨S8320x2816, .f32⟩
  | 110 => ⟨S8320x2816, .f32⟩
  | 111 => ⟨S8320x1024, .f32⟩
  | 112 => ⟨S8320x1024, .f32⟩
  | 113 => ⟨S8320x1024, .f32⟩
  | 114 => ⟨S_, .f32⟩
  | 115 => ⟨S1024, .f32⟩
  | 116 => ⟨S1x1024, .f32⟩
  | 117 => ⟨S8320x1024, .f32⟩
  | 118 => ⟨S8320x1024, .f32⟩
  | 119 => ⟨S8320x1024, .f32⟩
  | 120 => ⟨S_, .f32⟩
  | 121 => ⟨S8320, .f32⟩
  | 122 => ⟨S8320x1, .f32⟩
  | 123 => ⟨S8320x1024, .f32⟩
  | 124 => ⟨S8320x1024, .f32⟩
  | 125 => ⟨S8320x1024, .f32⟩
  | 126 => ⟨S8320x1, .f32⟩
  | 127 => ⟨S_, .f32⟩
  | _ => ⟨S128x1024, .f32⟩

abbrev hbmTy0_1 (i : Nat) : BufTy := match i % 128 with
  | 0 => ⟨S8320x1, .f32⟩
  | 1 => ⟨S8320x1, .f32⟩
  | 2 => ⟨S_, .f32⟩
  | 3 => ⟨S8320, .f32⟩
  | 4 => ⟨S8320x1024, .f32⟩
  | 5 => ⟨S8320x1024, .f32⟩
  | 6 => ⟨S8320x1024, .f32⟩
  | 7 => ⟨S8320x1024, .f32⟩
  | 8 => ⟨S8320x1024, .f32⟩
  | 9 => ⟨S8320x2816, .bf16⟩
  | 10 => ⟨S8320x2816, .bf16⟩
  | 11 => ⟨S8320x1024, .bf16⟩
  | 12 => ⟨S8320x1024, .bf16⟩
  | 13 => ⟨S_, .i32⟩
  | 14 => ⟨S_, .f32⟩
  | 15 => ⟨S8x1024, .f32⟩
  | 16 => ⟨S_, .i32⟩
  | 17 => ⟨S_, .f32⟩
  | 18 => ⟨S8x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v20_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v20_1 : Ref sig .tc := ⟨.hbm, 45, rfl⟩
abbrev main_v20_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c : Ref sig .tc := ⟨.hbm, 141, rfl⟩
abbrev main_call2_v0 : Ref sig .tc := ⟨.hbm, 142, rfl⟩
abbrev main_v98 : Ref sig .tc := ⟨.hbm, 143, rfl⟩
abbrev main_c_19 : Ref sig .tc := ⟨.hbm, 144, rfl⟩
abbrev main_call3_v0 : Ref sig .tc := ⟨.hbm, 145, rfl⟩
abbrev main_v99 : Ref sig .tc := ⟨.hbm, 146, rfl⟩

abbrev nD : Nat := 1
abbrev τ : Topo := Topo.v7x

variable {F : FTy → Type} [FloatOps F]
-- ==== Attention.lean ====
abbrev S8320x512 : Shape := ⟨2, ![8320, 512]⟩
abbrev S8320x256 : Shape := ⟨2, ![8320, 256]⟩
abbrev S65x2x128x128 : Shape := ⟨4, ![65, 2, 128, 128]⟩
abbrev S1x128 : Shape := ⟨2, ![1, 128]⟩
abbrev S8320x128 : Shape := ⟨2, ![8320, 128]⟩
abbrev S8320x8 : Shape := ⟨2, ![8320, 8]⟩
abbrev S1x8 : Shape := ⟨2, ![1, 8]⟩
abbrev S1x512 : Shape := ⟨2, ![1, 512]⟩
abbrev S8x128 : Shape := ⟨2, ![8, 128]⟩
abbrev S8x512 : Shape := ⟨2, ![8, 512]⟩
abbrev S640x512 : Shape := ⟨2, ![640, 512]⟩
abbrev S640x256 : Shape := ⟨2, ![640, 256]⟩
abbrev S5x2x128x128 : Shape := ⟨4, ![5, 2, 128, 128]⟩
abbrev S640x8 : Shape := ⟨2, ![640, 8]⟩
abbrev S2x128x128 : Shape := ⟨3, ![2, 128, 128]⟩
abbrev S128x512 : Shape := ⟨2, ![128, 512]⟩
abbrev S128x128 : Shape := ⟨2, ![128, 128]⟩
abbrev S128x1 : Shape := ⟨2, ![128, 1]⟩
abbrev S16x512 : Shape := ⟨2, ![16, 512]⟩
abbrev S1x1x128x128 : Shape := ⟨4, ![1, 1, 128, 128]⟩
abbrev S1x128x128 : Shape := ⟨3, ![1, 128, 128]⟩
abbrev S128 : Shape := ⟨1, ![128]⟩
abbrev S256x128 : Shape := ⟨2, ![256, 128]⟩
abbrev S512 : Shape := ⟨1, ![512]⟩
abbrev S256x1 : Shape := ⟨2, ![256, 1]⟩
abbrev S256x256 : Shape := ⟨2, ![256, 256]⟩
abbrev S1x1 : Shape := ⟨2, ![1, 1]⟩
abbrev S1x128x1 : Shape := ⟨3, ![1, 128, 1]⟩
abbrev S1 : Shape := ⟨1, ![1]⟩
abbrev S1x1x1 : Shape := ⟨3, ![1, 1, 1]⟩
abbrev S16x128 : Shape := ⟨2, ![16, 128]⟩

abbrev nBuf : Space → Nat
  | .hbm => 28
  | .vmem => 50
  | .smem => 1
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S8320x256, .f32⟩
  | .hbm, ⟨3, _⟩ => ⟨S8320x256, .f32⟩
  | .hbm, ⟨4, _⟩ => ⟨S8320x512, .bf16⟩
  | .hbm, ⟨5, _⟩ => ⟨S8320x512, .f32⟩
  | .hbm, ⟨6, _⟩ => ⟨S8320x256, .f32⟩
  | .hbm, ⟨7, _⟩ => ⟨S65x2x128x128, .f32⟩
  | .hbm, ⟨8, _⟩ => ⟨S1x128, .f32⟩
  | .hbm, ⟨9, _⟩ => ⟨S8320x512, .f32⟩
  | .hbm, ⟨10, _⟩ => ⟨S8320x512, .f32⟩
  | .hbm, ⟨11, _⟩ => ⟨S8320x512, .bf16⟩
  | .hbm, ⟨12, _⟩ => ⟨S8320x128, .bf16⟩
  | .hbm, ⟨13, _⟩ => ⟨S8320x128, .bf16⟩
  | .hbm, ⟨14, _⟩ => ⟨S8320x8, .f32⟩
  | .hbm, ⟨15, _⟩ => ⟨S1x8, .f32⟩
  | .hbm, ⟨16, _⟩ => ⟨S1x512, .f32⟩
  | .hbm, ⟨17, _⟩ => ⟨S8320x256, .f32⟩
  | .hbm, ⟨18, _⟩ => ⟨S8320x256, .f32⟩
  | .hbm, ⟨19, _⟩ => ⟨S8320x512, .f32⟩
  | .hbm, ⟨20, _⟩ => ⟨S8320x512, .f32⟩
  | .hbm, ⟨21, _⟩ => ⟨S8320x256, .f32⟩
  | .hbm, ⟨22, _⟩ => ⟨S8x128, .f32⟩
  | .hbm, ⟨23, _⟩ => ⟨S8320x512, .f32⟩
  | .hbm, ⟨24, _⟩ => ⟨S8320x128, .f32⟩
  | .hbm, ⟨25, _⟩ => ⟨S8320x128, .f32⟩
  | .hbm, ⟨26, _⟩ => ⟨S8x128, .f32⟩
  | .hbm, ⟨27, _⟩ => ⟨S8x512, .f32⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | .local _ .vmem, ⟨8, _⟩ => ⟨S640x512, .bf16⟩
  | .local _ .vmem, ⟨9, _⟩ => ⟨S640x512, .bf16⟩
  | .local _ .vmem, ⟨10, _⟩ => ⟨S640x512, .f32⟩
  | .local _ .vmem, ⟨11, _⟩ => ⟨S640x512, .f32⟩
  | .local _ .vmem, ⟨12, _⟩ => ⟨S640x256, .f32⟩
  | .local _ .vmem, ⟨13, _⟩ => ⟨S640x256, .f32⟩
  | .local _ .vmem, ⟨14, _⟩ => ⟨S5x2x128x128, .f32⟩
  | .local _ .vmem, ⟨15, _⟩ => ⟨S5x2x128x128, .f32⟩
  | .local _ .vmem, ⟨16, _⟩ => ⟨S1x128, .f32⟩
  | .local _ .vmem, ⟨17, _⟩ => ⟨S640x512, .f32⟩
  | .local _ .vmem, ⟨18, _⟩ => ⟨S640x512, .f32⟩
  | .local _ .vmem, ⟨19, _⟩ => ⟨S640x512, .f32⟩
  | .local _ .vmem, ⟨20, _⟩ => ⟨S640x512, .f32⟩
  | .local _ .vmem, ⟨21, _⟩ => ⟨S640x512, .bf16⟩
  | .local _ .vmem, ⟨22, _⟩ => ⟨S640x512, .bf16⟩
  | .local _ .vmem, ⟨23, _⟩ => ⟨S8320x128, .bf16⟩
  | .local _ .vmem, ⟨24, _⟩ => ⟨S8320x128, .bf16⟩
  | .local _ .vmem, ⟨25, _⟩ => ⟨S640x8, .f32⟩
  | .local _ .vmem, ⟨26, _⟩ => ⟨S640x8, .f32⟩
  | .local _ .vmem, ⟨27, _⟩ => ⟨S1x512, .f32⟩
  | .local _ .vmem, ⟨28, _⟩ => ⟨S640x256, .f32⟩
  | .local _ .vmem, ⟨29, _⟩ => ⟨S640x256, .f32⟩
  | .local _ .vmem, ⟨30, _⟩ => ⟨S640x256, .f32⟩
  | .local _ .vmem, ⟨31, _⟩ => ⟨S640x256, .f32⟩
  | .local _ .vmem, ⟨32, _⟩ => ⟨S640x512, .f32⟩
  | .local _ .vmem, ⟨33, _⟩ => ⟨S640x512, .f32⟩
  | .local _ .vmem, ⟨34, _⟩ => ⟨S640x512, .f32⟩
  | .local _ .vmem, ⟨35, _⟩ => ⟨S640x512, .f32⟩
  | .local _ .vmem, ⟨36, _⟩ => ⟨S640x256, .f32⟩
  | .local _ .vmem, ⟨37, _⟩ => ⟨S640x256, .f32⟩
  | .local _ .vmem, ⟨38, _⟩ => ⟨S8x128, .f32⟩
  | .local _ .vmem, ⟨39, _⟩ => ⟨S640x512, .f32⟩
  | .local _ .vmem, ⟨40, _⟩ => ⟨S640x512, .f32⟩
  | .local _ .vmem, ⟨41, _⟩ => ⟨S8320x128, .f32⟩
  | .local _ .vmem, ⟨42, _⟩ => ⟨S8320x128, .f32⟩
  | .local _ .vmem, ⟨43, _⟩ => ⟨S8x128, .f32⟩
  | .local _ .vmem, ⟨44, _⟩ => ⟨S8x512, .f32⟩
  | .local _ .vmem, ⟨45, _⟩ => ⟨S2x128x128, .f32⟩
  | .local _ .vmem, ⟨46, _⟩ => ⟨S128x512, .bf16⟩
  | .local _ .vmem, ⟨47, _⟩ => ⟨S128x512, .bf16⟩
  | .local _ .vmem, ⟨48, _⟩ => ⟨S128x512, .f32⟩
  | .local _ .vmem, ⟨49, _⟩ => ⟨S128x512, .f32⟩
  | .local _ .smem, ⟨0, _⟩ => ⟨S1x8, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .smem, ⟨0, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev main_v0_9 : Ref sig .tc := ⟨.hbm, 26, rfl⟩
abbrev main_v0_10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg26_0 : Ref sig .tc := ⟨.vmem, 43, rfl⟩
abbrev cc0_stg27_0 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_scratch4 : Ref sig .tc := ⟨.vmem, 49, rfl⟩
abbrev cc0_stg15_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem23_0 : DmaSem sig := 40
abbrev cc0_sem23_1 : DmaSem sig := 41
abbrev cc0_sem24_0 : DmaSem sig := 42
abbrev cc0_sem25_0 : DmaSem sig := 43
abbrev cc0_sem26_0 : DmaSem sig := 44
abbrev cc0_sem27_0 : DmaSem sig := 45

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_4 : BitVec 32 := 0#32
  let c5_i32 : BitVec 32 := 5#32
  let v17 : BitVec 32 := Scalar.addi c0_i32_4 c5_i32
  let c1_i32 : BitVec 32 := 1#32
  ⟨c0_i32_4, v17, c1_i32⟩
def k0_mult1 (k0_t1 : Fin k0_t1_loop.trips) : BitVec 32 :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  v29
def k0_off1 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v31 : Index := Scalar.indexCast v30
  let c0_12 : Index := 0#32
  ![v31.toNat, 0]
def k0_off2 (k0_t1 : Fin k0_t1_loop.trips) : Fin 4 → Nat :=
  let c4_i32_16 : BitVec 32 := 4#32
  let c0_i32_4 : BitVec 32 := 0#32
  let c1_i32 : BitVec 32 := 1#32
  let arg34 : BitVec 32 := Scf.iv c0_i32_4 c1_i32 k0_t1
  let v56 : BitVec 32 := Scalar.subi c4_i32_16 arg34
  let v57 : Index := Scalar.indexCast v56
  let c0_17 : Index := 0#32
  let c0_18 : Index := 0#32
  let c0_19 : Index := 0#32
  ![v57.toNat, 0, 0, 0]
def k0_off3 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v90 : Index := Scalar.indexCast v30
  let c0_33 : Index := 0#32
  ![v90.toNat, 0]
def k0_off4 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v221 : Index := Scalar.indexCast v30
  let c128 : Index := 128#32
  ![v221.toNat, 128]
def k0_off5 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v383 : Index := Scalar.indexCast v30
  let c128_124 : Index := 128#32
  ![v383.toNat, 128]
def k0_off6 (k0_t1 : Fin k0_t1_loop.trips) : Fin 4 → Nat :=
  let c4_i32_128 : BitVec 32 := 4#32
  let c0_i32_4 : BitVec 32 := 0#32
  let c1_i32 : BitVec 32 := 1#32
  let arg34 : BitVec 32 := Scf.iv c0_i32_4 c1_i32 k0_t1
  let v408 : BitVec 32 := Scalar.subi c4_i32_128 arg34
  let v409 : Index := Scalar.indexCast v408
  let c1 : Index := 1#32
  let c0_129 : Index := 0#32
  let c0_130 : Index := 0#32
  ![v409.toNat, 1, 0, 0]
def k0_off7 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v442 : Index := Scalar.indexCast v30
  let c256 : Index := 256#32
  ![v442.toNat, 256]
def k0_off8 (k0_t1 : Fin k0_t1_loop.trips) : Fin 2 → Nat :=
  let c4_i32 : BitVec 32 := 4#32
  let c0_i32_4 : BitVec 32 := 0#32
  let c1_i32 : BitVec 32 := 1#32
  let arg34 : BitVec 32 := Scf.iv c0_i32_4 c1_i32 k0_t1
  let v28 : BitVec 32 := Scalar.subi c4_i32 arg34
  let c128_i32 : BitVec 32 := 128#32
  let v29 : BitVec 32 := Scalar.muli v28 c128_i32
  let v30 : BitVec 32 := v29
  let v573 : Index := Scalar.indexCast v30
  let c384 : Index := 384#32
  ![v573.toNat, 384]
def k0_mult2 (k0_t1 : Fin k0_t1_loop.trips) : BitVec 32 :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  v737
def k0_mult3 (i : grid0.Coords) (k0_t1 : Fin k0_t1_loop.trips) : BitVec 32 :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c1_i32_253 : BitVec 32 := 1#32
  let v794 : BitVec 32 := Scalar.subi v736 c1_i32_253
  let c0_i32_254 : BitVec 32 := 0#32
  let v795 : BitVec 32 := Scalar.maxsi v794 c0_i32_254
  let c128_i32_255 : BitVec 32 := 128#32
  let v796 : BitVec 32 := Scalar.muli v795 c128_i32_255
  v796
def k0_mult4 (i : grid0.Coords) (k0_t1 : Fin k0_t1_loop.trips) : BitVec 32 :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c128_i32_256 : BitVec 32 := 128#32
  let v798 : BitVec 32 := Scalar.muli v736 c128_i32_256
  v798
def k0_off9 (i : grid0.Coords) (k0_t1 : Fin k0_t1_loop.trips) : Fin 2 → Nat :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c1_i32_253 : BitVec 32 := 1#32
  let v794 : BitVec 32 := Scalar.subi v736 c1_i32_253
  let c0_i32_254 : BitVec 32 := 0#32
  let v795 : BitVec 32 := Scalar.maxsi v794 c0_i32_254
  let c128_i32_255 : BitVec 32 := 128#32
  let v796 : BitVec 32 := Scalar.muli v795 c128_i32_255
  let v797 : BitVec 32 := v796
  let v800 : Index := Scalar.indexCast v797
  let c0_257 : Index := 0#32
  ![v800.toNat, 0]
def k0_off10 (i : grid0.Coords) (k0_t1 : Fin k0_t1_loop.trips) : Fin 2 → Nat :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c128_i32_256 : BitVec 32 := 128#32
  let v798 : BitVec 32 := Scalar.muli v736 c128_i32_256
  let v799 : BitVec 32 := v798
  let v802 : Index := Scalar.indexCast v799
  let c0_258 : Index := 0#32
  ![v802.toNat, 0]
def k0_mult5 (i : grid0.Coords) (k0_t1 : Fin k0_t1_loop.trips) : BitVec 32 :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c1_i32_259 : BitVec 32 := 1#32
  let v805 : BitVec 32 := Scalar.subi v736 c1_i32_259
  let c0_i32_260 : BitVec 32 := 0#32
  let v806 : BitVec 32 := Scalar.maxsi v805 c0_i32_260
  let c128_i32_261 : BitVec 32 := 128#32
  let v807 : BitVec 32 := Scalar.muli v806 c128_i32_261
  v807
def k0_mult6 (i : grid0.Coords) (k0_t1 : Fin k0_t1_loop.trips) : BitVec 32 :=
  let arg0 : BitVec 32 := BitVec.ofNat 32 (i 0).val
  let c5_i32_235 : BitVec 32 := 5#32
  let v735 : BitVec 32 := Scalar.muli arg0 c5_i32_235
  let c0_i32_4 : BitVec 32 := 0#32
  let c1_i32 : BitVec 32 := 1#32
  let arg34 : BitVec 32 := Scf.iv c0_i32_4 c1_i32 k0_t1
  let v736 : BitVec 32 := Scalar.addi v735 arg34
  let c128_i32_262 : BitVec 32 := 128#32
  let v809 : BitVec 32 := Scalar.muli v736 c128_i32_262
  v809
def k0_off11 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v912 : Index := Scalar.indexCast v738
  let c0_301 : Index := 0#32
  ![v912.toNat, 0]
def k0_off12 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v952 : Index := Scalar.indexCast v738
  let c0_317 : Index := 0#32
  ![v952.toNat, 0]
def k0_off13 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v954 : Index := Scalar.indexCast v738
  let c1_318 : Index := 1#32
  ![v954.toNat, 1]
def k0_off14 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v956 : Index := Scalar.indexCast v738
  let c2 : Index := 2#32
  ![v956.toNat, 2]
def k0_off15 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v958 : Index := Scalar.indexCast v738
  let c3 : Index := 3#32
  ![v958.toNat, 3]
def k0_off16 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v960 : Index := Scalar.indexCast v738
  let c4 : Index := 4#32
  ![v960.toNat, 4]
def k0_off17 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v962 : Index := Scalar.indexCast v738
  let c5 : Index := 5#32
  ![v962.toNat, 5]
def k0_off18 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v964 : Index := Scalar.indexCast v738
  let c6 : Index := 6#32
  ![v964.toNat, 6]
def k0_off19 (k0_t1 : Fin k0_t1_loop.trips) : Fin 2 → Nat :=
  let c0_i32_4 : BitVec 32 := 0#32
  let c1_i32 : BitVec 32 := 1#32
  let arg34 : BitVec 32 := Scf.iv c0_i32_4 c1_i32 k0_t1
  let c128_i32_236 : BitVec 32 := 128#32
  let v737 : BitVec 32 := Scalar.muli arg34 c128_i32_236
  let v738 : BitVec 32 := v737
  let v966 : Index := Scalar.indexCast v738
  let c7 : Index := 7#32
  ![v966.toNat, 7]
def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8320x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8320x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S640x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .smem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S640x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S640x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S640x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S640x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S640x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S640x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S8320x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8320x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S8x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== AttentionRefIdeal.lean ====
abbrev S8320x512 : Shape := ⟨2, ![8320, 512]⟩
abbrev S8320x256 : Shape := ⟨2, ![8320, 256]⟩
abbrev S65x2x128x128 : Shape := ⟨4, ![65, 2, 128, 128]⟩
abbrev S1x128 : Shape := ⟨2, ![1, 128]⟩
abbrev S8320x128 : Shape := ⟨2, ![8320, 128]⟩
abbrev S8320x8 : Shape := ⟨2, ![8320, 8]⟩
abbrev S1x8 : Shape := ⟨2, ![1, 8]⟩
abbrev S1x512 : Shape := ⟨2, ![1, 512]⟩
abbrev S8320x4x128 : Shape := ⟨3, ![8320, 4, 128]⟩
abbrev S_ : Shape := ⟨0, ![]⟩
abbrev S8320x4 : Shape := ⟨2, ![8320, 4]⟩
abbrev S8320x4x1 : Shape := ⟨3, ![8320, 4, 1]⟩
abbrev S1x1x128 : Shape := ⟨3, ![1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S8320x256, .f32⟩
  | .hbm, ⟨3, _⟩ => ⟨S8320x256, .f32⟩
  | .hbm, ⟨4, _⟩ => ⟨S8320x512, .bf16⟩
  | .hbm, ⟨5, _⟩ => ⟨S8320x512, .f32⟩
  | .hbm, ⟨6, _⟩ => ⟨S8320x256, .f32⟩
  | .hbm, ⟨7, _⟩ => ⟨S65x2x128x128, .f32⟩
  | .hbm, ⟨8, _⟩ => ⟨S1x128, .f32⟩
  | .hbm, ⟨9, _⟩ => ⟨S8320x512, .f32⟩
  | .hbm, ⟨10, _⟩ => ⟨S8320x512, .f32⟩
  | .hbm, ⟨11, _⟩ => ⟨S8320x512, .bf16⟩
  | .hbm, ⟨12, _⟩ => ⟨S8320x128, .bf16⟩
  | .hbm, ⟨13, _⟩ => ⟨S8320x128, .bf16⟩
  | .hbm, ⟨14, _⟩ => ⟨S8320x8, .f32⟩
  | .hbm, ⟨15, _⟩ => ⟨S1x8, .f32⟩
  | .hbm, ⟨16, _⟩ => ⟨S1x512, .f32⟩
  | .hbm, ⟨17, _⟩ => ⟨S8320x4x128, .f32⟩
  | .hbm, ⟨18, _⟩ => ⟨S8320x4x128, .f32⟩
  | .hbm, ⟨19, _⟩ => ⟨S_, .f32⟩
  | .hbm, ⟨20, _⟩ => ⟨S8320x4, .f32⟩
  | .hbm, ⟨21, _⟩ => ⟨S8320x4x1, .f32⟩
  | .hbm, ⟨22, _⟩ => ⟨S_, .f32⟩
  | .hbm, ⟨23, _⟩ => ⟨S8320x4x1, .f32⟩
  | .hbm, ⟨24, _⟩ => ⟨S8320x4x1, .f32⟩
  | .hbm, ⟨25, _⟩ => ⟨S_, .f32⟩
  | .hbm, ⟨26, _⟩ => ⟨S8320x4x1, .f32⟩
  | .hbm, ⟨27, _⟩ => ⟨S8320x4x1, .f32⟩
  | .hbm, ⟨28, _⟩ => ⟨S8320x4x1, .f32⟩
  | .hbm, ⟨29, _⟩ => ⟨S8320x4x128, .f32⟩
  | .hbm, ⟨30, _⟩ => ⟨S8320x4x128, .f32⟩
  | .hbm, ⟨31, _⟩ => ⟨S1x1x128, .f32⟩
  | .hbm, ⟨32, _⟩ => ⟨S8320x4x128, .f32⟩
  | .hbm, ⟨33, _⟩ => ⟨S8320x4x128, .f32⟩
  | .hbm, ⟨34, _⟩ => ⟨S8320x4x128, .f32⟩
  | .hbm, ⟨35, _⟩ => ⟨S8320x4x128, .f32⟩
  | .hbm, ⟨36, _⟩ => ⟨S8320x4x128, .f32⟩
  | .hbm, ⟨37, _⟩ => ⟨S_, .f32⟩
  | .hbm, ⟨38, _⟩ => ⟨S8320x4x128, .f32⟩
  | .hbm, ⟨39, _⟩ => ⟨S8320x4x128, .f32⟩
  | .hbm, ⟨40, _⟩ => ⟨S_, .f32⟩
  | .hbm, ⟨41, _⟩ => ⟨S8320x4x128, .f32⟩
  | .hbm, ⟨42, _⟩ => ⟨S8320x4x128, .f32⟩
  | .hbm, ⟨43, _⟩ => ⟨S_, .f32⟩
  | .hbm, ⟨44, _⟩ => ⟨S8320x4x128, .f32⟩
  | .hbm, ⟨45, _⟩ => ⟨S8320x4x128, .f32⟩
  | .hbm, ⟨46, _⟩ => ⟨S8320x4x128, .f32⟩
  | .hbm, ⟨47, _⟩ => ⟨S8320x4x128, .f32⟩
  | .hbm, ⟨48, _⟩ => ⟨S8320x4x128, .f32⟩
  | .hbm, ⟨49, _⟩ => ⟨S8320x512, .f32⟩
  | .hbm, ⟨50, _⟩ => ⟨S8320x4x128, .f32⟩
  | .hbm, ⟨51, _⟩ => ⟨S8320x4x128, .f32⟩
  | .hbm, ⟨52, _⟩ => ⟨S8320x4x128, .f32⟩
  | .hbm, ⟨53, _⟩ => ⟨S8320x4x128, .f32⟩
  | .hbm, ⟨54, _⟩ => ⟨S8320x4x128, .f32⟩
  | .hbm, ⟨55, _⟩ => ⟨S8320x4x128, .f32⟩
  | .hbm, ⟨56, _⟩ => ⟨S8320x512, .f32⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v15_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v15_1 : Ref sig .tc := ⟨.hbm, 46, rfl⟩
abbrev main_v15_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v20 : Ref sig .tc := ⟨.hbm, 55, rfl⟩
abbrev main_v21 : Ref sig .tc := ⟨.hbm, 56, rfl⟩

abbrev nD : Nat := 1
abbrev τ : Topo := Topo.v7x

variable {F : FTy → Type} [FloatOps F]
-- ==== Forward.lean ====
abbrev S128x1024 : Shape := ⟨2, ![128, 1024]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8320x1024 : Shape := ⟨2, ![8320, 1024]⟩
abbrev S8320x2816 : Shape := ⟨2, ![8320, 2816]⟩
abbrev S416x1024 : Shape := ⟨2, ![416, 1024]⟩
abbrev S416x2816 : Shape := ⟨2, ![416, 2816]⟩
abbrev S288x1024 : Shape := ⟨2, ![288, 1024]⟩
abbrev S416 : Shape := ⟨1, ![416]⟩
abbrev S416x1 : Shape := ⟨2, ![416, 1]⟩

abbrev nBuf : Space → Nat
  | .hbm => 17
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8320x1024, .f32⟩
  | .hbm, ⟨13, _⟩ => ⟨S8320x2816, .bf16⟩
  | .hbm, ⟨14, _⟩ => ⟨S8320x2816, .bf16⟩
  | .hbm, ⟨15, _⟩ => ⟨S8320x2816, .bf16⟩
  | .hbm, ⟨16, _⟩ => ⟨S8320x1024, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S128x1024, .f32⟩
  | .local _ .vmem, ⟨8, _⟩ => ⟨S416x1024, .f32⟩
  | .local _ .vmem, ⟨9, _⟩ => ⟨S416x1024, .f32⟩
  | .local _ .vmem, ⟨10, _⟩ => ⟨S416x2816, .bf16⟩
  | .local _ .vmem, ⟨11, _⟩ => ⟨S416x2816, .bf16⟩
  | .local _ .vmem, ⟨12, _⟩ => ⟨S416x2816, .bf16⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x1024, .f32⟩
  | .local _ .vmem, ⟨17, _⟩ => ⟨S416x1024, .f32⟩
  | .local _ .vmem, ⟨18, _⟩ => ⟨S416x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ForwardRefIdeal.lean ====
abbrev S128x1024 : Shape := ⟨2, ![128, 1024]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8320x1024 : Shape := ⟨2, ![8320, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩

abbrev nBuf : Space → Nat
  | .hbm => 58
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S8320x1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x2816, .f32⟩
  | .hbm, ⟨27, _⟩ => ⟨S_, .f32⟩
  | .hbm, ⟨28, _⟩ => ⟨S8320x2816, .f32⟩
  | .hbm, ⟨29, _⟩ => ⟨S8320x2816, .f32⟩
  | .hbm, ⟨30, _⟩ => ⟨S_, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320, .f32⟩
  | .hbm, ⟨39, _⟩ => ⟨S8320x1, .f32⟩
  | .hbm, ⟨40, _⟩ => ⟨S_, .f32⟩
  | .hbm, ⟨41, _⟩ => ⟨S8320x1, .f32⟩
  | .hbm, ⟨42, _⟩ => ⟨S8320x1, .f32⟩
  | .hbm, ⟨43, _⟩ => ⟨S_, .f32⟩
  | .hbm, ⟨44, _⟩ => ⟨S8320x1, .f32⟩
  | .hbm, ⟨45, _⟩ => ⟨S8320x1, .f32⟩
  | .hbm, ⟨46, _⟩ => ⟨S8320x1, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S_, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x2816, .bf16⟩
  | .hbm, ⟨56, _⟩ => ⟨S8320x2816, .bf16⟩
  | .hbm, ⟨57, _⟩ => ⟨S8320x2816, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Loss.lean ====
abbrev S8320x1024 : Shape := ⟨2, ![8320, 1024]⟩
abbrev S8320x512 : Shape := ⟨2, ![8320, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S8320x2816 : Shape := ⟨2, ![8320, 2816]⟩
abbrev S8x128 : Shape := ⟨2, ![8, 128]⟩
abbrev S416x1024 : Shape := ⟨2, ![416, 1024]⟩
abbrev S416x512 : Shape := ⟨2, ![416, 512]⟩
abbrev S416x2816 : Shape := ⟨2, ![416, 2816]⟩
abbrev S512x1024 : Shape := ⟨2, ![512, 1024]⟩
abbrev S416 : Shape := ⟨1, ![416]⟩
abbrev S416x1 : Shape := ⟨2, ![416, 1]⟩
abbrev S128x1024 : Shape := ⟨2, ![128, 1024]⟩
abbrev S288x1024 : Shape := ⟨2, ![288, 1024]⟩
abbrev S1 : Shape := ⟨1, ![1]⟩
abbrev S1x1 : Shape := ⟨2, ![1, 1]⟩

abbrev nBuf : Space → Nat
  | .hbm => 25
  | .vmem => 31
  | .smem => 0
  | _ => 0

abbrev bufTy : (tb : Table) → Fin (tcTables nBuf tb) → BufTy
  | .hbm, ⟨0, _⟩ => ⟨S8320x1024, .f32⟩
  | .hbm, ⟨1, _⟩ => ⟨S8320x512, .bf16⟩
  | .hbm, ⟨2, _⟩ => ⟨S8320x512, .bf16⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S8192x1024, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S1024x1024, .bf16⟩
  | .hbm, ⟨17, _⟩ => ⟨S8320x1024, .f32⟩
  | .hbm, ⟨18, _⟩ => ⟨S8320x1024, .f32⟩
  | .hbm, ⟨19, _⟩ => ⟨S8320x2816, .bf16⟩
  | .hbm, ⟨20, _⟩ => ⟨S8320x2816, .bf16⟩
  | .hbm, ⟨21, _⟩ => ⟨S8320x2816, .bf16⟩
  | .hbm, ⟨22, _⟩ => ⟨S8320x1024, .f32⟩
  | .hbm, ⟨23, _⟩ => ⟨S8320x1024, .f32⟩
  | .hbm, ⟨24, _⟩ => ⟨S8x128, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S416x512, .bf16⟩
  | .local _ .vmem, ⟨8, _⟩ => ⟨S416x512, .bf16⟩
  | .local _ .vmem, ⟨9, _⟩ => ⟨S416x512, .bf16⟩
  | .local _ .vmem, ⟨10, _⟩ => ⟨S416x512, .bf16⟩
  | .local _ .vmem, ⟨11, _⟩ => ⟨S1024x1024, .bf16⟩
  | .local _ .vmem, ⟨12, _⟩ => ⟨S1x1024, .f32⟩
  | .local _ .vmem, ⟨13, _⟩ => ⟨S416x1024, .f32⟩
  | .local _ .vmem, ⟨14, _⟩ => ⟨S416x1024, .f32⟩
  | .local _ .vmem, ⟨15, _⟩ => ⟨S416x1024, .f32⟩
  | .local _ .vmem, ⟨16, _⟩ => ⟨S416x1024, .f32⟩
  | .local _ .vmem, ⟨17, _⟩ => ⟨S416x1024, .f32⟩
  | .local _ .vmem, ⟨18, _⟩ => ⟨S416x1024, .f32⟩
  | .local _ .vmem, ⟨19, _⟩ => ⟨S416x2816, .bf16⟩
  | .local _ .vmem, ⟨20, _⟩ => ⟨S416x2816, .bf16⟩
  | .local _ .vmem, ⟨21, _⟩ => ⟨S416x2816, .bf16⟩
  | .local _ .vmem, ⟨22, _⟩ => ⟨S416x2816, .bf16⟩
  | .local _ .vmem, ⟨23, _⟩ => ⟨S416x2816, .bf16⟩
  | .local _ .vmem, ⟨24, _⟩ => ⟨S416x2816, .bf16⟩
  | .local _ .vmem, ⟨25, _⟩ => ⟨S416x1024, .f32⟩
  | .local _ .vmem, ⟨26, _⟩ => ⟨S416x1024, .f32⟩
  | .local _ .vmem, ⟨27, _⟩ => ⟨S416x1024, .f32⟩
  | .local _ .vmem, ⟨28, _⟩ => ⟨S416x1024, .f32⟩
  | .local _ .vmem, ⟨29, _⟩ => ⟨S8x128, .f32⟩
  | .local _ .vmem, ⟨30, _⟩ => ⟨S416x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c416_i32 : BitVec 32 := 416#32
  let v0 : BitVec 32 := Scalar.muli arg0 c416_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S416x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S416x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S416x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S416x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S416x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== LossRefIdeal.lean ====
abbrev S8320x1024 : Shape := ⟨2, ![8320, 1024]⟩
abbrev S8320x512 : Shape := ⟨2, ![8320, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S8192 : Shape := ⟨1, ![8192]⟩
abbrev S8x128 : Shape := ⟨2, ![8, 128]⟩

abbrev nBuf : Space → Nat
  | .hbm => 107
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .bf16⟩
  | .hbm, ⟨2, _⟩ => ⟨S8320x512, .bf16⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S8192x1024, .f32⟩
  | .hbm, ⟨11, _⟩ => ⟨S8320x1024, .bf16⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x2816, .f32⟩
  | .hbm, ⟨46, _⟩ => ⟨S8320x2816, .f32⟩
  | .hbm, ⟨47, _⟩ => ⟨S8320x2816, .f32⟩
  | .hbm, ⟨48, _⟩ => ⟨S8320x2816, .f32⟩
  | .hbm, ⟨49, _⟩ => ⟨S_, .f32⟩
  | .hbm, ⟨50, _⟩ => ⟨S8320x2816, .f32⟩
  | .hbm, ⟨51, _⟩ => ⟨S8320x2816, .f32⟩
  | .hbm, ⟨52, _⟩ => ⟨S_, .f32⟩
  | .hbm, ⟨53, _⟩ => ⟨S8320x2816, .f32⟩
  | .hbm, ⟨54, _⟩ => ⟨S8320x2816, .f32⟩
  | .hbm, ⟨55, _⟩ => ⟨S8320x2816, .f32⟩
  | .hbm, ⟨56, _⟩ => ⟨S8320x2816, .f32⟩
  | .hbm, ⟨57, _⟩ => ⟨S8320x1024, .f32⟩
  | .hbm, ⟨58, _⟩ => ⟨S8320x1024, .f32⟩
  | .hbm, ⟨59, _⟩ => ⟨S_, .f32⟩
  | .hbm, ⟨60, _⟩ => ⟨S8320, .f32⟩
  | .hbm, ⟨61, _⟩ => ⟨S8320x1, .f32⟩
  | .hbm, ⟨62, _⟩ => ⟨S_, .f32⟩
  | .hbm, ⟨63, _⟩ => ⟨S8320x1, .f32⟩
  | .hbm, ⟨64, _⟩ => ⟨S8320x1, .f32⟩
  | .hbm, ⟨65, _⟩ => ⟨S_, .f32⟩
  | .hbm, ⟨66, _⟩ => ⟨S8320x1, .f32⟩
  | .hbm, ⟨67, _⟩ => ⟨S8320x1, .f32⟩
  | .hbm, ⟨68, _⟩ => ⟨S8320x1, .f32⟩
  | .hbm, ⟨69, _⟩ => ⟨S8320x1024, .f32⟩
  | .hbm, ⟨70, _⟩ => ⟨S8320x1024, .f32⟩
  | .hbm, ⟨71, _⟩ => ⟨S8320x1024, .f32⟩
  | .hbm, ⟨72, _⟩ => ⟨S8320x1024, .f32⟩
  | .hbm, ⟨73, _⟩ => ⟨S_, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8320x1024, .f32⟩
  | .hbm, ⟨103, _⟩ => ⟨S8320x2816, .bf16⟩
  | .hbm, ⟨104, _⟩ => ⟨S8320x2816, .bf16⟩
  | .hbm, ⟨105, _⟩ => ⟨S8320x2816, .bf16⟩
  | .hbm, ⟨106, _⟩ => ⟨S8x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_cst_14 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== Mix.lean ====
abbrev S8320x1024 : Shape := ⟨2, ![8320, 1024]⟩
abbrev S1x1024 : Shape := ⟨2, ![1, 1024]⟩
abbrev S1024x2432 : Shape := ⟨2, ![1024, 2432]⟩
abbrev S128x256 : Shape := ⟨2, ![128, 256]⟩
abbrev S1x256 : Shape := ⟨2, ![1, 256]⟩
abbrev S8320x128 : Shape := ⟨2, ![8320, 128]⟩
abbrev S2432x1024 : Shape := ⟨2, ![2432, 1024]⟩
abbrev S8320x256 : Shape := ⟨2, ![8320, 256]⟩
abbrev S8320x512 : Shape := ⟨2, ![8320, 512]⟩
abbrev S640x1024 : Shape := ⟨2, ![640, 1024]⟩
abbrev S640x128 : Shape := ⟨2, ![640, 128]⟩
abbrev S640x256 : Shape := ⟨2, ![640, 256]⟩
abbrev S640x512 : Shape := ⟨2, ![640, 512]⟩
abbrev S640 : Shape := ⟨1, ![640]⟩
abbrev S640x1 : Shape := ⟨2, ![640, 1]⟩
abbrev S640x2432 : Shape := ⟨2, ![640, 2432]⟩
abbrev S1x512 : Shape := ⟨2, ![1, 512]⟩
abbrev S1x128 : Shape := ⟨2, ![1, 128]⟩
abbrev S128x128 : Shape := ⟨2, ![128, 128]⟩

abbrev nBuf : Space → Nat
  | .hbm => 20
  | .vmem => 32
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2432, .f32⟩
  | .hbm, ⟨3, _⟩ => ⟨S128x256, .f32⟩
  | .hbm, ⟨4, _⟩ => ⟨S1x256, .f32⟩
  | .hbm, ⟨5, _⟩ => ⟨S8320x128, .f32⟩
  | .hbm, ⟨6, _⟩ => ⟨S8320x128, .f32⟩
  | .hbm, ⟨7, _⟩ => ⟨S2432x1024, .f32⟩
  | .hbm, ⟨8, _⟩ => ⟨S2432x1024, .bf16⟩
  | .hbm, ⟨9, _⟩ => ⟨S8320x256, .f32⟩
  | .hbm, ⟨10, _⟩ => ⟨S8320x256, .f32⟩
  | .hbm, ⟨11, _⟩ => ⟨S8320x512, .bf16⟩
  | .hbm, ⟨12, _⟩ => ⟨S8320x512, .f32⟩
  | .hbm, ⟨13, _⟩ => ⟨S8320x512, .bf16⟩
  | .hbm, ⟨14, _⟩ => ⟨S8320x128, .bf16⟩
  | .hbm, ⟨15, _⟩ => ⟨S8320x128, .bf16⟩
  | .hbm, ⟨16, _⟩ => ⟨S8320x128, .f32⟩
  | .hbm, ⟨17, _⟩ => ⟨S8320x256, .f32⟩
  | .hbm, ⟨18, _⟩ => ⟨S8320x256, .f32⟩
  | .hbm, ⟨19, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S2432x1024, .bf16⟩
  | .local _ .vmem, ⟨4, _⟩ => ⟨S128x256, .f32⟩
  | .local _ .vmem, ⟨5, _⟩ => ⟨S1x256, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x256, .f32⟩
  | .local _ .vmem, ⟨11, _⟩ => ⟨S640x256, .f32⟩
  | .local _ .vmem, ⟨12, _⟩ => ⟨S640x256, .f32⟩
  | .local _ .vmem, ⟨13, _⟩ => ⟨S640x256, .f32⟩
  | .local _ .vmem, ⟨14, _⟩ => ⟨S640x512, .bf16⟩
  | .local _ .vmem, ⟨15, _⟩ => ⟨S640x512, .bf16⟩
  | .local _ .vmem, ⟨16, _⟩ => ⟨S640x512, .f32⟩
  | .local _ .vmem, ⟨17, _⟩ => ⟨S640x512, .f32⟩
  | .local _ .vmem, ⟨18, _⟩ => ⟨S640x512, .bf16⟩
  | .local _ .vmem, ⟨19, _⟩ => ⟨S640x512, .bf16⟩
  | .local _ .vmem, ⟨20, _⟩ => ⟨S640x128, .bf16⟩
  | .local _ .vmem, ⟨21, _⟩ => ⟨S640x128, .bf16⟩
  | .local _ .vmem, ⟨22, _⟩ => ⟨S640x128, .bf16⟩
  | .local _ .vmem, ⟨23, _⟩ => ⟨S640x128, .bf16⟩
  | .local _ .vmem, ⟨24, _⟩ => ⟨S640x128, .f32⟩
  | .local _ .vmem, ⟨25, _⟩ => ⟨S640x128, .f32⟩
  | .local _ .vmem, ⟨26, _⟩ => ⟨S640x256, .f32⟩
  | .local _ .vmem, ⟨27, _⟩ => ⟨S640x256, .f32⟩
  | .local _ .vmem, ⟨28, _⟩ => ⟨S640x256, .f32⟩
  | .local _ .vmem, ⟨29, _⟩ => ⟨S640x256, .f32⟩
  | .local _ .vmem, ⟨30, _⟩ => ⟨S640x1024, .bf16⟩
  | .local _ .vmem, ⟨31, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v2_9 : Ref sig .tc := ⟨.hbm, 18, rfl⟩
abbrev main_v2_10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2432x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S640x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S640x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S640x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S640x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixRefIdeal.lean ====
abbrev S8320x1024 : Shape := ⟨2, ![8320, 1024]⟩
abbrev S1x1024 : Shape := ⟨2, ![1, 1024]⟩
abbrev S1024x2432 : Shape := ⟨2, ![1024, 2432]⟩
abbrev S128x256 : Shape := ⟨2, ![128, 256]⟩
abbrev S1x256 : Shape := ⟨2, ![1, 256]⟩
abbrev S8320x128 : Shape := ⟨2, ![8320, 128]⟩
abbrev S_ : Shape := ⟨0, ![]⟩
abbrev S8320 : Shape := ⟨1, ![8320]⟩
abbrev S8320x1 : Shape := ⟨2, ![8320, 1]⟩
abbrev S8320x2432 : Shape := ⟨2, ![8320, 2432]⟩
abbrev S8320x256 : Shape := ⟨2, ![8320, 256]⟩
abbrev S8320x512 : Shape := ⟨2, ![8320, 512]⟩

abbrev nBuf : Space → Nat
  | .hbm => 34
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2432, .f32⟩
  | .hbm, ⟨3, _⟩ => ⟨S128x256, .f32⟩
  | .hbm, ⟨4, _⟩ => ⟨S1x256, .f32⟩
  | .hbm, ⟨5, _⟩ => ⟨S8320x128, .f32⟩
  | .hbm, ⟨6, _⟩ => ⟨S8320x128, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x2432, .f32⟩
  | .hbm, ⟨23, _⟩ => ⟨S8320x256, .f32⟩
  | .hbm, ⟨24, _⟩ => ⟨S8320x256, .f32⟩
  | .hbm, ⟨25, _⟩ => ⟨S8320x512, .f32⟩
  | .hbm, ⟨26, _⟩ => ⟨S8320x512, .f32⟩
  | .hbm, ⟨27, _⟩ => ⟨S8320x512, .f32⟩
  | .hbm, ⟨28, _⟩ => ⟨S8320x128, .f32⟩
  | .hbm, ⟨29, _⟩ => ⟨S8320x128, .f32⟩
  | .hbm, ⟨30, _⟩ => ⟨S8320x128, .f32⟩
  | .hbm, ⟨31, _⟩ => ⟨S8320x512, .bf16⟩
  | .hbm, ⟨32, _⟩ => ⟨S8320x128, .bf16⟩
  | .hbm, ⟨33, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Rows.lean ====
/-
  Mathematics shared by the proofs of this directory, about rows of extended reals and away from any program:
  the root-mean-square normalization of a row and its derivative in the two forms the kernel and the
  reference write, the derivative of SiLU in its two forms, and what of these is a finite number when its
  arguments are.
-/
module

public import Idealize.ShloMosaic.PureOps.Ideal
public import Idealize.ShloMosaic.Lib.Pointwise

@[expose] public section

noncomputable section

namespace Cert.Proof

open Idealize.ShloMosaic

/-! ## The constants the programs spell -/

theorem bits_zero : Ideal.ofBits .f32 0x00000000#32 = 0 := by
  simp [Ideal.ofBits, Ideal.ieee]

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_width : Ideal.ofBits .f32 0x44800000#32 = ((1024 : ℝ) : EReal) := by
  simp [Ideal.ofBits, Ideal.ieee, -EReal.coe_mul]; norm_num

/-- The small number under the root is a positive real; which one plays no part. -/
theorem bits_eps : ∃ e : ℝ, 0 < e ∧ Ideal.ofBits .f32 0x358637BD#32 = ((e : ℝ) : EReal) :=
  ⟨8796093 / 2 ^ 43, by positivity, by simp [Ideal.ofBits, Ideal.ieee, -EReal.coe_mul]; norm_num⟩

/-! ## Finite numbers -/

/-- A finite number: a real among the extended reals. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.half : IsReal (Ideal.ofBits .f32 0x3F000000#32) := ⟨_, bits_half⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {n : Nat} (f : Fin n → ℝ) : ((∑ k, f k : ℝ) : EReal) = ∑ k, ((f k : ℝ) : EReal) := by
  induction n with
  | zero => simp
  | succ n ih => rw [Fin.sum_univ_succ, Fin.sum_univ_succ, EReal.coe_add, ih]

theorem IsReal.sum {n : Nat} {f : Fin n → EReal} (h : ∀ k, IsReal (f k)) : IsReal (∑ k, f k) := by
  choose g hg using h
  exact ⟨∑ k, g k, by rw [coe_sum]; exact Finset.sum_congr rfl fun k _ => hg k⟩

/-! ## Root-mean-square normalization -/

/-- The number whose inverse square root scales a row. -/
def meanSq (x : Fin 1024 → EReal) : EReal :=
  Ideal.div (∑ k, x k * x k) (Ideal.ofBits .f32 0x44800000#32) + Ideal.ofBits .f32 0x358637BD#32

/-- What a row is scaled by. -/
def inv (x : Fin 1024 → EReal) : EReal := Ideal.rsqrt (meanSq x)

/-- The normalized row. -/
def hat (x : Fin 1024 → EReal) (k : Fin 1024) : EReal := x k * inv x

/-- The derivative of the normalization applied to `g`, as the kernel writes it: the scaled row less its part
along the normalized row. -/
def pull (x g : Fin 1024 → EReal) (k : Fin 1024) : EReal :=
  inv x * (g k - hat x k * Ideal.div (∑ k, g k * hat x k) (Ideal.ofBits .f32 0x44800000#32))

/-- The part of the derivative that passes through the mean of squares. -/
def through (x g : Fin 1024 → EReal) : EReal :=
  Ideal.div ((∑ k, x k * g k) * (Ideal.ofBits .f32 0xBF000000#32 * Ideal.div (inv x) (meanSq x)))
    (Ideal.ofBits .f32 0x44800000#32)

section Real

variable (x : Fin 1024 → ℝ)

/-- At a row of reals the number under the root is a positive real. -/
theorem meanSq_coe : ∃ u : ℝ, 0 < u ∧ meanSq (fun k => (x k : EReal)) = (u : EReal) := by
  obtain ⟨e, he, h⟩ := bits_eps
  refine ⟨(∑ k, x k * x k) * (1 / 1024) + e, ?_, ?_⟩
  · have : 0 ≤ ∑ k, x k * x k := Finset.sum_nonneg fun k _ => mul_self_nonneg _
    positivity
  · rw [meanSq, bits_width, h, Ideal.div_coe (by norm_num), EReal.coe_add, EReal.coe_mul, coe_sum]
    simp only [EReal.coe_mul]

/-- … so the scale is one over the root of a positive real. -/
theorem inv_coe : ∃ s : ℝ, 0 < s ∧ meanSq (fun k => (x k : EReal)) = ((s * s : ℝ) : EReal)
    ∧ inv (fun k => (x k : EReal)) = ((s⁻¹ : ℝ) : EReal) := by
  obtain ⟨u, hu, h⟩ := meanSq_coe x
  refine ⟨Real.sqrt u, Real.sqrt_pos.2 hu, ?_, ?_⟩
  · rw [Real.mul_self_sqrt hu.le, h]
  · rw [inv, h, Ideal.rsqrt_coe, if_neg (not_lt.2 hu.le), if_neg hu.ne']

end Real

theorem IsReal.inv {x : Fin 1024 → EReal} (h : ∀ k, IsReal (x k)) : IsReal (inv x) := by
  choose y hy using h
  obtain rfl : x = fun k => (y k : EReal) := funext hy
  obtain ⟨s, _, _, h⟩ := inv_coe y
  exact ⟨_, h⟩

theorem IsReal.hat {x : Fin 1024 → EReal} (h : ∀ k, IsReal (x k)) (k : Fin 1024) : IsReal (hat x k) :=
  (h k).mul (IsReal.inv h)

/-- The two forms of the derivative agree on finite rows, and give a finite number. -/
theorem pull_eq {x g : Fin 1024 → EReal} (hx : ∀ k, IsReal (x k)) (hg : ∀ k, IsReal (g k)) (k : Fin 1024) :
    g k * inv x + x k * through x g + through x g * x k = pull x g k ∧ IsReal (pull x g k) := by
  choose y hy using hx
  choose d hd using hg
  obtain rfl : x = fun k => (y k : EReal) := funext hy
  obtain rfl : g = fun k => (d k : EReal) := funext hd
  obtain ⟨s, hs, hm, hi⟩ := inv_coe y
  have hd1 : ∑ k, (d k : EReal) * hat (fun k => (y k : EReal)) k = ((∑ k, d k * (y k * s⁻¹) : ℝ) : EReal) := by
    rw [coe_sum]
    refine Finset.sum_congr rfl fun k _ => ?_
    rw [hat, hi, ← EReal.coe_mul, ← EReal.coe_mul]
  have hd2 : ∑ k, (y k : EReal) * (d k : EReal) = ((∑ k, y k * d k : ℝ) : EReal) := by
    rw [coe_sum]
    exact Finset.sum_congr rfl fun k _ => (EReal.coe_mul _ _).symm
  have hs2 : (s * s : ℝ) ≠ 0 := (mul_pos hs hs).ne'
  have hp : pull (fun k => (y k : EReal)) (fun k => (d k : EReal)) k
      = ((s⁻¹ * (d k - y k * s⁻¹ * ((∑ k, d k * (y k * s⁻¹)) * (1 / 1024))) : ℝ) : EReal) := by
    rw [pull, hd1, hi, hat, hi, bits_width, Ideal.div_coe (by norm_num)]
    simp only [← EReal.coe_mul, ← EReal.coe_sub]
  have ht : through (fun k => (y k : EReal)) (fun k => (d k : EReal))
      = (((∑ k, y k * d k) * (-(1 / 2) * (s⁻¹ * (1 / (s * s)))) * (1 / 1024) : ℝ) : EReal) := by
    rw [through, hd2, hi, hm, bits_neg_half, bits_width, Ideal.div_coe (by norm_num), Ideal.div_coe hs2]
    simp only [← EReal.coe_mul]
  refine ⟨?_, _, hp⟩
  rw [hp, ht, hi]
  simp only [← EReal.coe_mul, ← EReal.coe_add]
  refine congrArg _ ?_
  have e : ∑ k, d k * (y k * s⁻¹) = (∑ k, y k * d k) * s⁻¹ := by
    rw [Finset.sum_mul]
    exact Finset.sum_congr rfl fun k _ => by ring
  rw [e]
  have hs' : s ≠ 0 := hs.ne'
  field_simp
  ring

/-! ## SiLU -/

/-- The logistic function. -/
def logistic (a : EReal) : EReal :=
  Ideal.div 1 (1 + Ideal.exp (-a))

theorem logistic_coe (a : ℝ) : ∃ s : ℝ, logistic (a : EReal) = (s : EReal) := by
  have h : (1 + Real.exp (-a) : ℝ) ≠ 0 := by positivity
  refine ⟨1 * (1 / (1 + Real.exp (-a))), ?_⟩
  rw [logistic, ← EReal.coe_one, ← EReal.coe_neg, Ideal.exp_coe, ← EReal.coe_add, Ideal.div_coe h, ← EReal.coe_mul]

theorem IsReal.logistic {a : EReal} (h : IsReal a) : IsReal (logistic a) := by
  obtain ⟨r, rfl⟩ := h
  exact logistic_coe r

/-- The derivative of SiLU at `a` times `g`, as the kernel writes it. -/
def bend (a g : EReal) : EReal :=
  g * (logistic a * (1 + a * (1 - logistic a)))

/-- The two forms of SiLU's derivative agree on finite numbers, and give a finite number. -/
theorem bend_eq {a g : EReal} (ha : IsReal a) (hg : IsReal g) :
    g * logistic a + a * g * (logistic a * (1 - logistic a)) = bend a g ∧ IsReal (bend a g) := by
  obtain ⟨a, rfl⟩ := ha
  obtain ⟨g, rfl⟩ := hg
  obtain ⟨s, hs⟩ := logistic_coe a
  rw [bend, hs, ← EReal.coe_one]
  simp only [← EReal.coe_mul, ← EReal.coe_add, ← EReal.coe_sub]
  exact ⟨congrArg _ (by ring), _, rfl⟩

/-! ## Sums over the rows, block by block -/

/-- A sum over all rows, taken block by block. -/
theorem sum_blocks {m n N : Nat} (h : N = m * n) (f : Fin N → EReal) :
    ∑ r, f r = ∑ t : Fin m, ∑ p : Fin n, f ⟨n * t.val + p.val, by
      subst h
      calc n * t.val + p.val < n * t.val + n := by omega
        _ = n * (t.val + 1) := by ring
        _ ≤ n * m := Nat.mul_le_mul_left _ t.isLt
        _ = m * n := Nat.mul_comm _ _⟩ := by
  subst h
  rw [← Fintype.sum_prod_type', ← finProdFinEquiv.sum_comp]
  refine Finset.sum_congr rfl fun x _ => congrArg f (Fin.ext ?_)
  simp [finProdFinEquiv, Nat.add_comm]

/-! ## The backward pass of the feed-forward layer, one row at a time -/

/-- The gradient at the second product's result. -/
def dfRow (dy f gpost : Fin 1024 → EReal) : Fin 1024 → EReal := pull f fun k => Ideal.ofBits .f32 0x3F000000#32 * dy k * gpost k

/-- The gradient at the gated activations. -/
def dsRow (df : Fin 1024 → EReal) (wd : Fin 2816 → Fin 1024 → EReal) (j : Fin 2816) : EReal := ∑ k, df k * wd j k

/-- The gradient at the normalized input. -/
def dnRow (ds a b : Fin 2816 → EReal) (wg wu : Fin 2816 → Fin 1024 → EReal) (k : Fin 1024) : EReal :=
  ∑ j, bend (a j) (ds j * b j) * wg j k + ∑ j, ds j * (a j * logistic (a j)) * wu j k

/-- The gradient at the input. -/
def dhRow (dy h dn gpre : Fin 1024 → EReal) (k : Fin 1024) : EReal := dy k + pull h (fun k => dn k * gpre k) k

/-- What the backward pass of a feed-forward block is given: the gradient at its output, its input, the forward
pass's three products, and its weights. -/
structure Given where
  dy : Fin 8320 → Fin 1024 → EReal
  h : Fin 8320 → Fin 1024 → EReal
  a : Fin 8320 → Fin 2816 → EReal
  b : Fin 8320 → Fin 2816 → EReal
  f : Fin 8320 → Fin 1024 → EReal
  gpre : Fin 1024 → EReal
  gpost : Fin 1024 → EReal
  wg : Fin 2816 → Fin 1024 → EReal
  wu : Fin 2816 → Fin 1024 → EReal
  wd : Fin 2816 → Fin 1024 → EReal

/-- The same, of whole arrays. -/
def givenOf (dy h : (⟨2, ![8320, 1024]⟩ : Shape).Idx → EReal) (a b : (⟨2, ![8320, 2816]⟩ : Shape).Idx → EReal)
    (f : (⟨2, ![8320, 1024]⟩ : Shape).Idx → EReal) (gpre gpost : (⟨2, ![1, 1024]⟩ : Shape).Idx → EReal)
    (wg wu wd : (⟨2, ![2816, 1024]⟩ : Shape).Idx → EReal) : Given where
  dy r k := dy (ix2 r k)
  h r k := h (ix2 r k)
  a r j := a (ix2 r j)
  b r j := b (ix2 r j)
  f r k := f (ix2 r k)
  gpre k := gpre (ix2 0 k)
  gpost k := gpost (ix2 0 k)
  wg j k := wg (ix2 j k)
  wu j k := wu (ix2 j k)
  wd j k := wd (ix2 j k)

namespace Given

variable (G : Given)

/-- The gradient at the second product, row `r`. -/
def df (r : Fin 8320) : Fin 1024 → EReal := dfRow (G.dy r) (G.f r) G.gpost

/-- The gradient at the gated product. -/
def ds (r : Fin 8320) : Fin 2816 → EReal := dsRow (G.df r) G.wd

/-- The gradient at the gate's product. -/
def da (r : Fin 8320) (j : Fin 2816) : EReal := bend (G.a r j) (G.ds r j * G.b r j)

/-- The gradient at the value's product. -/
def db (r : Fin 8320) (j : Fin 2816) : EReal := G.ds r j * (G.a r j * logistic (G.a r j))

/-- The gradient at the normalised input. -/
def dn (r : Fin 8320) : Fin 1024 → EReal := dnRow (G.ds r) (G.a r) (G.b r) G.wg G.wu

/-- The normalised input. -/
def n (r : Fin 8320) (k : Fin 1024) : EReal := hat (G.h r) k * G.gpre k

/-- The gradient at the input. -/
def dh (r : Fin 8320) : Fin 1024 → EReal := dhRow (G.dy r) (G.h r) (G.dn r) G.gpre

/-- The gradient at the scale of the output's normalisation, before the rows are summed. -/
def dgpost (r : Fin 8320) (k : Fin 1024) : EReal := Ideal.ofBits .f32 0x3F000000#32 * G.dy r k * hat (G.f r) k

/-- The gradient at the scale of the input's normalisation, before the rows are summed. -/
def dgpre (r : Fin 8320) (k : Fin 1024) : EReal := G.dn r k * hat (G.h r) k

end Given

end Cert.Proof

end
-- ==== Proof.Finite.lean ====
/-
  The precondition, read: an array all of whose magnitudes compare below infinity holds finite numbers.
-/
module

public import proofs.«01_k».proof.Defs
public import proofs.«01_k».proof.Proof.Rows
public import Idealize.ShloMosaic.Lib.ReduceAll
public import Idealize.ShloMosaic.Lib.Pointwise

@[expose] public section

noncomputable section

namespace Cert.Proof.Finite

open Idealize.ShloMosaic

theorem bits_inf : Ideal.ofBits .f32 0x7F800000#32 = ⊤ := by
  simp [Ideal.ofBits, Ideal.ieee]

theorem isReal_of_lt (x : EReal) (h : Ideal.cmp .olt (max x (-x)) ⊤ = 1#1) : IsReal x := by
  have hlt : max x (-x) < ⊤ := by
    by_contra hn
    simp [Ideal.cmp, hn] at h
  induction x using EReal.rec with
  | bot => simp at hlt
  | top => simp at hlt
  | coe r => exact ⟨r, rfl⟩

theorem S_index (i j : Cert.Pre_finite.S_.Idx) : i = j := funext fun k => k.elim0

instance : Subsingleton Cert.Pre_finite.S_.Idx := ⟨S_index⟩

/-- One array's part of the precondition. -/
theorem of_all {s u : Shape} {axes : List (Fin s.rank)} (x : FVec Ideal s .f32) (inf : FVec Ideal s .f32)
    (hinf : ∀ i, inf i = Ideal.ofBits .f32 0x7F800000#32) (init : u.Idx → BitVec 1)
    (h : s.ReducesTo axes Cert.Pre_finite.S_) (hu : 0 < u.numel) (j : Cert.Pre_finite.S_.Idx)
    (e : Host.reduce IntOp.andi (cmpf .olt (Host.absf x) inf) init h hu j = 1#1) (i : s.Idx) : IsReal (x i) := by
  have hi := Host.reduce_andi_all _ _ _ _ j e i
  refine isReal_of_lt (x i) ?_
  rw [← bits_inf, ← hinf i]
  exact hi

theorem and_left {p q : IVec Cert.Pre_finite.S_ 1} {j : Cert.Pre_finite.S_.Idx} (h : andi p q j = 1#1) :
    p j = 1#1 ∧ q j = 1#1 := by
  have h' : IntOp.andi (p j) (q j) = 1#1 := h
  exact IntOp.andi_eq_one.1 h'

theorem facts : Cert.Pre_finite.Facts where
  bcast_S_S8320x1024 := by decide
  reducesTo_S8320x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

theorem fn_real [Cert.Pre_finite.Facts] (x0 : FVec Ideal Cert.Pre_finite.S8320x1024 .f32)
    (x1 : FVec Ideal Cert.Pre_finite.S1x1024 .f32) (x2 x3 : FVec Ideal Cert.Pre_finite.S1024x2816 .f32)
    (x4 : FVec Ideal Cert.Pre_finite.S2816x1024 .f32) (x5 : FVec Ideal Cert.Pre_finite.S1x1024 .f32)
    (x6 : FVec Ideal Cert.Pre_finite.S8320x1024 .f32)
    (h : Cert.Pre_finite.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ ∀ i, IsReal (x6 i) := by
  have h' := congrFun h (fun k => k.elim0)
  simp only [Cert.Pre_finite.fn, Cert.Pre_finite.fn_part1] at h'
  obtain ⟨h', e6⟩ := and_left h'
  obtain ⟨h', e5⟩ := and_left h'
  obtain ⟨h', e4⟩ := and_left h'
  obtain ⟨h', e3⟩ := and_left h'
  obtain ⟨h', e2⟩ := and_left h'
  obtain ⟨e0, e1⟩ := and_left h'
  exact ⟨of_all _ _ (fun _ => rfl) _ _ _ _ e0, of_all _ _ (fun _ => rfl) _ _ _ _ e1, of_all _ _ (fun _ => rfl) _ _ _ _ e2,
    of_all _ _ (fun _ => rfl) _ _ _ _ e3, of_all _ _ (fun _ => rfl) _ _ _ _ e4, of_all _ _ (fun _ => rfl) _ _ _ _ e5,
    of_all _ _ (fun _ => rfl) _ _ _ _ e6⟩

end Cert.Proof.Finite

end
-- ==== Proof.Block.lean ====
/-
  What one run of the body computes from its blocks, written in terms of single rows.
-/
module

public import proofs.«01_k».proof.Proof.Gen.KernelIdeal.Value
public import proofs.«01_k».proof.Proof.Rows
public import Idealize.ShloMosaic.Lib.Pipeline.ValueKit
public import Idealize.ShloMosaic.Lib.Pointwise
public import Idealize.ShloMosaic.Lib.MatmulPlain
public import Idealize.ShloMosaic.Lib.Tactic

@[expose] public section

noncomputable section

open Idealize.ShloMosaic Idealize.ShloMosaic.TcCoe

namespace Cert.Proof.Block

open Cert.KernelIdeal Cert.KernelIdeal.Gen

theorem inv_h (x : Vec Ideal S416x1024 .f32) (p : Fin 416) (q : Fin 1) :
    k0_pay10 (F := Ideal) x (ix2 p q) = inv fun k => x (ix2 p k) := by
  unfold k0_pay10
  pointwise
  rfl

theorem hat_h (x : Vec Ideal S416x1024 .f32) (p : Fin 416) (k : Fin 1024) :
    k0_pay11 (F := Ideal) x (ix2 p k) = hat (fun k => x (ix2 p k)) k := by
  unfold k0_pay11
  pointwise
  rw [inv_h]
  rfl

theorem inv_f (x : Vec Ideal S416x1024 .f32) (p : Fin 416) (q : Fin 1) :
    k0_pay4 (F := Ideal) x (ix2 p q) = inv fun k => x (ix2 p k) := by
  unfold k0_pay4 k0_pay3
  pointwise
  rfl

theorem hat_f (x : Vec Ideal S416x1024 .f32) (p : Fin 416) (k : Fin 1024) :
    k0_pay5 (F := Ideal) x (ix2 p k) = hat (fun k => x (ix2 p k)) k := by
  unfold k0_pay5 k0_pay3
  pointwise
  rw [inv_f]
  rfl

theorem df_apply (x0 x4 : Vec Ideal S416x1024 .f32) (x6 : Vec Ideal S1x1024 .f32) (p : Fin 416) (k : Fin 1024) :
    k0_pay8 (F := Ideal) x0 x4 x6 (ix2 p k)
      = dfRow (fun k => x0 (ix2 p k)) (fun k => x4 (ix2 p k)) (fun k => x6 (ix2 0 k)) k := by
  unfold k0_pay8 k0_pay2
  pointwise
  simp only [inv_f, hat_f]
  rfl

theorem ds_apply (df : Vec Ideal S416x1024 .f32) (x9 : Vec Ideal S2816x1024 .bf16) (p : Fin 416) (j : Fin 2816) :
    k0_pay13 (F := Ideal) df x9 (ix2 p j) = dsRow (fun k => df (ix2 p k)) (fun j k => x9 (ix2 j k)) j := by
  unfold k0_pay13 k0_pay9
  pointwise
  rfl

theorem sig_apply (x2 : Vec Ideal S416x2816 .bf16) (p : Fin 416) (j : Fin 2816) :
    k0_pay16 (F := Ideal) x2 (ix2 p j) = logistic (x2 (ix2 p j)) := by
  unfold k0_pay16 k0_pay14
  pointwise
  rw [zero_sub]
  rfl

theorem a_apply (x2 : Vec Ideal S416x2816 .bf16) (p : Fin 416) (j : Fin 2816) :
    k0_pay14 (F := Ideal) x2 (ix2 p j) = x2 (ix2 p j) := by
  unfold k0_pay14
  pointwise

theorem b_apply (x3 : Vec Ideal S416x2816 .bf16) (p : Fin 416) (j : Fin 2816) :
    k0_pay15 (F := Ideal) x3 (ix2 p j) = x3 (ix2 p j) := by
  unfold k0_pay15
  pointwise

/-- The gradient at the normalized input, of one row block. -/
def dn (x0 : Vec Ideal S416x1024 .f32) (x2 x3 : Vec Ideal S416x2816 .bf16) (x4 : Vec Ideal S416x1024 .f32)
    (x6 : Vec Ideal S1x1024 .f32) (x7 x8 x9 : Vec Ideal S2816x1024 .bf16) : FVec Ideal S416x1024 .f32 :=
  k0_pay19 (k0_pay13 (k0_pay8 x0 x4 x6) x9) (k0_pay14 x2) (k0_pay15 x3) (k0_pay16 x2)
    (k0_pay17 (k0_pay8 x0 x4 x6) x9 x2) x7 x8

theorem dn_apply (x0 : Vec Ideal S416x1024 .f32) (x2 x3 : Vec Ideal S416x2816 .bf16) (x4 : Vec Ideal S416x1024 .f32)
    (x6 : Vec Ideal S1x1024 .f32) (x7 x8 x9 : Vec Ideal S2816x1024 .bf16) (p : Fin 416) (k : Fin 1024) :
    dn x0 x2 x3 x4 x6 x7 x8 x9 (ix2 p k)
      = dnRow (dsRow (dfRow (fun k => x0 (ix2 p k)) (fun k => x4 (ix2 p k)) (fun k => x6 (ix2 0 k)))
          (fun j k => x9 (ix2 j k))) (fun j => x2 (ix2 p j)) (fun j => x3 (ix2 p j))
          (fun j k => x7 (ix2 j k)) (fun j k => x8 (ix2 j k)) k := by
  unfold dn k0_pay19 k0_pay18 k0_pay17
  pointwise
  simp only [sig_apply, ds_apply, df_apply, a_apply, b_apply]
  rfl

theorem dh_apply (x0 x1 dn : Vec Ideal S416x1024 .f32) (x5 : Vec Ideal S1x1024 .f32) (p : Fin 416) (k : Fin 1024) :
    k0_pay1 (F := Ideal) x0 (k0_pay10 x1) (k0_pay11 x1) dn x5 (ix2 p k)
      = dhRow (fun k => x0 (ix2 p k)) (fun k => x1 (ix2 p k)) (fun k => dn (ix2 p k)) (fun k => x5 (ix2 0 k)) k := by
  unfold k0_pay1
  pointwise
  simp only [inv_h, hat_h]
  rfl

theorem gpost_apply (x0 x4 : Vec Ideal S416x1024 .f32) (r : Vec Ideal S1x1024 .f32) (q : Fin 1) (k : Fin 1024) :
    k0_pay7 (F := Ideal) x0 x4 r (ix2 q k) = r (ix2 q k)
      + ∑ p : Fin 416, Ideal.ofBits .f32 0x3F000000#32 * x0 (ix2 p k) * hat (fun k => x4 (ix2 p k)) k := by
  unfold k0_pay7 k0_pay2
  pointwise
  simp only [hat_f]

theorem gpre_apply (x1 dn : Vec Ideal S416x1024 .f32) (r : Vec Ideal S1x1024 .f32) (q : Fin 1) (k : Fin 1024) :
    k0_pay21 (F := Ideal) (k0_pay11 x1) dn r (ix2 q k) = r (ix2 q k)
      + ∑ p : Fin 416, dn (ix2 p k) * hat (fun k => x1 (ix2 p k)) k := by
  unfold k0_pay21
  pointwise
  simp only [hat_h]

/-! ## The four arrays for the weight gradients -/

theorem df16_apply (df : Vec Ideal S416x1024 .f32) (p : Fin 416) (k : Fin 1024) :
    k0_pay9 (F := Ideal) df (ix2 p k) = df (ix2 p k) := by
  unfold k0_pay9
  pointwise

theorem n_apply (x1 : Vec Ideal S416x1024 .f32) (x5 : Vec Ideal S1x1024 .f32) (p : Fin 416) (k : Fin 1024) :
    k0_pay12 (F := Ideal) x1 x5 (ix2 p k) = hat (fun k => x1 (ix2 p k)) k * x5 (ix2 0 k) := by
  unfold k0_pay12
  pointwise
  simp only [hat_h]

theorem da_apply (df : Vec Ideal S416x1024 .f32) (x2 x3 : Vec Ideal S416x2816 .bf16) (x9 : Vec Ideal S2816x1024 .bf16)
    (p : Fin 416) (j : Fin 2816) :
    k0_pay18 (F := Ideal) (k0_pay13 df x9) (k0_pay14 x2) (k0_pay15 x3) (k0_pay16 x2) (ix2 p j)
      = bend (x2 (ix2 p j)) (dsRow (fun k => df (ix2 p k)) (fun j k => x9 (ix2 j k)) j * x3 (ix2 p j)) := by
  unfold k0_pay18
  pointwise
  simp only [sig_apply, ds_apply, a_apply, b_apply]
  rfl

theorem db_apply (df : Vec Ideal S416x1024 .f32) (x2 : Vec Ideal S416x2816 .bf16) (x9 : Vec Ideal S2816x1024 .bf16)
    (p : Fin 416) (j : Fin 2816) :
    k0_pay17 (F := Ideal) df x9 x2 (ix2 p j)
      = dsRow (fun k => df (ix2 p k)) (fun j k => x9 (ix2 j k)) j * (x2 (ix2 p j) * logistic (x2 (ix2 p j))) := by
  unfold k0_pay17
  pointwise
  simp only [sig_apply, ds_apply, a_apply]

end Cert.Proof.Block
-- ==== Proof.RowStore.lean ====
/-
  A buffer of eight rows of which only the first is added into: what it reads after a store to its first row.
-/
module

public import Idealize.ShloMosaic.Lib.Pipeline.ValueKit
public import Idealize.ShloMosaic.Lib.Pointwise
public import Idealize.ShloMosaic.Lib.WritesUnit

@[expose] public section

noncomputable section

namespace Cert.Proof.RowStore

open Idealize.ShloMosaic

variable {Val : EltTy → Type} {e : EltTy}

/-- The shape of the buffer, and of its first row. -/
abbrev Rows : Shape := ⟨2, ![8, 1024]⟩
abbrev Row : Shape := ⟨2, ![1, 1024]⟩

/-- After a store to the first row of `X`, the buffer reads the stored row there and `X` below. -/
def put (X : Rows.Idx → Val e) (w : Row.Idx → Val e) (i : Rows.Idx) : Val e :=
  if (i 0).val = 0 then w (ix2 0 (i 1)) else X i

/-- Over known contents. -/
theorem read_row {g : RefSig} {κ : Kind} {sp : Space} (a : Memref g κ sp Rows e) (h : a.IsWhole) (X : Rows.Idx → Val e)
    (inb : ∀ a : Fin 2, (![0, 0] : Fin 2 → ℕ) a + (![1, 1024] : Fin 2 → ℕ) a ≤ (![8, 1024] : Fin 2 → ℕ) a)
    (w : Row.Idx → Val e) (i : Rows.Idx) :
    a.view.read Val (a.view.writes Val (h.unread X)
      [(⟨Rect.unit (s := Rows) ![0, 0] ![1, 1024] inb, w⟩ : View.Piece Val Rows e)]) i = put X w i := by
  unfold put
  split_ifs with h0
  · exact View.read_writes_cons_rows_of_mem a.view _ inb w [] i (ix2 0 (i 1)) rfl (by simpa using h0) rfl
  · rw [View.read_writes_cons_rows_of_not_mem a.view _ inb w [] i rfl (W := 1) rfl (by omega), View.writes_nil,
      h.read_unread]

/-- Over a fill of the whole buffer. -/
theorem canon_row [∀ e, Nonempty (Val e)]
    (inb : ∀ a : Fin 2, (![0, 0] : Fin 2 → ℕ) a + (![1, 1024] : Fin 2 → ℕ) a ≤ (![8, 1024] : Fin 2 → ℕ) a)
    (inb' : ∀ a : Fin 2, (![0, 0] : Fin 2 → ℕ) a + (![8, 1024] : Fin 2 → ℕ) a ≤ (![8, 1024] : Fin 2 → ℕ) a)
    (w : Row.Idx → Val e) (z : Rows.Idx → Val e) (i : Rows.Idx) :
    View.canon [(⟨Rect.unit (s := Rows) ![0, 0] ![1, 1024] inb, w⟩ : View.Piece Val Rows e),
      ⟨Rect.unit (s := Rows) ![0, 0] ![8, 1024] inb', z⟩] i = put z w i := by
  unfold put
  split_ifs with h0
  · have hi : i = (Rect.unit (s := Rows) ![0, 0] ![1, 1024] inb).emb (ix2 0 (i 1)) := by
      funext a
      apply Fin.ext
      match a with
      | ⟨0, _⟩ => show (i 0).val = 0 + 1 * 0; omega
      | ⟨1, _⟩ => show (i 1).val = 0 + 1 * (i 1).val; omega
    conv_lhs => rw [hi]
    exact View.canon_cons_emb (Rect.unit (s := Rows) ![0, 0] ![1, 1024] inb) w _ _
  · rw [View.canon_cons_of_not_mem, View.canon_cons_unit_lit inb' z [] (by decide)]
    rw [Rect.mem_set_unit]
    intro h
    have : (i 0).val < 0 + 1 := (h 0).2
    omega

/-- The first row read back after the fill. -/
theorem readCov_row [∀ e, Nonempty (Val e)] {g : RefSig} {κ : Kind} {sp : Space} (v : View g κ sp Rows e)
    (inb : ∀ a : Fin 2, (![0, 0] : Fin 2 → ℕ) a + (![1, 1024] : Fin 2 → ℕ) a ≤ (![8, 1024] : Fin 2 → ℕ) a)
    (inb' : ∀ a : Fin 2, (![0, 0] : Fin 2 → ℕ) a + (![8, 1024] : Fin 2 → ℕ) a ≤ (![8, 1024] : Fin 2 → ℕ) a)
    (z : Rows.Idx → Val e) :
    v.readCov [(⟨Rect.unit (s := Rows) ![0, 0] ![8, 1024] inb', z⟩ : View.Piece Val Rows e)]
      (Rect.unit (s := Rows) ![0, 0] ![1, 1024] inb).toLoadRect
      = View.ld z (Rect.unit (s := Rows) ![0, 0] ![1, 1024] inb) := by
  rw [View.readCov_eq_canon_ld, View.canon_cons_unit_lit inb' z [] (by decide)]
  intro y
  refine ⟨_, List.mem_singleton_self _, ?_⟩
  rw [Rect.mem_set_unit]
  intro a
  match a with
  | ⟨0, _⟩ => exact ⟨Nat.zero_le _, by have := (y 0).isLt; simpa using this⟩
  | ⟨1, _⟩ => exact ⟨Nat.zero_le _, by have := (y 1).isLt; simpa using this⟩

/-- A load of the first row. -/
theorem ld_row (X : Rows.Idx → Val e)
    (inb : ∀ a : Fin 2, (![0, 0] : Fin 2 → ℕ) a + (![1, 1024] : Fin 2 → ℕ) a ≤ (![8, 1024] : Fin 2 → ℕ) a)
    (k : Fin 1024) :
    View.ld X (Rect.unit (s := Rows) ![0, 0] ![1, 1024] inb) (ix2 (0 : Fin 1) k) = X (ix2 0 k) := by
  show X _ = X _
  congr 1
  funext a
  apply Fin.ext
  match a with
  | ⟨0, _⟩ => rfl
  | ⟨1, _⟩ => show 0 + 1 * k.val = k.val; omega

end Cert.Proof.RowStore
-- ==== Proof.RowSums.lean ====
/-
  Sums over the 8320 rows, taken block by block of 416 and kept in the first of eight rows.
-/
module

public import proofs.«01_k».proof.Proof.Rows
public import proofs.«01_k».proof.Proof.RowStore

@[expose] public section

noncomputable section

open Idealize.ShloMosaic Idealize.ShloMosaic.TcCoe

namespace Cert.Proof.RowSums

/-- The row of the whole array that is row `p` of block `t`. -/
def at_ (t : Fin 20) (p : Fin 416) : Fin 8320 :=
  ⟨416 * t.val + p.val, by have : t.val < 20 := t.isLt; omega⟩

/-- The sum of a row function over block `t`, in row 0 of eight. -/
def part (g : Fin 8320 → Fin 1024 → EReal) (t : Fin 20) (i : (⟨2, ![8, 1024]⟩ : Shape).Idx) : EReal :=
  if (i 0).val = 0 then ∑ p : Fin 416, g (at_ t p) (i 1) else 0

/-- The sum of a row function over all rows, in row 0 of eight. -/
def total (g : Fin 8320 → Fin 1024 → EReal) (i : (⟨2, ![8, 1024]⟩ : Shape).Idx) : EReal :=
  if (i 0).val = 0 then ∑ r, g r (i 1) else 0

theorem sum_part (g : Fin 8320 → Fin 1024 → EReal) (i : (⟨2, ![8, 1024]⟩ : Shape).Idx) : ∑ t, part g t i = total g i := by
  unfold part total
  split_ifs with h
  · exact (sum_blocks (m := 20) (n := 416) rfl fun r => g r (i 1)).symm
  · exact Finset.sum_const_zero

/-- A step that adds the block's sum to the first row. -/
theorem put_step (g : Fin 8320 → Fin 1024 → EReal) (t : Fin 20) (X : (⟨2, ![8, 1024]⟩ : Shape).Idx → EReal)
    (w : (⟨2, ![1, 1024]⟩ : Shape).Idx → EReal) (hw : ∀ k, w (ix2 0 k) = X (ix2 0 k) + ∑ p : Fin 416, g (at_ t p) k) (i : (⟨2, ![8, 1024]⟩ : Shape).Idx) :
    RowStore.put (Val := Elt Ideal) (e := .f32) X w i = X i + part g t i := by
  unfold RowStore.put part
  split_ifs with h
  · refine (hw (i 1)).trans ?_
    have : (ix2 (0 : Fin 8) (i 1) : (⟨2, ![8, 1024]⟩ : Shape).Idx) = i := by
      funext a
      apply Fin.ext
      match a with
      | ⟨0, _⟩ => exact h.symm
      | ⟨1, _⟩ => rfl
    rw [this]
  · rw [add_zero]

end Cert.Proof.RowSums

end
-- ==== Proof.Arrays.lean ====
/-
  The arrays the launch leaves: the gradient at the input, and the two sums over the rows.
-/
module

public import proofs.«01_k».proof.Proof.Block
public import proofs.«01_k».proof.Proof.RowSums

@[expose] public section

noncomputable section

open Idealize.ShloMosaic Idealize.ShloMosaic.TcCoe

namespace Cert.Proof.Arrays

open Cert.KernelIdeal Cert.KernelIdeal.Gen Cert.Proof.Block Cert.Proof.RowSums

variable (m : (ℓ : Loc nD τ sig) → Buf (Elt Ideal) ℓ) (c : Dev nD)

theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![t.val, 0] ∧ win0_15.index t = ![0, 0] ∧ win0_16.index t = ![0, 0] :=
  (by decide +kernel : ∀ t : Fin grid0.N, _)

theorem blk0 (t : Fin cfg0.N) (p : Fin 416) (k : Fin 1024) :
    (iblk m c 0 t : Vec Ideal S416x1024 .f32) (ix2 p k) = V m c main_arg6 (ix2 (at_ t p) k) := by
  blk_ext [iblk, at_, idx t]

theorem blk1 (t : Fin cfg0.N) (p : Fin 416) (k : Fin 1024) :
    (iblk m c 1 t : Vec Ideal S416x1024 .f32) (ix2 p k) = V m c main_arg0 (ix2 (at_ t p) k) := by
  blk_ext [iblk, at_, idx t]

theorem blk2 (t : Fin cfg0.N) (p : Fin 416) (k : Fin 2816) :
    (iblk m c 2 t : Vec Ideal S416x2816 .bf16) (ix2 p k) = V m c main_v14 (ix2 (at_ t p) k) := by
  blk_ext [iblk, at_, idx t]

theorem blk3 (t : Fin cfg0.N) (p : Fin 416) (k : Fin 2816) :
    (iblk m c 3 t : Vec Ideal S416x2816 .bf16) (ix2 p k) = V m c main_v15 (ix2 (at_ t p) k) := by
  blk_ext [iblk, at_, idx t]

theorem blk4 (t : Fin cfg0.N) (p : Fin 416) (k : Fin 1024) :
    (iblk m c 4 t : Vec Ideal S416x1024 .f32) (ix2 p k) = V m c main_v18 (ix2 (at_ t p) k) := by
  blk_ext [iblk, at_, idx t]

theorem blk5 (t : Fin cfg0.N) (p : Fin 1) (k : Fin 1024) :
    (iblk m c 5 t : Vec Ideal S1x1024 .f32) (ix2 p k) = V m c main_arg1 (ix2 p k) := by
  blk_ext [iblk, idx t]

theorem blk6 (t : Fin cfg0.N) (p : Fin 1) (k : Fin 1024) :
    (iblk m c 6 t : Vec Ideal S1x1024 .f32) (ix2 p k) = V m c main_arg5 (ix2 p k) := by
  blk_ext [iblk, idx t]

theorem blk7 (t : Fin cfg0.N) (p : Fin 2816) (k : Fin 1024) :
    (iblk m c 7 t : Vec Ideal S2816x1024 .bf16) (ix2 p k) = V m c main_v20 (ix2 p k) := by
  blk_ext [iblk, idx t]

theorem blk8 (t : Fin cfg0.N) (p : Fin 2816) (k : Fin 1024) :
    (iblk m c 8 t : Vec Ideal S2816x1024 .bf16) (ix2 p k) = V m c main_v22 (ix2 p k) := by
  blk_ext [iblk, idx t]

theorem blk9 (t : Fin cfg0.N) (p : Fin 2816) (k : Fin 1024) :
    (iblk m c 9 t : Vec Ideal S2816x1024 .bf16) (ix2 p k) = V m c main_v23 (ix2 p k) := by
  blk_ext [iblk, idx t]

/-- What the launch is given. -/
def given : Given :=
  givenOf (V m c main_arg6) (V m c main_arg0) (V m c main_v14) (V m c main_v15) (V m c main_v18) (V m c main_arg1)
    (V m c main_arg5) (V m c main_v20) (V m c main_v22) (V m c main_v23)

theorem dn_blk (t : Fin cfg0.N) (p : Fin 416) (k : Fin 1024) :
    dn (iblk m c 0 t) (iblk m c 2 t) (iblk m c 3 t) (iblk m c 4 t) (iblk m c 6 t) (iblk m c 7 t) (iblk m c 8 t)
      (iblk m c 9 t) (ix2 p k) = (given m c).dn (at_ t p) k := by
  rw [dn_apply]
  simp only [blk0, blk2, blk3, blk4, blk6, blk7, blk8, blk9]
  rfl

theorem dh_blk (t : Fin cfg0.N) (y : S416x1024.Idx) :
    k0_pay1 (F := Ideal) (iblk m c 0 t) (k0_pay10 (iblk m c 1 t)) (k0_pay11 (iblk m c 1 t))
      (dn (iblk m c 0 t) (iblk m c 2 t) (iblk m c 3 t) (iblk m c 4 t) (iblk m c 6 t) (iblk m c 7 t) (iblk m c 8 t)
        (iblk m c 9 t)) (iblk m c 5 t) y
      = (given m c).dh (at_ t (y 0)) (y 1) := by
  obtain ⟨p, k, rfl⟩ : ∃ (p : Fin 416) (k : Fin 1024), y = ix2 p k := ⟨y 0, y 1, eq_ix2 y⟩
  rw [dh_apply]
  simp only [dn_blk, blk0, blk1, blk5]
  rfl

theorem dh_array : (dats m 0 c).arrAt 10 cfg0.N = fun i : S8320x1024.Idx => (given m c).dh (i 0) (i 1) := by
  refine (dats m 0 c).arrAt_eq_of_covers 10 _ (by decide +kernel) fun t hf y => ?_
  blk_simp
  have he : ((View.whole main_v24_0).slice (win0_10.rect t)).emb y = ix2 (at_ t (y 0)) (y 1) := by
    blk_ext [at_, idx t]
  rw [after0_10, he]
  by_cases h : t.val % 20 = 0
  · rw [outsAt0_A m c t h h]
    frame_out
    exact dh_blk m c t y
  · rw [outsAt0_B m c t h h]
    frame_out
    exact dh_blk m c t y

/-! ## The two sums over the rows -/

theorem gpost_blk (t : Fin cfg0.N) (X : Vec Ideal S1x1024 .f32) (k : Fin 1024) :
    k0_pay7 (F := Ideal) (iblk m c 0 t) (iblk m c 4 t) X (ix2 0 k)
      = X (ix2 0 k) + ∑ p : Fin 416, (given m c).dgpost (at_ t p) k := by
  rw [gpost_apply]
  simp only [blk0, blk4]
  rfl

theorem gpre_blk (t : Fin cfg0.N) (X : Vec Ideal S1x1024 .f32) (k : Fin 1024) :
    k0_pay21 (F := Ideal) (k0_pay11 (iblk m c 1 t)) (dn (iblk m c 0 t) (iblk m c 2 t) (iblk m c 3 t) (iblk m c 4 t)
        (iblk m c 6 t) (iblk m c 7 t) (iblk m c 8 t) (iblk m c 9 t)) X (ix2 0 k)
      = X (ix2 0 k) + ∑ p : Fin 416, (given m c).dgpre (at_ t p) k := by
  rw [gpre_apply]
  simp only [blk1, dn_blk]
  rfl

theorem zero_apply (i : S8x1024.Idx) : k0_pay6 (F := Ideal) i = 0 := by
  unfold k0_pay6
  exact bits_zero

theorem zero_apply' (i : S8x1024.Idx) : k0_pay20 (F := Ideal) i = 0 := by
  unfold k0_pay20
  exact bits_zero

theorem gpost_sum (t : Fin cfg0.N) (ht : t.val + 1 = cfg0.N) (i : S8x1024.Idx) :
    (outsAt0 m c t.val t.isLt).2.2.2.2.2.2 i = total ((given m c).dgpost) i := by
  rw [Pipeline.eq_sum_fin_of_reset_step_last (fun n h => (outsAt0 m c n h).2.2.2.2.2.2 i) 20 (0 : EReal)
    (fun t => part ((given m c).dgpost) t i) ?_ ?_ (by decide) t ht, zero_add]
  · exact sum_part (given m c).dgpost i
  · intro t h
    rw [outsAt0_A m c t h h]
    frame_out
    rw [RowStore.canon_row, RowStore.readCov_row, put_step ((given m c).dgpost) t _ _ _ i, zero_apply]
    intro k
    rw [gpost_blk, RowStore.ld_row]
  · intro t h
    rw [outsAt0_B m c t h h]
    frame_out
    rw [RowStore.read_row, put_step ((given m c).dgpost) t _ _ _ i]
    intro k
    rw [gpost_blk, RowStore.ld_row]

theorem gpre_sum (t : Fin cfg0.N) (ht : t.val + 1 = cfg0.N) (i : S8x1024.Idx) :
    (outsAt0 m c t.val t.isLt).2.2.2.2.2.1 i = total ((given m c).dgpre) i := by
  rw [Pipeline.eq_sum_fin_of_reset_step_last (fun n h => (outsAt0 m c n h).2.2.2.2.2.1 i) 20 (0 : EReal)
    (fun t => part ((given m c).dgpre) t i) ?_ ?_ (by decide) t ht, zero_add]
  · exact sum_part (given m c).dgpre i
  · intro t h
    rw [outsAt0_A m c t h h]
    frame_out
    rw [RowStore.canon_row, RowStore.readCov_row, put_step ((given m c).dgpre) t _ _ _ i, zero_apply']
    intro k
    exact (gpre_blk m c t _ k).trans (by rw [RowStore.ld_row])
  · intro t h
    rw [outsAt0_B m c t h h]
    frame_out
    rw [RowStore.read_row, put_step ((given m c).dgpre) t _ _ _ i]
    intro k
    exact (gpre_blk m c t _ k).trans (by rw [RowStore.ld_row])

theorem gpost_array : (dats m 0 c).arrAt 16 cfg0.N = total ((given m c).dgpost) := by
  refine (dats m 0 c).arrAt_eq_of_covers 16 _ (by decide +kernel) fun t hf y => ?_
  blk_simp
  have he : ((View.whole main_v24_6).slice (win0_16.rect t)).emb y = y := by
    blk_ext [idx t]
  rw [after0_16, he]
  have hm := (flush0_16 t).mp hf
  exact gpost_sum m c t (by have : t.val < 20 := t.isLt; show t.val + 1 = 20; omega) y

theorem gpre_array : (dats m 0 c).arrAt 15 cfg0.N = total ((given m c).dgpre) := by
  refine (dats m 0 c).arrAt_eq_of_covers 15 _ (by decide +kernel) fun t hf y => ?_
  blk_simp
  have he : ((View.whole main_v24_5).slice (win0_15.rect t)).emb y = y := by
    blk_ext [idx t]
  rw [after0_15, he]
  have hm := (flush0_15 t).mp hf
  exact gpre_sum m c t (by have : t.val < 20 := t.isLt; show t.val + 1 = 20; omega) y

end Cert.Proof.Arrays
-- ==== Proof.Wide.lean ====
/-
  The launch's four arrays that the weight gradients take: the gradients at the block's three products and the
  normalised input, row by row.
-/
module

public import proofs.«01_k».proof.Proof.Arrays

@[expose] public section

noncomputable section

open Idealize.ShloMosaic Idealize.ShloMosaic.TcCoe

namespace Cert.Proof.Wide

open Cert.KernelIdeal Cert.KernelIdeal.Gen Cert.Proof.Block Cert.Proof.Arrays Cert.Proof.RowSums

variable (m : (ℓ : Loc nD τ sig) → Buf (Elt Ideal) ℓ) (c : Dev nD)

theorem idx : ∀ t : Fin cfg0.N,
    win0_11.index t = ![t.val, 0] ∧ win0_12.index t = ![t.val, 0] ∧ win0_13.index t = ![t.val, 0]
    ∧ win0_14.index t = ![t.val, 0] :=
  (by decide +kernel : ∀ t : Fin grid0.N, _)

theorem df_blk (t : Fin cfg0.N) (p : Fin 416) (k : Fin 1024) :
    k0_pay8 (F := Ideal) (iblk m c 0 t) (iblk m c 4 t) (iblk m c 6 t) (ix2 p k) = (given m c).df (at_ t p) k := by
  rw [df_apply]
  simp only [blk0, blk4, blk6]
  rfl

theorem df16_blk (t : Fin cfg0.N) (y : S416x1024.Idx) :
    k0_pay9 (F := Ideal) (k0_pay8 (iblk m c 0 t) (iblk m c 4 t) (iblk m c 6 t)) y = (given m c).df (at_ t (y 0)) (y 1) := by
  obtain ⟨p, k, rfl⟩ : ∃ (p : Fin 416) (k : Fin 1024), y = ix2 p k := ⟨y 0, y 1, eq_ix2 y⟩
  rw [df16_apply, df_blk]
  rfl

theorem da_blk (t : Fin cfg0.N) (y : S416x2816.Idx) :
    k0_pay18 (F := Ideal) (k0_pay13 (k0_pay8 (iblk m c 0 t) (iblk m c 4 t) (iblk m c 6 t)) (iblk m c 9 t))
      (k0_pay14 (iblk m c 2 t)) (k0_pay15 (iblk m c 3 t)) (k0_pay16 (iblk m c 2 t)) y
      = (given m c).da (at_ t (y 0)) (y 1) := by
  obtain ⟨p, j, rfl⟩ : ∃ (p : Fin 416) (j : Fin 2816), y = ix2 p j := ⟨y 0, y 1, eq_ix2 y⟩
  rw [da_apply]
  simp only [df_blk, blk2, blk3, blk9]
  rfl

theorem db_blk (t : Fin cfg0.N) (y : S416x2816.Idx) :
    k0_pay17 (F := Ideal) (k0_pay8 (iblk m c 0 t) (iblk m c 4 t) (iblk m c 6 t)) (iblk m c 9 t) (iblk m c 2 t) y
      = (given m c).db (at_ t (y 0)) (y 1) := by
  obtain ⟨p, j, rfl⟩ : ∃ (p : Fin 416) (j : Fin 2816), y = ix2 p j := ⟨y 0, y 1, eq_ix2 y⟩
  rw [db_apply]
  simp only [df_blk, blk2, blk9]
  rfl

theorem n_blk (t : Fin cfg0.N) (y : S416x1024.Idx) :
    k0_pay12 (F := Ideal) (iblk m c 1 t) (iblk m c 5 t) y = (given m c).n (at_ t (y 0)) (y 1) := by
  obtain ⟨p, k, rfl⟩ : ∃ (p : Fin 416) (k : Fin 1024), y = ix2 p k := ⟨y 0, y 1, eq_ix2 y⟩
  rw [n_apply]
  simp only [blk1, blk5]
  rfl

theorem df_array : (dats m 0 c).arrAt 13 cfg0.N = fun i : S8320x1024.Idx => (given m c).df (i 0) (i 1) := by
  refine (dats m 0 c).arrAt_eq_of_covers 13 _ (by decide +kernel) fun t hf y => ?_
  blk_simp
  have he : ((View.whole main_v24_3).slice (win0_13.rect t)).emb y = ix2 (at_ t (y 0)) (y 1) := by
    blk_ext [at_, idx t]
  rw [after0_13, he]
  by_cases h : t.val % 20 = 0
  · rw [outsAt0_A m c t h h]
    frame_out
    exact df16_blk m c t y
  · rw [outsAt0_B m c t h h]
    frame_out
    exact df16_blk m c t y

theorem da_array : (dats m 0 c).arrAt 11 cfg0.N = fun i : S8320x2816.Idx => (given m c).da (i 0) (i 1) := by
  refine (dats m 0 c).arrAt_eq_of_covers 11 _ (by decide +kernel) fun t hf y => ?_
  blk_simp
  have he : ((View.whole main_v24_1).slice (win0_11.rect t)).emb y = ix2 (at_ t (y 0)) (y 1) := by
    blk_ext [at_, idx t]
  rw [after0_11, he]
  by_cases h : t.val % 20 = 0
  · rw [outsAt0_A m c t h h]
    frame_out
    exact da_blk m c t y
  · rw [outsAt0_B m c t h h]
    frame_out
    exact da_blk m c t y

theorem db_array : (dats m 0 c).arrAt 12 cfg0.N = fun i : S8320x2816.Idx => (given m c).db (i 0) (i 1) := by
  refine (dats m 0 c).arrAt_eq_of_covers 12 _ (by decide +kernel) fun t hf y => ?_
  blk_simp
  have he : ((View.whole main_v24_2).slice (win0_12.rect t)).emb y = ix2 (at_ t (y 0)) (y 1) := by
    blk_ext [at_, idx t]
  rw [after0_12, he]
  by_cases h : t.val % 20 = 0
  · rw [outsAt0_A m c t h h]
    frame_out
    exact db_blk m c t y
  · rw [outsAt0_B m c t h h]
    frame_out
    exact db_blk m c t y

theorem n_array : (dats m 0 c).arrAt 14 cfg0.N = fun i : S8320x1024.Idx => (given m c).n (i 0) (i 1) := by
  refine (dats m 0 c).arrAt_eq_of_covers 14 _ (by decide +kernel) fun t hf y => ?_
  blk_simp
  have he : ((View.whole main_v24_4).slice (win0_14.rect t)).emb y = ix2 (at_ t (y 0)) (y 1) := by
    blk_ext [at_, idx t]
  rw [after0_14, he]
  by_cases h : t.val % 20 = 0
  · rw [outsAt0_A m c t h h]
    frame_out
    exact n_blk m c t y
  · rw [outsAt0_B m c t h h]
    frame_out
    exact n_blk m c t y

end Cert.Proof.Wide

end
-- ==== Proof.Host.lean ====
/-
  What the kernel's host operations hand to the call: the forward pass's two projections and its product, as
  the reference computes them, and the weights, two of them transposed.
-/
module

public import proofs.«01_k».proof.Proof.Gen.KernelIdeal.Value
public import proofs.«01_k».proof.Proof.Gen.ReferenceIdeal.Read
public import proofs.«01_k».proof.Proof.Rows
public import Idealize.ShloMosaic.Lib.ValueLayout

@[expose] public section

noncomputable section

namespace Cert.Proof.Host

open Cert.KernelIdeal Cert.KernelIdeal.Gen Idealize.ShloMosaic Idealize.ShloMosaic.TcCoe Idealize.SL.Sem

variable (m : (ℓ : Loc nD τ sig) → Buf (Elt Ideal) ℓ) (c : Dev nD)

section
open Cert.ReferenceIdeal.Read

variable (x0 : Vec Ideal S8320x1024 .f32) (x1 : Vec Ideal S1x1024 .f32) (x2 x3 : Vec Ideal S1024x2816 .f32)
  (x4 : Vec Ideal S2816x1024 .f32)

/-! The reference adds zero to each product, to take the gradient there. -/

theorem add_a : val_main_v18 (F := Ideal) x0 x1 x2 = val_main_v17 (F := Ideal) x0 x1 x2 :=
  funext fun i => (congrArg (val_main_v17 (F := Ideal) x0 x1 x2 i + ·) bits_zero).trans (add_zero _)

theorem add_b : val_main_v21 (F := Ideal) x0 x1 x3 = val_main_v20 (F := Ideal) x0 x1 x3 :=
  funext fun i => (congrArg (val_main_v20 (F := Ideal) x0 x1 x3 i + ·) bits_zero).trans (add_zero _)

theorem add_f : val_main_v24 (F := Ideal) x0 x1 x2 x3 x4 = val_main_v23 (F := Ideal) x0 x1 x2 x3 x4 :=
  funext fun i => (congrArg (val_main_v23 (F := Ideal) x0 x1 x2 x3 x4 i + ·) bits_zero).trans (add_zero _)

end

/-- The gate's projection. -/
theorem V_a : V m c main_v14 = Cert.ReferenceIdeal.Read.val_main_v18 (F := Ideal)
    (m ((c : Thread nD τ).loc main_arg0)) (m ((c : Thread nD τ).loc main_arg1)) (m ((c : Thread nD τ).loc main_arg2)) := by
  rw [add_a]
  unfold V
  simp only [hostOps0, hostOps0_1, hostOps0_2, List.flatten_cons, List.flatten_nil, List.append_nil, List.cons_append, List.nil_append]
  after_results
  rfl

/-- The other projection. -/
theorem V_b : V m c main_v15 = Cert.ReferenceIdeal.Read.val_main_v21 (F := Ideal)
    (m ((c : Thread nD τ).loc main_arg0)) (m ((c : Thread nD τ).loc main_arg1)) (m ((c : Thread nD τ).loc main_arg3)) := by
  rw [add_b]
  unfold V
  simp only [hostOps0, hostOps0_1, hostOps0_2, List.flatten_cons, List.flatten_nil, List.append_nil, List.cons_append, List.nil_append]
  after_results
  rfl

/-- The product of the gated rows with the last weight. -/
theorem V_f : V m c main_v18 = Cert.ReferenceIdeal.Read.val_main_v24 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  rw [add_f]
  unfold Cert.ReferenceIdeal.Read.val_main_v23 Cert.ReferenceIdeal.Read.val_main_v22
    Cert.ReferenceIdeal.Read.val_main_v19_0 Cert.ReferenceIdeal.Read.val_main_v19_2
    Cert.ReferenceIdeal.Read.val_main_call0_v3 Cert.ReferenceIdeal.Read.val_main_call0_v1
    Cert.ReferenceIdeal.Read.val_main_call0_v0
  rw [add_a, add_b]
  unfold V
  simp only [hostOps0, hostOps0_1, hostOps0_2, List.flatten_cons, List.flatten_nil, List.append_nil, List.cons_append, List.nil_append]
  after_results
  rfl

/-- The gate's weight, transposed. -/
theorem V_wg (j : Fin 2816) (k : Fin 1024) : (V m c main_v20 : S2816x1024.Idx → EReal) (ix2 j k)
    = (m ((c : Thread nD τ).loc main_arg2) : S1024x2816.Idx → EReal) (ix2 k j) := by
  have h : V m c main_v20 = truncf (F := Ideal) .bf16 (transpose S2816x1024 [1, 0] (m ((c : Thread nD τ).loc main_arg2)) transposes_S1024x2816_S2816x1024_1_0) bitsLt_bf16_f32 := by
    unfold V
    simp only [hostOps0, hostOps0_1, hostOps0_2, List.flatten_cons, List.flatten_nil, List.append_nil, List.cons_append, List.nil_append]
    after_results
  rw [h]
  exact ValueIdx.transpose_ix2_apply _ _ j k

/-- The other weight, transposed. -/
theorem V_wu (j : Fin 2816) (k : Fin 1024) : (V m c main_v22 : S2816x1024.Idx → EReal) (ix2 j k)
    = (m ((c : Thread nD τ).loc main_arg3) : S1024x2816.Idx → EReal) (ix2 k j) := by
  have h : V m c main_v22 = truncf (F := Ideal) .bf16 (transpose S2816x1024 [1, 0] (m ((c : Thread nD τ).loc main_arg3)) transposes_S1024x2816_S2816x1024_1_0) bitsLt_bf16_f32 := by
    unfold V
    simp only [hostOps0, hostOps0_1, hostOps0_2, List.flatten_cons, List.flatten_nil, List.append_nil, List.cons_append, List.nil_append]
    after_results
  rw [h]
  exact ValueIdx.transpose_ix2_apply _ _ j k

/-- The last weight. -/
theorem V_wd : V m c main_v23 = m ((c : Thread nD τ).loc main_arg4) := by
  unfold V
  simp only [hostOps0, hostOps0_1, hostOps0_2, List.flatten_cons, List.flatten_nil, List.append_nil, List.cons_append, List.nil_append]
  after_results
  rfl

end Cert.Proof.Host

end
-- ==== Proof.Reference.lean ====
/-
  The reference's results, read row by row: under finite arguments each is the row form the launch
  computes.
-/
module

public import proofs.«01_k».proof.Proof.Gen.ReferenceIdeal.Read
public import proofs.«01_k».proof.Proof.RowSums
public import Idealize.ShloMosaic.Lib.Pointwise

@[expose] public section

noncomputable section

namespace Cert.Proof.Reference

open Idealize.ShloMosaic
open Cert.ReferenceIdeal Cert.ReferenceIdeal.Read

variable (x0 : Vec Ideal S8320x1024 .f32) (x1 : Vec Ideal S1x1024 .f32) (x2 x3 : Vec Ideal S1024x2816 .f32)
  (x4 : Vec Ideal S2816x1024 .f32) (x5 : Vec Ideal S1x1024 .f32) (x6 : Vec Ideal S8320x1024 .f32)

/-! ## Row scales -/

theorem inv_h (r : Fin 8320) (q : Fin 1) : val_main_v9 (F := Ideal) x0 (ix2 r q) = inv fun k => x0 (ix2 r k) := by
  unfold val_main_v9 val_main_v8 val_main_v7 val_main_v6 val_main_v5 val_main_v4 val_main_v3 val_main_v2 val_main_cst_1
    val_main_cst_2 val_main_cst_3
  pointwise
  rfl

theorem half_h (r : Fin 8320) (q : Fin 1) : val_main_v12 (F := Ideal) x0 (ix2 r q)
    = Ideal.ofBits .f32 0xBF000000#32 * Ideal.div (inv fun k => x0 (ix2 r k)) (meanSq fun k => x0 (ix2 r k)) := by
  unfold val_main_v12 val_main_v11 val_main_v10 val_main_cst_4
  pointwise
  rw [inv_h]
  unfold val_main_v8 val_main_v7 val_main_v6 val_main_v5 val_main_v4 val_main_v3 val_main_v2 val_main_cst_1
    val_main_cst_2 val_main_cst_3
  pointwise
  rfl

theorem hat_h (r : Fin 8320) (k : Fin 1024) :
    val_main_v14 (F := Ideal) x0 (ix2 r k) = hat (fun k => x0 (ix2 r k)) k := by
  unfold val_main_v14 val_main_v13
  pointwise
  rw [inv_h]
  rfl

/-- The forward pass's second product, row `r`. -/
abbrev f (r : Fin 8320) (k : Fin 1024) : EReal := val_main_v24 (F := Ideal) x0 x1 x2 x3 x4 (ix2 r k)

/-- The forward pass's gate and value products, row `r`. -/
abbrev a (r : Fin 8320) (j : Fin 2816) : EReal := val_main_v18 (F := Ideal) x0 x1 x2 (ix2 r j)
abbrev b (r : Fin 8320) (j : Fin 2816) : EReal := val_main_v21 (F := Ideal) x0 x1 x3 (ix2 r j)

theorem inv_f (r : Fin 8320) (q : Fin 1) :
    val_main_v32 (F := Ideal) x0 x1 x2 x3 x4 (ix2 r q) = inv (f x0 x1 x2 x3 x4 r) := by
  unfold val_main_v32 val_main_v31 val_main_v30 val_main_v29 val_main_v28 val_main_v27 val_main_v26 val_main_v25
    val_main_cst_5 val_main_cst_6 val_main_cst_7
  pointwise
  rfl

theorem half_f (r : Fin 8320) (q : Fin 1) : val_main_v35 (F := Ideal) x0 x1 x2 x3 x4 (ix2 r q)
    = Ideal.ofBits .f32 0xBF000000#32
      * Ideal.div (inv (f x0 x1 x2 x3 x4 r)) (meanSq (f x0 x1 x2 x3 x4 r)) := by
  unfold val_main_v35 val_main_v34 val_main_v33 val_main_cst_8
  pointwise
  rw [inv_f]
  unfold val_main_v31 val_main_v30 val_main_v29 val_main_v28 val_main_v27 val_main_v26 val_main_v25
    val_main_cst_5 val_main_cst_6 val_main_cst_7
  pointwise
  rfl

theorem hat_f (r : Fin 8320) (k : Fin 1024) :
    val_main_v37 (F := Ideal) x0 x1 x2 x3 x4 (ix2 r k) = hat (f x0 x1 x2 x3 x4 r) k := by
  unfold val_main_v37 val_main_v36
  pointwise
  rw [inv_f]
  rfl

/-- The normalised input. -/
theorem n_out (r : Fin 8320) (k : Fin 1024) :
    val_main_v95 (F := Ideal) x0 x1 (ix2 r k) = hat (fun k => x0 (ix2 r k)) k * x1 (ix2 0 k) := by
  unfold val_main_v95 val_main_v16 val_main_v15
  pointwise
  rw [hat_h]

/-! ## Finite arguments -/

/-- Every number of the array is finite. -/
def Fin2 {n k : Nat} (x : Vec Ideal ⟨2, ![n, k]⟩ .f32) : Prop := ∀ i j, IsReal (x (ix2 i j))

variable {x0 x1 x2 x3 x4 x5 x6}

theorem real_n (h0 : Fin2 x0) (h1 : Fin2 x1) (r : Fin 8320) (k : Fin 1024) :
    IsReal (val_main_v16 (F := Ideal) x0 x1 (ix2 r k)) := by
  unfold val_main_v16 val_main_v15
  pointwise
  rw [hat_h]
  exact (IsReal.hat (h0 r) k).mul (h1 0 k)

theorem real_a (h0 : Fin2 x0) (h1 : Fin2 x1) (h2 : Fin2 x2) (r : Fin 8320) (j : Fin 2816) :
    IsReal (a x0 x1 x2 r j) := by
  unfold a val_main_v18 val_main_v17 val_main_v0 val_main_cst
  pointwise
  exact IsReal.sum fun k => (real_n h0 h1 r k).mul (h2 k j)

theorem real_b (h0 : Fin2 x0) (h1 : Fin2 x1) (h3 : Fin2 x3) (r : Fin 8320) (j : Fin 2816) :
    IsReal (b x0 x1 x3 r j) := by
  unfold b val_main_v21 val_main_v20 val_main_v0 val_main_cst
  pointwise
  exact IsReal.sum fun k => (real_n h0 h1 r k).mul (h3 k j)

theorem sig_a (r : Fin 8320) (j : Fin 2816) :
    val_main_v19_2 (F := Ideal) x0 x1 x2 (ix2 r j) = logistic (a x0 x1 x2 r j) := by
  unfold val_main_v19_2 val_main_call0_v4 val_main_call0_v3 val_main_call0_v2 val_main_call0_v1 val_main_call0_v0
    val_main_call0_cst val_main_call0_cst_0
  pointwise
  rfl

theorem silu_a (r : Fin 8320) (j : Fin 2816) :
    val_main_v19_0 (F := Ideal) x0 x1 x2 (ix2 r j) = a x0 x1 x2 r j * logistic (a x0 x1 x2 r j) := by
  unfold val_main_v19_0
  pointwise
  rw [sig_a]

theorem slope_a (r : Fin 8320) (j : Fin 2816) :
    val_main_v19_1 (F := Ideal) x0 x1 x2 (ix2 r j)
      = logistic (a x0 x1 x2 r j) * (1 - logistic (a x0 x1 x2 r j)) := by
  unfold val_main_v19_1 val_main_call0_v7 val_main_call0_v6 val_main_call0_cst_1
  pointwise
  rw [sig_a]

theorem real_f (h0 : Fin2 x0) (h1 : Fin2 x1) (h2 : Fin2 x2) (h3 : Fin2 x3) (h4 : Fin2 x4) (r : Fin 8320)
    (k : Fin 1024) : IsReal (f x0 x1 x2 x3 x4 r k) := by
  unfold f val_main_v24 val_main_v23 val_main_v22 val_main_v1 val_main_cst_0
  pointwise
  refine IsReal.sum fun j => (IsReal.mul ?_ (real_b h0 h1 h3 r j)).mul (h4 j k)
  rw [silu_a]
  exact (real_a h0 h1 h2 r j).mul (IsReal.logistic (real_a h0 h1 h2 r j))

/-! ## The backward pass -/

/-- The gradient at the second product's result. -/
theorem df_eq (h0 : Fin2 x0) (h1 : Fin2 x1) (h2 : Fin2 x2) (h3 : Fin2 x3) (h4 : Fin2 x4) (h5 : Fin2 x5)
    (h6 : Fin2 x6) (r : Fin 8320) (k : Fin 1024) :
    val_main_v64 (F := Ideal) x0 x1 x2 x3 x4 x5 x6 (ix2 r k)
      = dfRow (fun k => x6 (ix2 r k)) (f x0 x1 x2 x3 x4 r) (fun k => x5 (ix2 0 k)) k
    ∧ IsReal (dfRow (fun k => x6 (ix2 r k)) (f x0 x1 x2 x3 x4 r) (fun k => x5 (ix2 0 k)) k) := by
  have h := pull_eq (real_f h0 h1 h2 h3 h4 r) (g := fun k => Ideal.ofBits .f32 0x3F000000#32 * x6 (ix2 r k) * x5 (ix2 0 k))
    (fun k => (IsReal.half.mul (h6 r k)).mul (h5 0 k)) k
  refine ⟨Eq.trans ?_ h.1, h.2⟩
  unfold val_main_v64 val_main_v63 val_main_v62 val_main_v61 val_main_v60 val_main_v59 val_main_v58 val_main_v57
    val_main_v56 val_main_v55 val_main_v54 val_main_v53 val_main_v52 val_main_v51 val_main_v50 val_main_v49
    val_main_v45 val_main_v44 val_main_v43 val_main_cst_10 val_main_cst_12 val_main_cst_13 val_main_cst_14
  pointwise
  simp only [inv_f, half_f, Fin.sum_univ_one]
  rfl

/-- The padding value. -/
theorem sitofp_zero : FloatOps.sitofp (F := Ideal) .f32 (0#32) = (0 : EReal) := by
  change (((0#32 : BitVec 32).toInt : ℝ) : EReal) = 0
  simp

/-- A row padded below with zeros holds the row at its first line and zeros at the others. -/
theorem pad_row {x : Vec Ideal S1x1024 .f32} {k : Fin 1024} {t z : EReal} (h : x (ix2 0 k) = t) (hz : z = 0)
    (i : Fin 8) : (if h : i.val < 1 then x (ix2 ⟨i.val, h⟩ k) else z) = if i.val = 0 then t else 0 := by
  by_cases hi : i.val < 1
  · rw [dif_pos hi, if_pos (by omega), ← h]
    exact congrArg (fun q => x (ix2 q k)) (Subsingleton.elim _ _)
  · rw [dif_neg hi, if_neg (by omega), hz]

/-- Row `r` of the gradient at the second product's result. -/
abbrev df (x0 : Vec Ideal S8320x1024 .f32) (x1 : Vec Ideal S1x1024 .f32) (x2 x3 : Vec Ideal S1024x2816 .f32)
    (x4 : Vec Ideal S2816x1024 .f32) (x5 : Vec Ideal S1x1024 .f32) (x6 : Vec Ideal S8320x1024 .f32) (r : Fin 8320)
    (k : Fin 1024) : EReal :=
  dfRow (fun k => x6 (ix2 r k)) (f x0 x1 x2 x3 x4 r) (fun k => x5 (ix2 0 k)) k

/-- Row `r` of the gradient at the gated product. -/
abbrev ds (x0 : Vec Ideal S8320x1024 .f32) (x1 : Vec Ideal S1x1024 .f32) (x2 x3 : Vec Ideal S1024x2816 .f32)
    (x4 : Vec Ideal S2816x1024 .f32) (x5 : Vec Ideal S1x1024 .f32) (x6 : Vec Ideal S8320x1024 .f32) (r : Fin 8320)
    (j : Fin 2816) : EReal :=
  dsRow (df x0 x1 x2 x3 x4 x5 x6 r) (fun j k => x4 (ix2 j k)) j

/-- Row `r` of the gradient at the normalised input. -/
abbrev dn (x0 : Vec Ideal S8320x1024 .f32) (x1 : Vec Ideal S1x1024 .f32) (x2 x3 : Vec Ideal S1024x2816 .f32)
    (x4 : Vec Ideal S2816x1024 .f32) (x5 : Vec Ideal S1x1024 .f32) (x6 : Vec Ideal S8320x1024 .f32) (r : Fin 8320)
    (k : Fin 1024) : EReal :=
  dnRow (ds x0 x1 x2 x3 x4 x5 x6 r) (a x0 x1 x2 r) (b x0 x1 x3 r) (fun j k => x2 (ix2 k j)) (fun j k => x3 (ix2 k j)) k

section
variable (h0 : Fin2 x0) (h1 : Fin2 x1) (h2 : Fin2 x2) (h3 : Fin2 x3) (h4 : Fin2 x4) (h5 : Fin2 x5) (h6 : Fin2 x6)
include h0 h1 h2 h3 h4 h5 h6

theorem real_ds (r : Fin 8320) (j : Fin 2816) : IsReal (ds x0 x1 x2 x3 x4 x5 x6 r j) :=
  IsReal.sum fun k => (df_eq h0 h1 h2 h3 h4 h5 h6 r k).2.mul (h4 j k)

theorem ds_eq (r : Fin 8320) (j : Fin 2816) :
    val_main_v65 (F := Ideal) x0 x1 x2 x3 x4 x5 x6 (ix2 r j) = ds x0 x1 x2 x3 x4 x5 x6 r j := by
  unfold val_main_v65
  pointwise
  simp only [(df_eq h0 h1 h2 h3 h4 h5 h6 r _).1]
  rfl

/-- The gradient at the gate product. -/
theorem da_eq (r : Fin 8320) (j : Fin 2816) :
    val_main_v69 (F := Ideal) x0 x1 x2 x3 x4 x5 x6 (ix2 r j)
      = bend (a x0 x1 x2 r j) (ds x0 x1 x2 x3 x4 x5 x6 r j * b x0 x1 x3 r j)
    ∧ IsReal (bend (a x0 x1 x2 r j) (ds x0 x1 x2 x3 x4 x5 x6 r j * b x0 x1 x3 r j)) := by
  have h := bend_eq (real_a h0 h1 h2 r j)
    ((real_ds h0 h1 h2 h3 h4 h5 h6 r j).mul (real_b h0 h1 h3 r j))
  refine ⟨Eq.trans ?_ h.1, h.2⟩
  unfold val_main_v69 val_main_call1_v2 val_main_call1_v1 val_main_call1_v0 val_main_v67
  pointwise
  rw [ds_eq h0 h1 h2 h3 h4 h5 h6, sig_a, slope_a]

theorem dn_eq (r : Fin 8320) (k : Fin 1024) :
    val_main_v71 (F := Ideal) x0 x1 x2 x3 x4 x5 x6 (ix2 r k) = dn x0 x1 x2 x3 x4 x5 x6 r k
    ∧ IsReal (dn x0 x1 x2 x3 x4 x5 x6 r k) := by
  constructor
  · unfold val_main_v71 val_main_v70 val_main_v68 val_main_v66
    pointwise
    simp only [(da_eq h0 h1 h2 h3 h4 h5 h6 r _).1, ds_eq h0 h1 h2 h3 h4 h5 h6, silu_a]
    rw [add_comm]
    refine congrArg₂ (· + ·) rfl (Finset.sum_congr rfl fun j _ => ?_)
    exact congrArg (· * _) (mul_comm _ _)
  · refine (IsReal.sum fun j => (da_eq h0 h1 h2 h3 h4 h5 h6 r j).2.mul (h2 k j)).add (IsReal.sum fun j => ?_)
    exact ((real_ds h0 h1 h2 h3 h4 h5 h6 r j).mul
      ((real_a h0 h1 h2 r j).mul (IsReal.logistic (real_a h0 h1 h2 r j)))).mul (h3 k j)

/-- The gradients at the three products, and the normalised input, as the weight gradients take them. -/
theorem da_out (r : Fin 8320) (j : Fin 2816) : val_main_v92 (F := Ideal) x0 x1 x2 x3 x4 x5 x6 (ix2 r j)
    = bend (a x0 x1 x2 r j) (ds x0 x1 x2 x3 x4 x5 x6 r j * b x0 x1 x3 r j) :=
  (da_eq h0 h1 h2 h3 h4 h5 h6 r j).1

theorem db_out (r : Fin 8320) (j : Fin 2816) : val_main_v93 (F := Ideal) x0 x1 x2 x3 x4 x5 x6 (ix2 r j)
    = ds x0 x1 x2 x3 x4 x5 x6 r j * (a x0 x1 x2 r j * logistic (a x0 x1 x2 r j)) := by
  unfold val_main_v93 val_main_v66
  pointwise
  rw [ds_eq h0 h1 h2 h3 h4 h5 h6, silu_a]
  exact mul_comm _ _

theorem df_out (r : Fin 8320) (k : Fin 1024) : val_main_v94 (F := Ideal) x0 x1 x2 x3 x4 x5 x6 (ix2 r k)
    = df x0 x1 x2 x3 x4 x5 x6 r k :=
  (df_eq h0 h1 h2 h3 h4 h5 h6 r k).1

/-- The gradient at the input. -/
theorem dh_eq (r : Fin 8320) (k : Fin 1024) :
    val_main_v91 (F := Ideal) x0 x1 x2 x3 x4 x5 x6 (ix2 r k)
      = dhRow (fun k => x6 (ix2 r k)) (fun k => x0 (ix2 r k)) (dn x0 x1 x2 x3 x4 x5 x6 r) (fun k => x1 (ix2 0 k)) k := by
  have h := pull_eq (h0 r) (g := fun k => dn x0 x1 x2 x3 x4 x5 x6 r k * x1 (ix2 0 k))
    (fun k => (dn_eq h0 h1 h2 h3 h4 h5 h6 r k).2.mul (h1 0 k)) k
  refine Eq.trans ?_ (congrArg (x6 (ix2 r k) + ·) h.1)
  rw [← add_assoc, ← add_assoc]
  unfold val_main_v91 val_main_v90 val_main_v89 val_main_v88 val_main_v87 val_main_v86 val_main_v85 val_main_v84
    val_main_v83 val_main_v82 val_main_v81 val_main_v80 val_main_v79 val_main_v78 val_main_v77 val_main_v76
    val_main_v75 val_main_cst_16 val_main_cst_17 val_main_cst_18
  pointwise
  simp only [inv_h, half_h, Fin.sum_univ_one, (dn_eq h0 h1 h2 h3 h4 h5 h6 r _).1]
  rfl

/-- The gradient of the first normalisation's weights, as one row of eight. -/
theorem gpre_eq (i : Fin 8) (k : Fin 1024) :
    val_main_v96 (F := Ideal) x0 x1 x2 x3 x4 x5 x6 (ix2 i k)
      = if i.val = 0 then ∑ r, dn x0 x1 x2 x3 x4 x5 x6 r k * hat (fun k => x0 (ix2 r k)) k else 0 := by
  have h : val_main_v74 (F := Ideal) x0 x1 x2 x3 x4 x5 x6 (ix2 0 k)
      = ∑ r, dn x0 x1 x2 x3 x4 x5 x6 r k * hat (fun k => x0 (ix2 r k)) k := by
    unfold val_main_v74 val_main_v73 val_main_v72 val_main_cst_15
    pointwise
    simp only [hat_h, (dn_eq h0 h1 h2 h3 h4 h5 h6 _ k).1, mul_comm]
  unfold val_main_v96 val_main_call2_v0 val_main_c
  pointwise
  refine pad_row h ?_ i
  exact sitofp_zero

/-- The gradient of the second normalisation's weights, as one row of eight. -/
theorem gpost_eq (i : Fin 8) (k : Fin 1024) :
    val_main_v97 (F := Ideal) x0 x1 x2 x3 x4 x6 (ix2 i k)
      = if i.val = 0 then ∑ r, Ideal.ofBits .f32 0x3F000000#32 * x6 (ix2 r k) * hat (f x0 x1 x2 x3 x4 r) k else 0 := by
  have h : val_main_v48 (F := Ideal) x0 x1 x2 x3 x4 x6 (ix2 0 k)
      = ∑ r, Ideal.ofBits .f32 0x3F000000#32 * x6 (ix2 r k) * hat (f x0 x1 x2 x3 x4 r) k := by
    unfold val_main_v48 val_main_v47 val_main_v46 val_main_v45 val_main_v44 val_main_v43 val_main_cst_10 val_main_cst_11
    pointwise
    simp only [hat_f, mul_comm]
  unfold val_main_v97 val_main_call3_v0 val_main_c_19
  pointwise
  refine pad_row h ?_ i
  exact sitofp_zero

end

/-! ## The seven results -/

/-- What the gradients are computed from, in the reference's arguments. -/
def given (x0 : Vec Ideal S8320x1024 .f32) (x1 : Vec Ideal S1x1024 .f32) (x2 x3 : Vec Ideal S1024x2816 .f32)
    (x4 : Vec Ideal S2816x1024 .f32) (x5 : Vec Ideal S1x1024 .f32) (x6 : Vec Ideal S8320x1024 .f32) : Given where
  dy r k := x6 (ix2 r k)
  h r k := x0 (ix2 r k)
  a := a x0 x1 x2
  b := b x0 x1 x3
  f := f x0 x1 x2 x3 x4
  gpre k := x1 (ix2 0 k)
  gpost k := x5 (ix2 0 k)
  wg j k := x2 (ix2 k j)
  wu j k := x3 (ix2 k j)
  wd j k := x4 (ix2 j k)

/-- The seven results, as rows of the gradients. -/
structure Are (G : Given) (v0 : Vec Ideal S8320x1024 .f32) (v1 v2 : Vec Ideal S8320x2816 .bf16)
    (v3 v4 : Vec Ideal S8320x1024 .bf16) (v5 v6 : Vec Ideal S8x1024 .f32) : Prop where
  dh : v0 = fun i => G.dh (i 0) (i 1)
  da : v1 = fun i => G.da (i 0) (i 1)
  db : v2 = fun i => G.db (i 0) (i 1)
  df : v3 = fun i => G.df (i 0) (i 1)
  n : v4 = fun i => G.n (i 0) (i 1)
  dgpre : v5 = RowSums.total G.dgpre
  dgpost : v6 = RowSums.total G.dgpost

theorem eq_of_rows {n k : Nat} {x g : Shape.Idx ⟨2, ![n, k]⟩ → EReal}
    (h : ∀ r j, x (ix2 r j) = g (ix2 r j)) : x = g :=
  funext fun i => (congrArg x (eq_ix2 i)).trans ((h _ _).trans (congrArg g (eq_ix2 i)).symm)

theorem eq_total {x : Vec Ideal S8x1024 .f32} {g : Fin 8320 → Fin 1024 → EReal}
    (h : ∀ (i : Fin 8) (k : Fin 1024), x (ix2 i k) = if i.val = 0 then ∑ r, g r k else 0) : x = RowSums.total g :=
  funext fun i => (congrArg x (eq_ix2 i)).trans (h _ _)

theorem results (h0 : Fin2 x0) (h1 : Fin2 x1) (h2 : Fin2 x2) (h3 : Fin2 x3) (h4 : Fin2 x4) (h5 : Fin2 x5) (h6 : Fin2 x6) :
    Are (given x0 x1 x2 x3 x4 x5 x6) (val_main_v91 (F := Ideal) x0 x1 x2 x3 x4 x5 x6)
      (val_main_v92 (F := Ideal) x0 x1 x2 x3 x4 x5 x6) (val_main_v93 (F := Ideal) x0 x1 x2 x3 x4 x5 x6)
      (val_main_v94 (F := Ideal) x0 x1 x2 x3 x4 x5 x6) (val_main_v95 (F := Ideal) x0 x1)
      (val_main_v96 (F := Ideal) x0 x1 x2 x3 x4 x5 x6) (val_main_v97 (F := Ideal) x0 x1 x2 x3 x4 x6) where
  dh := eq_of_rows (dh_eq h0 h1 h2 h3 h4 h5 h6)
  da := eq_of_rows (da_out h0 h1 h2 h3 h4 h5 h6)
  db := eq_of_rows (db_out h0 h1 h2 h3 h4 h5 h6)
  df := eq_of_rows (df_out h0 h1 h2 h3 h4 h5 h6)
  n := eq_of_rows (n_out _ _)
  dgpre := eq_total (gpre_eq h0 h1 h2 h3 h4 h5 h6)
  dgpost := eq_total (gpost_eq h0 h1 h2 h3 h4 h5 h6)

/-- Arrays that are the arguments, the forward pass's products and the weights, two of them transposed, give the
same gradients. -/
theorem givenOf_eq {dy h f : Vec Ideal S8320x1024 .f32} {a b : Vec Ideal S8320x2816 .f32} {gpre gpost : Vec Ideal S1x1024 .f32}
    {wg wu wd : Vec Ideal S2816x1024 .f32} (hdy : dy = x6) (hh : h = x0) (ha : a = val_main_v18 (F := Ideal) x0 x1 x2)
    (hb : b = val_main_v21 (F := Ideal) x0 x1 x3) (hf : f = val_main_v24 (F := Ideal) x0 x1 x2 x3 x4)
    (hpre : gpre = x1) (hpost : gpost = x5) (hwg : ∀ j k, wg (ix2 j k) = x2 (ix2 k j))
    (hwu : ∀ j k, wu (ix2 j k) = x3 (ix2 k j)) (hwd : wd = x4) :
    givenOf dy h a b f gpre gpost wg wu wd = given x0 x1 x2 x3 x4 x5 x6 := by
  subst hdy hh ha hb hf hpre hpost hwd
  simp only [givenOf, hwg, hwu]
  rfl

/-- A result of equal arguments. -/
theorem same {β : Type} {y0 y6 : Vec Ideal S8320x1024 .f32} {y1 y5 : Vec Ideal S1x1024 .f32}
    {y2 y3 : Vec Ideal S1024x2816 .f32} {y4 : Vec Ideal S2816x1024 .f32}
    (v : Vec Ideal S8320x1024 .f32 → Vec Ideal S1x1024 .f32 → Vec Ideal S1024x2816 .f32 → Vec Ideal S1024x2816 .f32
      → Vec Ideal S2816x1024 .f32 → Vec Ideal S1x1024 .f32 → Vec Ideal S8320x1024 .f32 → β)
    (h0 : x0 = y0) (h1 : x1 = y1) (h2 : x2 = y2) (h3 : x3 = y3) (h4 : x4 = y4) (h5 : x5 = y5) (h6 : x6 = y6) :
    v x0 x1 x2 x3 x4 x5 x6 = v y0 y1 y2 y3 y4 y5 y6 := by
  subst h0 h1 h2 h3 h4 h5 h6
  rfl

end Cert.Proof.Reference

end
-- ==== Proof.Results.lean ====
/-
  The arrays the launch leaves are the reference's results, wherever the arguments are finite.
-/
module

public import proofs.«01_k».proof.Proof.Wide
public import proofs.«01_k».proof.Proof.Host
public import proofs.«01_k».proof.Proof.Reference

@[expose] public section

noncomputable section

namespace Cert.Proof.Results

open Idealize.ShloMosaic Idealize.ShloMosaic.TcCoe
open Cert.KernelIdeal Cert.KernelIdeal.Gen

variable (m : (ℓ : Loc nD τ sig) → Buf (Elt Ideal) ℓ) (c : Dev nD)

abbrev x0 : Vec Ideal S8320x1024 .f32 := m ((c : Thread nD τ).loc main_arg0)
abbrev x1 : Vec Ideal S1x1024 .f32 := m ((c : Thread nD τ).loc main_arg1)
abbrev x2 : Vec Ideal S1024x2816 .f32 := m ((c : Thread nD τ).loc main_arg2)
abbrev x3 : Vec Ideal S1024x2816 .f32 := m ((c : Thread nD τ).loc main_arg3)
abbrev x4 : Vec Ideal S2816x1024 .f32 := m ((c : Thread nD τ).loc main_arg4)
abbrev x5 : Vec Ideal S1x1024 .f32 := m ((c : Thread nD τ).loc main_arg5)
abbrev x6 : Vec Ideal S8320x1024 .f32 := m ((c : Thread nD τ).loc main_arg6)

/-- What the launch is given is what the reference computes from. -/
theorem given_eq : Arrays.given m c
    = Reference.given (x0 m c) (x1 m c) (x2 m c) (x3 m c) (x4 m c) (x5 m c) (x6 m c) :=
  Reference.givenOf_eq (V_main_arg6 m c) (V_main_arg0 m c) (Host.V_a m c) (Host.V_b m c) (Host.V_f m c)
    (V_main_arg1 m c) (V_main_arg5 m c) (Host.V_wg m c) (Host.V_wu m c) (Host.V_wd m c)

/-- The launch's seven arrays. -/
theorem arrays : Reference.Are (Reference.given (x0 m c) (x1 m c) (x2 m c) (x3 m c) (x4 m c) (x5 m c) (x6 m c))
    ((dats m 0 c).arrAt 10 cfg0.N) ((dats m 0 c).arrAt 11 cfg0.N) ((dats m 0 c).arrAt 12 cfg0.N)
    ((dats m 0 c).arrAt 13 cfg0.N) ((dats m 0 c).arrAt 14 cfg0.N) ((dats m 0 c).arrAt 15 cfg0.N)
    ((dats m 0 c).arrAt 16 cfg0.N) :=
  given_eq m c ▸ ⟨Arrays.dh_array m c, Wide.da_array m c, Wide.db_array m c, Wide.df_array m c, Wide.n_array m c,
    Arrays.gpre_array m c, Arrays.gpost_array m c⟩

end Cert.Proof.Results

end
-- ==== Proof.Second.lean ====
/-
  The second feed-forward block: its launch leaves the gradients of its forward lines, and the reference runs
  without fault and keeps its arguments.
-/
module

public import proofs.«01_k».proof.Defs
public import proofs.«01_k».proof.Proof.Gen.KernelIdeal.Value
public import proofs.«01_k».proof.Proof.Gen.ReferenceIdeal.Read
public import proofs.«01_k».proof.Proof.Finite
public import proofs.«01_k».proof.Proof.Results
public import Idealize.ShloMosaic.Adequacy
public import Idealize.ShloMosaic.Init

@[expose] public section

noncomputable section
namespace Cert.Proof.Second

open Idealize.ShloMosaic Idealize.SL.Sem
open Cert.Proof.Reference (same)

theorem reference_frame : quiescent_ReferenceIdeal (hReferenceIdeal := Cert.ReferenceIdeal.Gen.facts) := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

theorem values : algebraic_KernelIdeal_ReferenceIdeal_pre_finite (hKernelIdeal := Cert.KernelIdeal.Gen.facts)
    (hReferenceIdeal := Cert.ReferenceIdeal.Gen.facts) (hPre_finite := Finite.facts) := by
  intro m g m' g' hpre hagree
  have hreal := fun c => @Finite.fn_real Finite.facts _ _ _ _ _ _ _ (hpre c)
  refine ⟨fun c => Cert.ReferenceIdeal.Read.val_main_v91 (F := Ideal) (Results.x0 m c) (Results.x1 m c) (Results.x2 m c) (Results.x3 m c) (Results.x4 m c) (Results.x5 m c) (Results.x6 m c),
    fun c => Cert.ReferenceIdeal.Read.val_main_v92 (F := Ideal) (Results.x0 m c) (Results.x1 m c) (Results.x2 m c) (Results.x3 m c) (Results.x4 m c) (Results.x5 m c) (Results.x6 m c),
    fun c => Cert.ReferenceIdeal.Read.val_main_v93 (F := Ideal) (Results.x0 m c) (Results.x1 m c) (Results.x2 m c) (Results.x3 m c) (Results.x4 m c) (Results.x5 m c) (Results.x6 m c),
    fun c => Cert.ReferenceIdeal.Read.val_main_v94 (F := Ideal) (Results.x0 m c) (Results.x1 m c) (Results.x2 m c) (Results.x3 m c) (Results.x4 m c) (Results.x5 m c) (Results.x6 m c),
    fun c => Cert.ReferenceIdeal.Read.val_main_v95 (F := Ideal) (Results.x0 m c) (Results.x1 m c),
    fun c => Cert.ReferenceIdeal.Read.val_main_v96 (F := Ideal) (Results.x0 m c) (Results.x1 m c) (Results.x2 m c) (Results.x3 m c) (Results.x4 m c) (Results.x5 m c) (Results.x6 m c),
    fun c => Cert.ReferenceIdeal.Read.val_main_v97 (F := Ideal) (Results.x0 m c) (Results.x1 m c) (Results.x2 m c) (Results.x3 m c) (Results.x4 m c) (Results.x6 m c), ?_, ?_⟩
  · refine (θ_run Cert.KernelIdeal.defs _ _).mono (fun r h c => ?_) (Cert.KernelIdeal.Value.run_blocks (F := Ideal) m g)
    obtain ⟨r0, r1, r2, r3, r4, r5, r6⟩ := hreal c
    obtain ⟨e0, e1, e2, e3, e4, e5, e6, kept⟩ := h c
    have K := Results.arrays m c
    have R := Reference.results (x0 := Results.x0 m c) (x1 := Results.x1 m c) (x2 := Results.x2 m c)
      (x3 := Results.x3 m c) (x4 := Results.x4 m c) (x5 := Results.x5 m c) (x6 := Results.x6 m c)
      (fun _ _ => r0 _) (fun _ _ => r1 _) (fun _ _ => r2 _) (fun _ _ => r3 _) (fun _ _ => r4 _) (fun _ _ => r5 _)
      (fun _ _ => r6 _)
    exact ⟨e0.trans (K.dh.trans R.dh.symm), e1.trans (K.da.trans R.da.symm), e2.trans (K.db.trans R.db.symm),
      e3.trans (K.df.trans R.df.symm), e4.trans (K.n.trans R.n.symm), e5.trans (K.dgpre.trans R.dgpre.symm),
      e6.trans (K.dgpost.trans R.dgpost.symm), kept⟩
  · refine (θ_run Cert.ReferenceIdeal.defs _ _).mono (fun r h c => ?_) (Cert.ReferenceIdeal.Value.run (F := Ideal) m' g')
    obtain ⟨e0, e1, e2, e3, e4, e5, e6, kept⟩ := h c
    obtain ⟨a0, a1, a2, a3, a4, a5, a6⟩ := hagree c
    exact ⟨e0.trans ((Cert.ReferenceIdeal.Read.val_main_v91_eq _).trans
        (same (Cert.ReferenceIdeal.Read.val_main_v91 (F := Ideal)) a0 a1 a2 a3 a4 a5 a6)),
      e1.trans ((Cert.ReferenceIdeal.Read.val_main_v92_eq _).trans
        (same (Cert.ReferenceIdeal.Read.val_main_v92 (F := Ideal)) a0 a1 a2 a3 a4 a5 a6)),
      e2.trans ((Cert.ReferenceIdeal.Read.val_main_v93_eq _).trans
        (same (Cert.ReferenceIdeal.Read.val_main_v93 (F := Ideal)) a0 a1 a2 a3 a4 a5 a6)),
      e3.trans ((Cert.ReferenceIdeal.Read.val_main_v94_eq _).trans
        (same (Cert.ReferenceIdeal.Read.val_main_v94 (F := Ideal)) a0 a1 a2 a3 a4 a5 a6)),
      e4.trans ((Cert.ReferenceIdeal.Read.val_main_v95_eq _).trans
        (same (fun x0 x1 _ _ _ _ _ => Cert.ReferenceIdeal.Read.val_main_v95 (F := Ideal) x0 x1) a0 a1 a2 a3 a4 a5 a6)),
      e5.trans ((Cert.ReferenceIdeal.Read.val_main_v96_eq _).trans
        (same (Cert.ReferenceIdeal.Read.val_main_v96 (F := Ideal)) a0 a1 a2 a3 a4 a5 a6)),
      e6.trans ((Cert.ReferenceIdeal.Read.val_main_v97_eq _).trans
        (same (fun x0 x1 x2 x3 x4 _ x6 => Cert.ReferenceIdeal.Read.val_main_v97 (F := Ideal) x0 x1 x2 x3 x4 x6) a0 a1 a2 a3 a4 a5 a6)), kept⟩

end Cert.Proof.Second

end
-- ==== Proof.FirstFinite.lean ====
/-
  The precondition of the first block's claim, read.
-/
module

public import proofs.«01_k».proof.Proof.Finite

@[expose] public section

noncomputable section

namespace Cert.Proof.FirstFinite

open Idealize.ShloMosaic Cert.Proof.Finite
open Cert.Pre_finite1

theorem facts : Cert.Pre_finite1.Facts where
  bcast_S_S128x1024 := by decide
  reducesTo_S128x1024_S_d0_1 := by decide
  h_S_ := by decide
  bcast_S_S8192x1024 := by decide
  reducesTo_S8192x1024_S_d0_1 := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide
  bcast_S_S8320x1024 := by decide
  reducesTo_S8320x1024_S_d0_1 := by decide

theorem fn_real [Cert.Pre_finite1.Facts] (x0 : FVec Ideal S128x1024 .f32) (x1 : FVec Ideal S8192x1024 .f32)
    (x2 : FVec Ideal S1x1024 .f32) (x3 x4 : FVec Ideal S1024x2816 .f32) (x5 : FVec Ideal S2816x1024 .f32)
    (x6 : FVec Ideal S1x1024 .f32) (x7 : FVec Ideal S8320x1024 .f32)
    (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ ∀ i, IsReal (x7 i) := by
  have h' := congrFun h (fun k => k.elim0)
  simp only [fn, fn_part1, fn_part2] at h'
  obtain ⟨h', e7⟩ := and_left h'
  obtain ⟨h', e6⟩ := and_left h'
  obtain ⟨h', e5⟩ := and_left h'
  obtain ⟨h', e4⟩ := and_left h'
  obtain ⟨h', e3⟩ := and_left h'
  obtain ⟨h', e2⟩ := and_left h'
  obtain ⟨e0, e1⟩ := and_left h'
  exact ⟨of_all _ _ (fun _ => rfl) _ _ _ _ e0, of_all _ _ (fun _ => rfl) _ _ _ _ e1, of_all _ _ (fun _ => rfl) _ _ _ _ e2,
    of_all _ _ (fun _ => rfl) _ _ _ _ e3, of_all _ _ (fun _ => rfl) _ _ _ _ e4, of_all _ _ (fun _ => rfl) _ _ _ _ e5,
    of_all _ _ (fun _ => rfl) _ _ _ _ e6, of_all _ _ (fun _ => rfl) _ _ _ _ e7⟩

end Cert.Proof.FirstFinite

end
-- ==== Proof.FirstArrays.lean ====
/-
  The first feed-forward block's launch. Its body is the second block's, run on an input whose first 128 rows come
  from one array and the others from another, so what it computes from its blocks is what that body computes.
-/
module

public import proofs.«01_k».proof.Proof.Gen.FirstIdeal.Value
public import proofs.«01_k».proof.Proof.Block
public import proofs.«01_k».proof.Proof.RowSums

@[expose] public section

noncomputable section

open Idealize.ShloMosaic Idealize.ShloMosaic.TcCoe

namespace Cert.Proof.FirstArrays

open Cert.FirstIdeal Cert.FirstIdeal.Gen Cert.Proof.RowSums

variable (m : (ℓ : Loc nD τ sig) → Buf (Elt Ideal) ℓ) (c : Dev nD)

/-! ## The body is the second block's -/

section
variable (a : BitVec 32) (x0 x1 x4 : Vec Ideal S416x1024 .f32) (x2 x3 : Vec Ideal S416x2816 .bf16)
  (x5 x6 : Vec Ideal S1x1024 .f32) (x7 x8 x9 : Vec Ideal S2816x1024 .bf16) (x10 : Vec Ideal S128x1024 .f32)

/-- One. -/
abbrev one : EReal := FloatOps.ofBits (F := Ideal) FTy.f32 0x3F800000#32

theorem dn_eq : k0_pay22 (F := Ideal) (k0_pay15 (k0_pay9 x0 x4 x6) x9) (k0_pay16 x2) (k0_pay17 x3) (k0_pay18 x2) one x7 x8
    = Block.dn x0 x2 x3 x4 x6 x7 x8 x9 := rfl

theorem dh_eq (dn : Vec Ideal S416x1024 .f32) :
    k0_pay2 (F := Ideal) x0 (k0_pay12 a x10 x1) (k0_pay13 a x10 x1) dn x5
      = Cert.KernelIdeal.Gen.k0_pay1 (F := Ideal) x0 (Cert.KernelIdeal.Gen.k0_pay10 (k0_pay11 a x10 x1))
        (Cert.KernelIdeal.Gen.k0_pay11 (k0_pay11 a x10 x1)) dn x5 := rfl

theorem df_eq : k0_pay9 (F := Ideal) x0 x4 x6 = Cert.KernelIdeal.Gen.k0_pay8 (F := Ideal) x0 x4 x6 := rfl

theorem df16_eq (df : Vec Ideal S416x1024 .f32) :
    k0_pay10 (F := Ideal) df = Cert.KernelIdeal.Gen.k0_pay9 (F := Ideal) df := rfl

theorem n_eq : k0_pay14 (F := Ideal) a x10 x1 x5
    = Cert.KernelIdeal.Gen.k0_pay12 (F := Ideal) (k0_pay11 a x10 x1) x5 := rfl

theorem da_eq (df : Vec Ideal S416x1024 .f32) :
    k0_pay21 (F := Ideal) (k0_pay15 df x9) (k0_pay16 x2) (k0_pay17 x3) (k0_pay18 x2) one
      = Cert.KernelIdeal.Gen.k0_pay18 (F := Ideal) (Cert.KernelIdeal.Gen.k0_pay13 df x9)
        (Cert.KernelIdeal.Gen.k0_pay14 x2) (Cert.KernelIdeal.Gen.k0_pay15 x3) (Cert.KernelIdeal.Gen.k0_pay16 x2) := rfl

theorem db_eq (df : Vec Ideal S416x1024 .f32) :
    k0_pay20 (F := Ideal) (k0_pay15 df x9) (k0_pay16 x2) (k0_pay18 x2) one
      = Cert.KernelIdeal.Gen.k0_pay17 (F := Ideal) df x9 x2 := rfl

theorem gpost_eq (r : Vec Ideal S1x1024 .f32) :
    k0_pay8 (F := Ideal) x0 x4 r = Cert.KernelIdeal.Gen.k0_pay7 (F := Ideal) x0 x4 r := rfl

theorem gpre_eq (dn : Vec Ideal S416x1024 .f32) (r : Vec Ideal S1x1024 .f32) :
    k0_pay1 (F := Ideal) (k0_pay23 (k0_pay13 a x10 x1) dn) r
      = Cert.KernelIdeal.Gen.k0_pay21 (F := Ideal) (Cert.KernelIdeal.Gen.k0_pay11 (k0_pay11 a x10 x1)) dn r := rfl

end

/-! ## The blocks -/

theorem idx : ∀ t : Fin cfg0.N,
    win0_0.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![0, 0]
    ∧ win0_11.index t = ![t.val, 0] ∧ win0_12.index t = ![t.val, 0] ∧ win0_13.index t = ![t.val, 0]
    ∧ win0_14.index t = ![t.val, 0] ∧ win0_15.index t = ![t.val, 0]
    ∧ win0_16.index t = ![0, 0] ∧ win0_17.index t = ![0, 0] :=
  (by decide +kernel : ∀ t : Fin grid0.N, _)

/-- The second array's block starts 128 rows early, and never before the array. -/
theorem idx1 : ∀ t : Fin cfg0.N, win0_1.index t = ![416 * t.val - 128, 0] :=
  (by decide +kernel : ∀ t : Fin grid0.N, _)

theorem blk0 (t : Fin cfg0.N) (p : Fin 416) (k : Fin 1024) :
    (iblk m c 0 t : Vec Ideal S416x1024 .f32) (ix2 p k) = V m c main_arg7 (ix2 (at_ t p) k) := by
  blk_ext [iblk, at_, idx t]

theorem blk2 (t : Fin cfg0.N) (p : Fin 416) (k : Fin 2816) :
    (iblk m c 2 t : Vec Ideal S416x2816 .bf16) (ix2 p k) = V m c main_v15 (ix2 (at_ t p) k) := by
  blk_ext [iblk, at_, idx t]

theorem blk3 (t : Fin cfg0.N) (p : Fin 416) (k : Fin 2816) :
    (iblk m c 3 t : Vec Ideal S416x2816 .bf16) (ix2 p k) = V m c main_v16 (ix2 (at_ t p) k) := by
  blk_ext [iblk, at_, idx t]

theorem blk4 (t : Fin cfg0.N) (p : Fin 416) (k : Fin 1024) :
    (iblk m c 4 t : Vec Ideal S416x1024 .f32) (ix2 p k) = V m c main_v19 (ix2 (at_ t p) k) := by
  blk_ext [iblk, at_, idx t]

theorem blk1 (t : Fin cfg0.N) (p : Fin 416) (k : Fin 1024) :
    (iblk m c 1 t : Vec Ideal S416x1024 .f32) (ix2 p k)
      = V m c main_arg1 (ix2 ⟨416 * t.val - 128 + p.val, by have : t.val < 20 := t.isLt; omega⟩ k) := by
  have h0 : (((View.whole main_arg1).slice (win0_1.rect t)).emb (ix2 p k) 0 : Nat) = win0_1.index t 0 + p.val :=
    ValueKit.view_emb_slice_whole_unit_val main_arg1 _ _ _ _ 0
  have h1 : (((View.whole main_arg1).slice (win0_1.rect t)).emb (ix2 p k) 1 : Nat) = win0_1.index t 1 + k.val :=
    ValueKit.view_emb_slice_whole_unit_val main_arg1 _ _ _ _ 1
  rw [idx1 t] at h0 h1
  blk_ext [iblk]
  · exact h0
  · exact h1.trans (Nat.zero_add _)

theorem blk5 (t : Fin cfg0.N) (p : Fin 1) (k : Fin 1024) :
    (iblk m c 5 t : Vec Ideal S1x1024 .f32) (ix2 p k) = V m c main_arg2 (ix2 p k) := by
  blk_ext [iblk, idx t]

theorem blk6 (t : Fin cfg0.N) (p : Fin 1) (k : Fin 1024) :
    (iblk m c 6 t : Vec Ideal S1x1024 .f32) (ix2 p k) = V m c main_arg6 (ix2 p k) := by
  blk_ext [iblk, idx t]

theorem blk7 (t : Fin cfg0.N) (p : Fin 2816) (k : Fin 1024) :
    (iblk m c 7 t : Vec Ideal S2816x1024 .bf16) (ix2 p k) = V m c main_v21 (ix2 p k) := by
  blk_ext [iblk, idx t]

theorem blk8 (t : Fin cfg0.N) (p : Fin 2816) (k : Fin 1024) :
    (iblk m c 8 t : Vec Ideal S2816x1024 .bf16) (ix2 p k) = V m c main_v23 (ix2 p k) := by
  blk_ext [iblk, idx t]

theorem blk9 (t : Fin cfg0.N) (p : Fin 2816) (k : Fin 1024) :
    (iblk m c 9 t : Vec Ideal S2816x1024 .bf16) (ix2 p k) = V m c main_v24 (ix2 p k) := by
  blk_ext [iblk, idx t]

theorem blk10 (t : Fin cfg0.N) (p : Fin 128) (k : Fin 1024) :
    (iblk m c 10 t : Vec Ideal S128x1024 .f32) (ix2 p k) = V m c main_arg0 (ix2 p k) := by
  blk_ext [iblk, idx t]

/-- The rows the launch runs on: the first array's, then the second's. -/
def behind (front : Vec Ideal S128x1024 .f32) (x : Vec Ideal S8192x1024 .f32) : Vec Ideal S8320x1024 .f32 :=
  concatenate S8320x1024 0 [⟨S128x1024, front⟩, ⟨S8192x1024, x⟩] concatenates_S128x1024_S8192x1024_S8320x1024_d0

theorem first : ∀ t : Fin cfg0.N, Scalar.cmpi .eq (BitVec.ofNat 32 (grid0.coords t 0).val) 0#32
    = if t.val = 0 then 1#1 else 0#1 :=
  (by decide +kernel : ∀ t : Fin grid0.N, _)

/-- The block of those rows, as the body puts it together. -/
abbrev hBlk (t : Fin cfg0.N) : Vec Ideal S416x1024 .f32 :=
  k0_pay11 (F := Ideal) (BitVec.ofNat 32 (grid0.coords t 0).val) (iblk m c 10 t) (iblk m c 1 t)

theorem h_blk (t : Fin cfg0.N) (p : Fin 416) (k : Fin 1024) :
    hBlk m c t (ix2 p k) = behind (V m c main_arg0) (V m c main_arg1) (ix2 (at_ t p) k) := by
  unfold hBlk k0_pay11 behind
  rw [first]
  have ht : t.val < 20 := t.isLt
  by_cases h : t.val = 0
  · rw [if_pos h]
    pointwise
    simp only [blk1, blk10]
    have e : (at_ t p).val = p.val := by simp [at_, h]
    by_cases hp : p.val < 128
    · rw [dif_pos hp, dif_pos (e.symm ▸ hp : (at_ t p).val < 128)]
      exact congrArg (fun r => V m c main_arg0 (ix2 r k)) (Fin.ext e.symm)
    · rw [dif_neg hp, dif_neg (e.symm ▸ hp : ¬(at_ t p).val < 128)]
      exact congrArg (fun r => V m c main_arg1 (ix2 r k)) (Fin.ext (by
        show 416 * t.val - 128 + (p.val - 128) = (at_ t p).val - 128
        omega))
  · rw [if_neg h]
    pointwise
    simp only [blk1]
    have e : (at_ t p).val = 416 * t.val + p.val := rfl
    rw [dif_neg (by omega : ¬(at_ t p).val < 128)]
    exact congrArg (fun r => V m c main_arg1 (ix2 r k)) (Fin.ext (by
      show 416 * t.val - 128 + p.val = (at_ t p).val - 128
      omega))

/-- What the launch is given. -/
def given : Given :=
  givenOf (V m c main_arg7) (behind (V m c main_arg0) (V m c main_arg1)) (V m c main_v15) (V m c main_v16)
    (V m c main_v19) (V m c main_arg2) (V m c main_arg6) (V m c main_v21) (V m c main_v23) (V m c main_v24)

/-! ## What the body leaves of its blocks -/

abbrev dnBlk (t : Fin cfg0.N) : Vec Ideal S416x1024 .f32 :=
  k0_pay22 (F := Ideal) (k0_pay15 (k0_pay9 (iblk m c 0 t) (iblk m c 4 t) (iblk m c 6 t)) (iblk m c 9 t))
    (k0_pay16 (iblk m c 2 t)) (k0_pay17 (iblk m c 3 t)) (k0_pay18 (iblk m c 2 t)) one (iblk m c 7 t) (iblk m c 8 t)

theorem dn_blk (t : Fin cfg0.N) (p : Fin 416) (k : Fin 1024) :
    dnBlk m c t (ix2 p k) = (given m c).dn (at_ t p) k := by
  rw [dnBlk, dn_eq, Block.dn_apply]
  simp only [blk0, blk2, blk3, blk4, blk6, blk7, blk8, blk9]
  rfl

theorem dh_blk (t : Fin cfg0.N) (y : S416x1024.Idx) :
    k0_pay2 (F := Ideal) (iblk m c 0 t) (k0_pay12 (BitVec.ofNat 32 (grid0.coords t 0).val) (iblk m c 10 t) (iblk m c 1 t))
      (k0_pay13 (BitVec.ofNat 32 (grid0.coords t 0).val) (iblk m c 10 t) (iblk m c 1 t)) (dnBlk m c t) (iblk m c 5 t) y
      = (given m c).dh (at_ t (y 0)) (y 1) := by
  obtain ⟨p, k, rfl⟩ : ∃ (p : Fin 416) (k : Fin 1024), y = ix2 p k := ⟨y 0, y 1, eq_ix2 y⟩
  rw [dh_eq, Block.dh_apply]
  simp only [dn_blk, h_blk, blk0, blk5]
  rfl

theorem df_blk (t : Fin cfg0.N) (p : Fin 416) (k : Fin 1024) :
    k0_pay9 (F := Ideal) (iblk m c 0 t) (iblk m c 4 t) (iblk m c 6 t) (ix2 p k) = (given m c).df (at_ t p) k := by
  rw [df_eq, Block.df_apply]
  simp only [blk0, blk4, blk6]
  rfl

theorem df16_blk (t : Fin cfg0.N) (y : S416x1024.Idx) :
    k0_pay10 (F := Ideal) (k0_pay9 (iblk m c 0 t) (iblk m c 4 t) (iblk m c 6 t)) y
      = (given m c).df (at_ t (y 0)) (y 1) := by
  obtain ⟨p, k, rfl⟩ : ∃ (p : Fin 416) (k : Fin 1024), y = ix2 p k := ⟨y 0, y 1, eq_ix2 y⟩
  rw [df16_eq, Block.df16_apply, df_blk]
  rfl

theorem da_blk (t : Fin cfg0.N) (y : S416x2816.Idx) :
    k0_pay21 (F := Ideal) (k0_pay15 (k0_pay9 (iblk m c 0 t) (iblk m c 4 t) (iblk m c 6 t)) (iblk m c 9 t))
      (k0_pay16 (iblk m c 2 t)) (k0_pay17 (iblk m c 3 t)) (k0_pay18 (iblk m c 2 t)) one y
      = (given m c).da (at_ t (y 0)) (y 1) := by
  obtain ⟨p, j, rfl⟩ : ∃ (p : Fin 416) (j : Fin 2816), y = ix2 p j := ⟨y 0, y 1, eq_ix2 y⟩
  rw [da_eq, Block.da_apply]
  simp only [df_blk, blk2, blk3, blk9]
  rfl

theorem db_blk (t : Fin cfg0.N) (y : S416x2816.Idx) :
    k0_pay20 (F := Ideal) (k0_pay15 (k0_pay9 (iblk m c 0 t) (iblk m c 4 t) (iblk m c 6 t)) (iblk m c 9 t))
      (k0_pay16 (iblk m c 2 t)) (k0_pay18 (iblk m c 2 t)) one y
      = (given m c).db (at_ t (y 0)) (y 1) := by
  obtain ⟨p, j, rfl⟩ : ∃ (p : Fin 416) (j : Fin 2816), y = ix2 p j := ⟨y 0, y 1, eq_ix2 y⟩
  rw [db_eq, Block.db_apply]
  simp only [df_blk, blk2, blk9]
  rfl

theorem n_blk (t : Fin cfg0.N) (y : S416x1024.Idx) :
    k0_pay14 (F := Ideal) (BitVec.ofNat 32 (grid0.coords t 0).val) (iblk m c 10 t) (iblk m c 1 t) (iblk m c 5 t) y
      = (given m c).n (at_ t (y 0)) (y 1) := by
  obtain ⟨p, k, rfl⟩ : ∃ (p : Fin 416) (k : Fin 1024), y = ix2 p k := ⟨y 0, y 1, eq_ix2 y⟩
  rw [n_eq, Block.n_apply]
  simp only [h_blk, blk5]
  rfl

theorem gpost_blk (t : Fin cfg0.N) (X : Vec Ideal S1x1024 .f32) (k : Fin 1024) :
    k0_pay8 (F := Ideal) (iblk m c 0 t) (iblk m c 4 t) X (ix2 0 k)
      = X (ix2 0 k) + ∑ p : Fin 416, (given m c).dgpost (at_ t p) k := by
  rw [gpost_eq, Block.gpost_apply]
  simp only [blk0, blk4]
  rfl

theorem gpre_blk (t : Fin cfg0.N) (X : Vec Ideal S1x1024 .f32) (k : Fin 1024) :
    k0_pay1 (F := Ideal) (k0_pay23 (k0_pay13 (BitVec.ofNat 32 (grid0.coords t 0).val) (iblk m c 10 t) (iblk m c 1 t))
        (dnBlk m c t)) X (ix2 0 k)
      = X (ix2 0 k) + ∑ p : Fin 416, (given m c).dgpre (at_ t p) k := by
  rw [gpre_eq, Block.gpre_apply]
  simp only [h_blk, dn_blk]
  rfl

theorem zero_apply (i : S8x1024.Idx) : k0_pay7 (F := Ideal) i = 0 := by
  unfold k0_pay7
  exact bits_zero

theorem zero_apply' (i : S8x1024.Idx) : k0_pay24 (F := Ideal) i = 0 := by
  unfold k0_pay24
  exact bits_zero

/-! ## The arrays -/

theorem dh_array : (dats m 0 c).arrAt 11 cfg0.N = fun i : S8320x1024.Idx => (given m c).dh (i 0) (i 1) := by
  refine (dats m 0 c).arrAt_eq_of_covers 11 _ (by decide +kernel) fun t hf y => ?_
  blk_simp
  have he : ((View.whole main_v25_0).slice (win0_11.rect t)).emb y = ix2 (at_ t (y 0)) (y 1) := by
    blk_ext [at_, idx t]
  rw [after0_11, he]
  by_cases h : t.val % 20 = 0
  · rw [outsAt0_A m c t h h]
    frame_out
    exact dh_blk m c t y
  · rw [outsAt0_B m c t h h]
    frame_out
    exact dh_blk m c t y

theorem da_array : (dats m 0 c).arrAt 12 cfg0.N = fun i : S8320x2816.Idx => (given m c).da (i 0) (i 1) := by
  refine (dats m 0 c).arrAt_eq_of_covers 12 _ (by decide +kernel) fun t hf y => ?_
  blk_simp
  have he : ((View.whole main_v25_1).slice (win0_12.rect t)).emb y = ix2 (at_ t (y 0)) (y 1) := by
    blk_ext [at_, idx t]
  rw [after0_12, he]
  by_cases h : t.val % 20 = 0
  · rw [outsAt0_A m c t h h]
    frame_out
    exact da_blk m c t y
  · rw [outsAt0_B m c t h h]
    frame_out
    exact da_blk m c t y

theorem db_array : (dats m 0 c).arrAt 13 cfg0.N = fun i : S8320x2816.Idx => (given m c).db (i 0) (i 1) := by
  refine (dats m 0 c).arrAt_eq_of_covers 13 _ (by decide +kernel) fun t hf y => ?_
  blk_simp
  have he : ((View.whole main_v25_2).slice (win0_13.rect t)).emb y = ix2 (at_ t (y 0)) (y 1) := by
    blk_ext [at_, idx t]
  rw [after0_13, he]
  by_cases h : t.val % 20 = 0
  · rw [outsAt0_A m c t h h]
    frame_out
    exact db_blk m c t y
  · rw [outsAt0_B m c t h h]
    frame_out
    exact db_blk m c t y

theorem df_array : (dats m 0 c).arrAt 14 cfg0.N = fun i : S8320x1024.Idx => (given m c).df (i 0) (i 1) := by
  refine (dats m 0 c).arrAt_eq_of_covers 14 _ (by decide +kernel) fun t hf y => ?_
  blk_simp
  have he : ((View.whole main_v25_3).slice (win0_14.rect t)).emb y = ix2 (at_ t (y 0)) (y 1) := by
    blk_ext [at_, idx t]
  rw [after0_14, he]
  by_cases h : t.val % 20 = 0
  · rw [outsAt0_A m c t h h]
    frame_out
    exact df16_blk m c t y
  · rw [outsAt0_B m c t h h]
    frame_out
    exact df16_blk m c t y

theorem n_array : (dats m 0 c).arrAt 15 cfg0.N = fun i : S8320x1024.Idx => (given m c).n (i 0) (i 1) := by
  refine (dats m 0 c).arrAt_eq_of_covers 15 _ (by decide +kernel) fun t hf y => ?_
  blk_simp
  have he : ((View.whole main_v25_4).slice (win0_15.rect t)).emb y = ix2 (at_ t (y 0)) (y 1) := by
    blk_ext [at_, idx t]
  rw [after0_15, he]
  by_cases h : t.val % 20 = 0
  · rw [outsAt0_A m c t h h]
    frame_out
    exact n_blk m c t y
  · rw [outsAt0_B m c t h h]
    frame_out
    exact n_blk m c t y

theorem gpost_sum (t : Fin cfg0.N) (ht : t.val + 1 = cfg0.N) (i : S8x1024.Idx) :
    (outsAt0 m c t.val t.isLt).2.2.2.2.2.2 i = total (given m c).dgpost i := by
  rw [Pipeline.eq_sum_fin_of_reset_step_last (fun n h => (outsAt0 m c n h).2.2.2.2.2.2 i) 20 (0 : EReal)
    (fun t => part (given m c).dgpost t i) ?_ ?_ (by decide) t ht, zero_add]
  · exact sum_part (given m c).dgpost i
  · intro t h
    rw [outsAt0_A m c t h h]
    frame_out
    rw [RowStore.canon_row, RowStore.readCov_row, put_step (given m c).dgpost t _ _ _ i, zero_apply]
    intro k
    exact (gpost_blk m c t _ k).trans (by rw [RowStore.ld_row])
  · intro t h
    rw [outsAt0_B m c t h h]
    frame_out
    rw [RowStore.read_row, put_step (given m c).dgpost t _ _ _ i]
    intro k
    exact (gpost_blk m c t _ k).trans (by rw [RowStore.ld_row])

theorem gpost_array : (dats m 0 c).arrAt 17 cfg0.N = total (given m c).dgpost := by
  refine (dats m 0 c).arrAt_eq_of_covers 17 _ (by decide +kernel) fun t hf y => ?_
  blk_simp
  have he : ((View.whole main_v25_6).slice (win0_17.rect t)).emb y = y := by
    blk_ext [idx t]
  rw [after0_17, he]
  have hm := (flush0_17 t).mp hf
  exact gpost_sum m c t (by have : t.val < 20 := t.isLt; show t.val + 1 = 20; omega) y

theorem gpre_sum (t : Fin cfg0.N) (ht : t.val + 1 = cfg0.N) (i : S8x1024.Idx) :
    (outsAt0 m c t.val t.isLt).2.2.2.2.2.1 i = total (given m c).dgpre i := by
  rw [Pipeline.eq_sum_fin_of_reset_step_last (fun n h => (outsAt0 m c n h).2.2.2.2.2.1 i) 20 (0 : EReal)
    (fun t => part (given m c).dgpre t i) ?_ ?_ (by decide) t ht, zero_add]
  · exact sum_part (given m c).dgpre i
  · intro t h
    rw [outsAt0_A m c t h h]
    frame_out
    rw [RowStore.canon_row, RowStore.readCov_row, put_step (given m c).dgpre t _ _ _ i, zero_apply']
    intro k
    exact (gpre_blk m c t _ k).trans (by rw [RowStore.ld_row])
  · intro t h
    rw [outsAt0_B m c t h h]
    frame_out
    rw [RowStore.read_row, put_step (given m c).dgpre t _ _ _ i]
    intro k
    exact (gpre_blk m c t _ k).trans (by rw [RowStore.ld_row])

theorem gpre_array : (dats m 0 c).arrAt 16 cfg0.N = total (given m c).dgpre := by
  refine (dats m 0 c).arrAt_eq_of_covers 16 _ (by decide +kernel) fun t hf y => ?_
  blk_simp
  have he : ((View.whole main_v25_5).slice (win0_16.rect t)).emb y = y := by
    blk_ext [idx t]
  rw [after0_16, he]
  have hm := (flush0_16 t).mp hf
  exact gpre_sum m c t (by have : t.val < 20 := t.isLt; show t.val + 1 = 20; omega) y

end Cert.Proof.FirstArrays

end
-- ==== Proof.FirstRef.lean ====
/-
  The first block's reference is the second block's, on the rows of both arrays.
-/
module

public import proofs.«01_k».proof.Proof.Gen.FirstRefIdeal.Read
public import proofs.«01_k».proof.Proof.Reference
public import proofs.«01_k».proof.Proof.FirstArrays

@[expose] public section

noncomputable section

namespace Cert.Proof.FirstRef

open Idealize.ShloMosaic
open Cert.FirstRefIdeal Cert.FirstRefIdeal.Read
open Cert.Proof.FirstArrays (behind)

variable (x0 : Vec Ideal S128x1024 .f32) (x1 : Vec Ideal S8192x1024 .f32) (x2 : Vec Ideal S1x1024 .f32)
  (x3 x4 : Vec Ideal S1024x2816 .f32) (x5 : Vec Ideal S2816x1024 .f32) (x6 : Vec Ideal S1x1024 .f32)
  (x7 : Vec Ideal S8320x1024 .f32)

theorem n_eq : val_main_v97 (F := Ideal) x0 x1 x2
    = Cert.ReferenceIdeal.Read.val_main_v95 (F := Ideal) (behind x0 x1) x2 := rfl

theorem df_eq : val_main_v96 (F := Ideal) x0 x1 x2 x3 x4 x5 x6 x7
    = Cert.ReferenceIdeal.Read.val_main_v94 (F := Ideal) (behind x0 x1) x2 x3 x4 x5 x6 x7 := rfl

theorem da_eq : val_main_v94 (F := Ideal) x0 x1 x2 x3 x4 x5 x6 x7
    = Cert.ReferenceIdeal.Read.val_main_v92 (F := Ideal) (behind x0 x1) x2 x3 x4 x5 x6 x7 := rfl

theorem db_eq : val_main_v95 (F := Ideal) x0 x1 x2 x3 x4 x5 x6 x7
    = Cert.ReferenceIdeal.Read.val_main_v93 (F := Ideal) (behind x0 x1) x2 x3 x4 x5 x6 x7 := rfl

theorem dgpost_eq : val_main_v99 (F := Ideal) x0 x1 x2 x3 x4 x5 x7
    = Cert.ReferenceIdeal.Read.val_main_v97 (F := Ideal) (behind x0 x1) x2 x3 x4 x5 x7 := rfl

theorem dgpre_eq : val_main_v98 (F := Ideal) x0 x1 x2 x3 x4 x5 x6 x7
    = Cert.ReferenceIdeal.Read.val_main_v96 (F := Ideal) (behind x0 x1) x2 x3 x4 x5 x6 x7 := rfl

/-- Only the gradient given is reshaped first, to its own shape. -/
theorem dh_eq : val_main_v93 (F := Ideal) x0 x1 x2 x3 x4 x5 x6 x7
    = Cert.ReferenceIdeal.Read.val_main_v91 (F := Ideal) (behind x0 x1) x2 x3 x4 x5 x6 x7 := by
  have h : val_main_v44 (F := Ideal) x7 = x7 := by
    unfold val_main_v44
    exact shapeCast_self _ _
  unfold val_main_v93 val_main_v91 val_main_v84
  rw [h]
  rfl

/-- Rows of two finite arrays are finite. -/
theorem real_behind {x0 : Vec Ideal S128x1024 .f32} {x1 : Vec Ideal S8192x1024 .f32} (h0 : ∀ i, IsReal (x0 i))
    (h1 : ∀ i, IsReal (x1 i)) : Reference.Fin2 (behind x0 x1) := by
  intro r k
  unfold behind
  pointwise
  split
  · exact h0 _
  · exact h1 _

/-- The seven results of the first block's reference. -/
theorem results (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i)) :
    Reference.Are (Reference.given (behind x0 x1) x2 x3 x4 x5 x6 x7)
      (val_main_v93 (F := Ideal) x0 x1 x2 x3 x4 x5 x6 x7) (val_main_v94 (F := Ideal) x0 x1 x2 x3 x4 x5 x6 x7)
      (val_main_v95 (F := Ideal) x0 x1 x2 x3 x4 x5 x6 x7) (val_main_v96 (F := Ideal) x0 x1 x2 x3 x4 x5 x6 x7)
      (val_main_v97 (F := Ideal) x0 x1 x2) (val_main_v98 (F := Ideal) x0 x1 x2 x3 x4 x5 x6 x7)
      (val_main_v99 (F := Ideal) x0 x1 x2 x3 x4 x5 x7) := by
  rw [dh_eq, da_eq, db_eq, df_eq, n_eq, dgpre_eq, dgpost_eq]
  exact Reference.results (real_behind h0 h1) (fun _ _ => h2 _) (fun _ _ => h3 _) (fun _ _ => h4 _) (fun _ _ => h5 _)
    (fun _ _ => h6 _) (fun _ _ => h7 _)

end Cert.Proof.FirstRef

end
-- ==== Proof.FirstHost.lean ====
/-
  What the host operations hand to the first block's launch: the forward pass's products on the rows of both
  arrays, as the second block's reference computes them, and the weights.
-/
module

public import proofs.«01_k».proof.Proof.Gen.FirstIdeal.Value
public import proofs.«01_k».proof.Proof.Gen.ReferenceIdeal.Read
public import proofs.«01_k».proof.Proof.Host
public import proofs.«01_k».proof.Proof.FirstArrays
public import Idealize.ShloMosaic.Lib.ValueLayout

@[expose] public section

noncomputable section

namespace Cert.Proof.FirstHost

open Cert.FirstIdeal Cert.FirstIdeal.Gen Idealize.ShloMosaic Idealize.ShloMosaic.TcCoe Idealize.SL.Sem

variable (m : (ℓ : Loc nD τ sig) → Buf (Elt Ideal) ℓ) (c : Dev nD)

/-- The gate's projection. -/
theorem V_a : V m c main_v15 = Cert.ReferenceIdeal.Read.val_main_v18 (F := Ideal)
    (FirstArrays.behind (m ((c : Thread nD τ).loc main_arg0)) (m ((c : Thread nD τ).loc main_arg1))) (m ((c : Thread nD τ).loc main_arg2)) (m ((c : Thread nD τ).loc main_arg3)) := by
  rw [Host.add_a]
  unfold V
  simp only [hostOps0, hostOps0_1, hostOps0_2, List.flatten_cons, List.flatten_nil, List.append_nil, List.cons_append, List.nil_append]
  after_results
  rfl

/-- The other projection. -/
theorem V_b : V m c main_v16 = Cert.ReferenceIdeal.Read.val_main_v21 (F := Ideal)
    (FirstArrays.behind (m ((c : Thread nD τ).loc main_arg0)) (m ((c : Thread nD τ).loc main_arg1))) (m ((c : Thread nD τ).loc main_arg2)) (m ((c : Thread nD τ).loc main_arg4)) := by
  rw [Host.add_b]
  unfold V
  simp only [hostOps0, hostOps0_1, hostOps0_2, List.flatten_cons, List.flatten_nil, List.append_nil, List.cons_append, List.nil_append]
  after_results
  rfl

/-- The product of the gated rows with the last weight. -/
theorem V_f : V m c main_v19 = Cert.ReferenceIdeal.Read.val_main_v24 (F := Ideal)
    (FirstArrays.behind (m ((c : Thread nD τ).loc main_arg0)) (m ((c : Thread nD τ).loc main_arg1))) (m ((c : Thread nD τ).loc main_arg2)) (m ((c : Thread nD τ).loc main_arg3))
    (m ((c : Thread nD τ).loc main_arg4)) (m ((c : Thread nD τ).loc main_arg5)) := by
  rw [Host.add_f]
  unfold Cert.ReferenceIdeal.Read.val_main_v23 Cert.ReferenceIdeal.Read.val_main_v22
    Cert.ReferenceIdeal.Read.val_main_v19_0 Cert.ReferenceIdeal.Read.val_main_v19_2
    Cert.ReferenceIdeal.Read.val_main_call0_v3 Cert.ReferenceIdeal.Read.val_main_call0_v1
    Cert.ReferenceIdeal.Read.val_main_call0_v0
  rw [Host.add_a, Host.add_b]
  unfold V
  simp only [hostOps0, hostOps0_1, hostOps0_2, List.flatten_cons, List.flatten_nil, List.append_nil, List.cons_append, List.nil_append]
  after_results
  rfl

/-- The gate's weight, transposed. -/
theorem V_wg (j : Fin 2816) (k : Fin 1024) : (V m c main_v21 : S2816x1024.Idx → EReal) (ix2 j k)
    = (m ((c : Thread nD τ).loc main_arg3) : S1024x2816.Idx → EReal) (ix2 k j) := by
  have h : V m c main_v21 = truncf (F := Ideal) .bf16 (transpose S2816x1024 [1, 0] (m ((c : Thread nD τ).loc main_arg3)) transposes_S1024x2816_S2816x1024_1_0) bitsLt_bf16_f32 := by
    unfold V
    simp only [hostOps0, hostOps0_1, hostOps0_2, List.flatten_cons, List.flatten_nil, List.append_nil, List.cons_append, List.nil_append]
    after_results
  rw [h]
  exact ValueIdx.transpose_ix2_apply _ _ j k

/-- The other weight, transposed. -/
theorem V_wu (j : Fin 2816) (k : Fin 1024) : (V m c main_v23 : S2816x1024.Idx → EReal) (ix2 j k)
    = (m ((c : Thread nD τ).loc main_arg4) : S1024x2816.Idx → EReal) (ix2 k j) := by
  have h : V m c main_v23 = truncf (F := Ideal) .bf16 (transpose S2816x1024 [1, 0] (m ((c : Thread nD τ).loc main_arg4)) transposes_S1024x2816_S2816x1024_1_0) bitsLt_bf16_f32 := by
    unfold V
    simp only [hostOps0, hostOps0_1, hostOps0_2, List.flatten_cons, List.flatten_nil, List.append_nil, List.cons_append, List.nil_append]
    after_results
  rw [h]
  exact ValueIdx.transpose_ix2_apply _ _ j k

/-- The last weight. -/
theorem V_wd : V m c main_v24 = m ((c : Thread nD τ).loc main_arg5) := by
  unfold V
  simp only [hostOps0, hostOps0_1, hostOps0_2, List.flatten_cons, List.flatten_nil, List.append_nil, List.cons_append, List.nil_append]
  after_results
  rfl

end Cert.Proof.FirstHost

end
-- ==== Proof.FirstResults.lean ====
/-
  The arrays the first block's launch leaves are its reference's results, wherever the arguments are finite.
-/
module

public import proofs.«01_k».proof.Proof.FirstArrays
public import proofs.«01_k».proof.Proof.FirstHost
public import proofs.«01_k».proof.Proof.Reference

@[expose] public section

noncomputable section

namespace Cert.Proof.FirstResults

open Idealize.ShloMosaic Idealize.ShloMosaic.TcCoe
open Cert.FirstIdeal Cert.FirstIdeal.Gen
open Cert.Proof.FirstArrays (behind)

variable (m : (ℓ : Loc nD τ sig) → Buf (Elt Ideal) ℓ) (c : Dev nD)

abbrev x0 : Vec Ideal S128x1024 .f32 := m ((c : Thread nD τ).loc main_arg0)
abbrev x1 : Vec Ideal S8192x1024 .f32 := m ((c : Thread nD τ).loc main_arg1)
abbrev x2 : Vec Ideal S1x1024 .f32 := m ((c : Thread nD τ).loc main_arg2)
abbrev x3 : Vec Ideal S1024x2816 .f32 := m ((c : Thread nD τ).loc main_arg3)
abbrev x4 : Vec Ideal S1024x2816 .f32 := m ((c : Thread nD τ).loc main_arg4)
abbrev x5 : Vec Ideal S2816x1024 .f32 := m ((c : Thread nD τ).loc main_arg5)
abbrev x6 : Vec Ideal S1x1024 .f32 := m ((c : Thread nD τ).loc main_arg6)
abbrev x7 : Vec Ideal S8320x1024 .f32 := m ((c : Thread nD τ).loc main_arg7)

theorem behind_eq {f f' : Vec Ideal S128x1024 .f32} {x x' : Vec Ideal S8192x1024 .f32} (hf : f = f') (hx : x = x') :
    behind f x = behind f' x' := by
  subst hf hx
  rfl

/-- What the launch is given is what the reference computes from. -/
theorem given_eq : FirstArrays.given m c
    = Reference.given (behind (x0 m c) (x1 m c)) (x2 m c) (x3 m c) (x4 m c) (x5 m c) (x6 m c) (x7 m c) :=
  Reference.givenOf_eq (V_main_arg7 m c) (behind_eq (V_main_arg0 m c) (V_main_arg1 m c)) (FirstHost.V_a m c)
    (FirstHost.V_b m c) (FirstHost.V_f m c) (V_main_arg2 m c) (V_main_arg6 m c) (FirstHost.V_wg m c)
    (FirstHost.V_wu m c) (FirstHost.V_wd m c)

/-- The launch's seven arrays. -/
theorem arrays : Reference.Are
    (Reference.given (behind (x0 m c) (x1 m c)) (x2 m c) (x3 m c) (x4 m c) (x5 m c) (x6 m c) (x7 m c))
    ((dats m 0 c).arrAt 11 cfg0.N) ((dats m 0 c).arrAt 12 cfg0.N) ((dats m 0 c).arrAt 13 cfg0.N)
    ((dats m 0 c).arrAt 14 cfg0.N) ((dats m 0 c).arrAt 15 cfg0.N) ((dats m 0 c).arrAt 16 cfg0.N)
    ((dats m 0 c).arrAt 17 cfg0.N) :=
  given_eq m c ▸ ⟨FirstArrays.dh_array m c, FirstArrays.da_array m c, FirstArrays.db_array m c, FirstArrays.df_array m c,
    FirstArrays.n_array m c, FirstArrays.gpre_array m c, FirstArrays.gpost_array m c⟩

end Cert.Proof.FirstResults

end
-- ==== Proof.FirstBlock.lean ====
/-
  The first feed-forward block: its launch leaves the gradients of its forward lines, and the reference runs without
  fault and keeps its arguments.
-/
module

public import proofs.«01_k».proof.Defs
public import proofs.«01_k».proof.Proof.Gen.FirstIdeal.Value
public import proofs.«01_k».proof.Proof.FirstFinite
public import proofs.«01_k».proof.Proof.FirstRef
public import proofs.«01_k».proof.Proof.FirstResults
public import Idealize.ShloMosaic.Adequacy
public import Idealize.ShloMosaic.Init

@[expose] public section

noncomputable section
namespace Cert.Proof.FirstBlock

open Idealize.ShloMosaic Idealize.SL.Sem

/-- Equal arguments have equal results. -/
theorem same {A0 A1 A2 A3 A4 A5 A6 A7 β : Type} {x0 y0 : A0} {x1 y1 : A1} {x2 y2 : A2} {x3 y3 : A3} {x4 y4 : A4}
    {x5 y5 : A5} {x6 y6 : A6} {x7 y7 : A7} (v : A0 → A1 → A2 → A3 → A4 → A5 → A6 → A7 → β) (h0 : x0 = y0) (h1 : x1 = y1)
    (h2 : x2 = y2) (h3 : x3 = y3) (h4 : x4 = y4) (h5 : x5 = y5) (h6 : x6 = y6) (h7 : x7 = y7) :
    v x0 x1 x2 x3 x4 x5 x6 x7 = v y0 y1 y2 y3 y4 y5 y6 y7 := by
  subst h0 h1 h2 h3 h4 h5 h6 h7
  rfl

theorem reference_frame : quiescent_FirstRefIdeal (hFirstRefIdeal := Cert.FirstRefIdeal.Gen.facts) := fun m ρ _ =>
  (θ_run Cert.FirstRefIdeal.defs _ _).mono
    (fun r h => ⟨fun c => (h c).2.2.2.2.2.2.2, sem_eq_zero_of_no_sems (by decide) r.2⟩)
    (Cert.FirstRefIdeal.Value.run (F := Ideal) m ρ)

theorem values : algebraic_FirstIdeal_FirstRefIdeal_pre_finite1 (hFirstIdeal := Cert.FirstIdeal.Gen.facts)
    (hFirstRefIdeal := Cert.FirstRefIdeal.Gen.facts) (hPre_finite1 := FirstFinite.facts) := by
  intro m g m' g' hpre hagree
  have hreal := fun c => @FirstFinite.fn_real FirstFinite.facts _ _ _ _ _ _ _ _ (hpre c)
  refine ⟨fun c => Cert.FirstRefIdeal.Read.val_main_v93 (F := Ideal) (FirstResults.x0 m c) (FirstResults.x1 m c) (FirstResults.x2 m c) (FirstResults.x3 m c) (FirstResults.x4 m c) (FirstResults.x5 m c) (FirstResults.x6 m c) (FirstResults.x7 m c),
    fun c => Cert.FirstRefIdeal.Read.val_main_v94 (F := Ideal) (FirstResults.x0 m c) (FirstResults.x1 m c) (FirstResults.x2 m c) (FirstResults.x3 m c) (FirstResults.x4 m c) (FirstResults.x5 m c) (FirstResults.x6 m c) (FirstResults.x7 m c),
    fun c => Cert.FirstRefIdeal.Read.val_main_v95 (F := Ideal) (FirstResults.x0 m c) (FirstResults.x1 m c) (FirstResults.x2 m c) (FirstResults.x3 m c) (FirstResults.x4 m c) (FirstResults.x5 m c) (FirstResults.x6 m c) (FirstResults.x7 m c),
    fun c => Cert.FirstRefIdeal.Read.val_main_v96 (F := Ideal) (FirstResults.x0 m c) (FirstResults.x1 m c) (FirstResults.x2 m c) (FirstResults.x3 m c) (FirstResults.x4 m c) (FirstResults.x5 m c) (FirstResults.x6 m c) (FirstResults.x7 m c),
    fun c => Cert.FirstRefIdeal.Read.val_main_v97 (F := Ideal) (FirstResults.x0 m c) (FirstResults.x1 m c) (FirstResults.x2 m c),
    fun c => Cert.FirstRefIdeal.Read.val_main_v98 (F := Ideal) (FirstResults.x0 m c) (FirstResults.x1 m c) (FirstResults.x2 m c) (FirstResults.x3 m c) (FirstResults.x4 m c) (FirstResults.x5 m c) (FirstResults.x6 m c) (FirstResults.x7 m c),
    fun c => Cert.FirstRefIdeal.Read.val_main_v99 (F := Ideal) (FirstResults.x0 m c) (FirstResults.x1 m c) (FirstResults.x2 m c) (FirstResults.x3 m c) (FirstResults.x4 m c) (FirstResults.x5 m c) (FirstResults.x7 m c), ?_, ?_⟩
  · refine (θ_run Cert.FirstIdeal.defs _ _).mono (fun r h c => ?_) (Cert.FirstIdeal.Value.run_blocks (F := Ideal) m g)
    obtain ⟨r0, r1, r2, r3, r4, r5, r6, r7⟩ := hreal c
    obtain ⟨e0, e1, e2, e3, e4, e5, e6, kept⟩ := h c
    have K := FirstResults.arrays m c
    have R := FirstRef.results (FirstResults.x0 m c) (FirstResults.x1 m c) (FirstResults.x2 m c) (FirstResults.x3 m c)
      (FirstResults.x4 m c) (FirstResults.x5 m c) (FirstResults.x6 m c) (FirstResults.x7 m c) r0 r1 r2 r3 r4 r5 r6 r7
    exact ⟨e0.trans (K.dh.trans R.dh.symm), e1.trans (K.da.trans R.da.symm), e2.trans (K.db.trans R.db.symm),
      e3.trans (K.df.trans R.df.symm), e4.trans (K.n.trans R.n.symm), e5.trans (K.dgpre.trans R.dgpre.symm),
      e6.trans (K.dgpost.trans R.dgpost.symm), kept⟩
  · refine (θ_run Cert.FirstRefIdeal.defs _ _).mono (fun r h c => ?_) (Cert.FirstRefIdeal.Value.run (F := Ideal) m' g')
    obtain ⟨e0, e1, e2, e3, e4, e5, e6, kept⟩ := h c
    obtain ⟨a0, a1, a2, a3, a4, a5, a6, a7⟩ := hagree c
    exact ⟨e0.trans ((Cert.FirstRefIdeal.Read.val_main_v93_eq _).trans
        (same (Cert.FirstRefIdeal.Read.val_main_v93 (F := Ideal))
          a0 a1 a2 a3 a4 a5 a6 a7)),
      e1.trans ((Cert.FirstRefIdeal.Read.val_main_v94_eq _).trans
        (same (Cert.FirstRefIdeal.Read.val_main_v94 (F := Ideal))
          a0 a1 a2 a3 a4 a5 a6 a7)),
      e2.trans ((Cert.FirstRefIdeal.Read.val_main_v95_eq _).trans
        (same (Cert.FirstRefIdeal.Read.val_main_v95 (F := Ideal))
          a0 a1 a2 a3 a4 a5 a6 a7)),
      e3.trans ((Cert.FirstRefIdeal.Read.val_main_v96_eq _).trans
        (same (Cert.FirstRefIdeal.Read.val_main_v96 (F := Ideal))
          a0 a1 a2 a3 a4 a5 a6 a7)),
      e4.trans ((Cert.FirstRefIdeal.Read.val_main_v97_eq _).trans
        (same (fun x0 x1 x2 _ _ _ _ _ => Cert.FirstRefIdeal.Read.val_main_v97 (F := Ideal) x0 x1 x2)
          a0 a1 a2 a3 a4 a5 a6 a7)),
      e5.trans ((Cert.FirstRefIdeal.Read.val_main_v98_eq _).trans
        (same (Cert.FirstRefIdeal.Read.val_main_v98 (F := Ideal))
          a0 a1 a2 a3 a4 a5 a6 a7)),
      e6.trans ((Cert.FirstRefIdeal.Read.val_main_v99_eq _).trans
        (same (fun x0 x1 x2 x3 x4 x5 _ x7 => Cert.FirstRefIdeal.Read.val_main_v99 (F := Ideal) x0 x1 x2 x3 x4 x5 x7)
          a0 a1 a2 a3 a4 a5 a6 a7)), kept⟩

end Cert.Proof.FirstBlock

end
-- ==== Proof.AttnSame.lean ====
/-
  The attention backward kernel's program has one text in both arithmetics: what holds of it over any numbers holds of
  the kernel's own.
-/
module

public import proofs.«01_k».proof.Defs
public import proofs.«01_k».proof.Proof.Gen.Attention
public import proofs.«01_k».proof.Proof.Gen.AttentionIdeal

@[expose] public section

noncomputable section

namespace Cert.Proof.Attention

open Idealize.ShloMosaic

variable {F : FTy → Type} [FloatOps F]

set_option maxHeartbeats 4000000 in
theorem body_same : @Cert.Attention.cc0_attention_bwd F _ _ = @Cert.AttentionIdeal.cc0_attention_bwd F _ _ := rfl

set_option maxHeartbeats 4000000 in
theorem bodies_same : @Cert.Attention.defs₀ F _ _ = @Cert.AttentionIdeal.defs₀ F _ _ := by
  unfold Cert.Attention.defs₀ Cert.AttentionIdeal.defs₀
  rw [body_same]
  refine congrArg Defs.onTc (funext fun l => funext fun x => ?_)
  match l, x with
  | 0, (t, s) => rfl

set_option maxHeartbeats 4000000 in
theorem defs_same : Cert.Attention.defs (F := F) = Cert.AttentionIdeal.defs (F := F) := by
  unfold Cert.Attention.defs Cert.AttentionIdeal.defs
  rw [bodies_same]
  rfl

set_option maxHeartbeats 4000000 in
theorem main_same : Cert.Attention.main (F := F) = Cert.AttentionIdeal.main (F := F) := rfl

end Cert.Proof.Attention

end
-- ==== Proof.AttnLoop.lean ====
/-
  The loop of the attention backward kernel: what its buffers hold before a trip, the blocks of the
  gate's gradient that a trip stores, and one trip.
-/
module

public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import Idealize.ShloMosaic.Adequacy
public import Idealize.ShloMosaic.Init

@[expose] public section

noncomputable section

namespace Cert.Proof.Attention

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The gradient of the gate on one head's block of 128 rows, from the norm's weight, the head's output
before its norm, the gate and the gradient of the gated output. -/
abbrev gateBlock (w : Vec F S1x128 .f32) (o g d : Vec F S128x128 .f32) : FVec F S128x128 .f32 :=
  k0_pay55 w (k0_pay51 o) g (k0_pay52 g) d

/-- The store of one head's block at the offset `off`, its inputs read at the same offset. -/
abbrev gatePiece (c : Dev nD) (arg1 arg2 arg6 : Memref sig .tc .vmem S640x512 .f32) (w : Vec F S1x128 .f32)
    (f1 : Buf (Elt F) (arg1.view.loc (c : Thread nD τ))) (f2 : Buf (Elt F) (arg2.view.loc (c : Thread nD τ)))
    (f6 : Buf (Elt F) (arg6.view.loc (c : Thread nD τ))) (off : Fin 2 → Nat) (h : ∀ a, off a + S128x128.size a ≤ S640x512.size a) :
    View.Piece (Elt F) S640x512 .f32 :=
  ⟨Rect.unit (s := S640x512) off S128x128.size h, gateBlock w (View.readAt (Elt F) arg2.view (Rect.unit (s := S640x512) off S128x128.size h).toLoadRect f2)
    (View.readAt (Elt F) arg6.view (Rect.unit (s := S640x512) off S128x128.size h).toLoadRect f6)
    (View.readAt (Elt F) arg1.view (Rect.unit (s := S640x512) off S128x128.size h).toLoadRect f1)⟩

/-- The four stores of a trip, one for each head, the last first. -/
abbrev gatePieces (c : Dev nD) (arg1 arg2 arg6 : Memref sig .tc .vmem S640x512 .f32) (w : Vec F S1x128 .f32)
    (f1 : Buf (Elt F) (arg1.view.loc (c : Thread nD τ))) (f2 : Buf (Elt F) (arg2.view.loc (c : Thread nD τ)))
    (f6 : Buf (Elt F) (arg6.view.loc (c : Thread nD τ))) (k : Fin k0_t1_loop.trips) : List (View.Piece (Elt F) S640x512 .f32) :=
  [gatePiece c arg1 arg2 arg6 w f1 f2 f6 (k0_off8 k) (k0_off8_inb k), gatePiece c arg1 arg2 arg6 w f1 f2 f6 (k0_off7 k) (k0_off7_inb k),
   gatePiece c arg1 arg2 arg6 w f1 f2 f6 (k0_off4 k) (k0_off4_inb k), gatePiece c arg1 arg2 arg6 w f1 f2 f6 (k0_off3 k) (k0_off3_inb k)]

/-- What the loop's buffers hold: each input its contents, each output and each scratch buffer anything,
but the gate's gradient something of which `Q` holds. -/
abbrev held (c : Dev nD) (arg1 : Memref sig .tc .vmem S640x512 .f32) (harg1 : arg1.IsWhole) (arg2 : Memref sig .tc .vmem S640x512 .f32) (harg2 : arg2.IsWhole) (arg3 : Memref sig .tc .vmem S640x256 .f32) (harg3 : arg3.IsWhole) (arg4 : Memref sig .tc .vmem S640x256 .f32) (harg4 : arg4.IsWhole) (arg5 : Memref sig .tc .vmem S640x512 .bf16) (harg5 : arg5.IsWhole) (arg6 : Memref sig .tc .vmem S640x512 .f32) (harg6 : arg6.IsWhole) (arg7 : Memref sig .tc .vmem S640x256 .f32) (harg7 : arg7.IsWhole) (arg8 : Memref sig .tc .vmem S5x2x128x128 .f32) (harg8 : arg8.IsWhole) (arg9 : Memref sig .tc .vmem S1x128 .f32) (harg9 : arg9.IsWhole) (arg10 : Memref sig .tc .vmem S640x512 .f32) (harg10 : arg10.IsWhole) (arg11 : Memref sig .tc .vmem S640x512 .f32) (harg11 : arg11.IsWhole) (arg12 : Memref sig .tc .vmem S640x512 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S640x8 .f32) (harg15 : arg15.IsWhole) (arg16 : Memref sig .tc .smem S1x8 .f32) (harg16 : arg16.IsWhole) (arg17 : Memref sig .tc .vmem S1x512 .f32) (harg17 : arg17.IsWhole) (arg18 : Memref sig .tc .vmem S640x256 .f32) (harg18 : arg18.IsWhole) (arg19 : Memref sig .tc .vmem S640x256 .f32) (harg19 : arg19.IsWhole) (arg20 : Memref sig .tc .vmem S640x512 .f32) (harg20 : arg20.IsWhole) (arg21 : Memref sig .tc .vmem S640x512 .f32) (harg21 : arg21.IsWhole) (arg22 : Memref sig .tc .vmem S640x256 .f32) (harg22 : arg22.IsWhole) (arg23 : Memref sig .tc .vmem S8x128 .f32) (harg23 : arg23.IsWhole) (arg24 : Memref sig .tc .vmem S640x512 .f32) (harg24 : arg24.IsWhole) (arg25 : Memref sig .tc .vmem S8320x128 .f32) (harg25 : arg25.IsWhole) (arg26 : Memref sig .tc .vmem S8320x128 .f32) (harg26 : arg26.IsWhole) (arg27 : Memref sig .tc .vmem S8x128 .f32) (harg27 : arg27.IsWhole) (arg28 : Memref sig .tc .vmem S8x512 .f32) (harg28 : arg28.IsWhole) (arg29 : Memref sig .tc .vmem S2x128x128 .f32) (harg29 : arg29.IsWhole) (arg30 : Memref sig .tc .vmem S128x512 .bf16) (harg30 : arg30.IsWhole) (arg31 : Memref sig .tc .vmem S128x512 .bf16) (harg31 : arg31.IsWhole) (arg32 : Memref sig .tc .vmem S128x512 .f32) (harg32 : arg32.IsWhole) (arg33 : Memref sig .tc .vmem S128x512 .f32) (harg33 : arg33.IsWhole) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (Q : Buf (Elt F) (arg21.view.loc (c : Thread nD τ)) → Prop) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g)) ∗ (∃ g, ⌜Q g⌝ ∗ (arg21.view.loc (c : Thread nD τ) ↦[arg21.view.set]{fullShare} g)) ∗ (∃ g, (arg22.view.loc (c : Thread nD τ) ↦[arg22.view.set]{fullShare} g)) ∗ (∃ g, (arg23.view.loc (c : Thread nD τ) ↦[arg23.view.set]{fullShare} g)) ∗ (∃ g, (arg24.view.loc (c : Thread nD τ) ↦[arg24.view.set]{fullShare} g)) ∗ (∃ g, (arg25.view.loc (c : Thread nD τ) ↦[arg25.view.set]{fullShare} g)) ∗ (∃ g, (arg26.view.loc (c : Thread nD τ) ↦[arg26.view.set]{fullShare} g)) ∗ (∃ g, (arg27.view.loc (c : Thread nD τ) ↦[arg27.view.set]{fullShare} g)) ∗ (∃ g, (arg28.view.loc (c : Thread nD τ) ↦[arg28.view.set]{fullShare} g)) ∗ (∃ g, (arg29.view.loc (c : Thread nD τ) ↦[arg29.view.set]{fullShare} g)) ∗ (∃ g, (arg30.view.loc (c : Thread nD τ) ↦[arg30.view.set]{fullShare} g)) ∗ (∃ g, (arg31.view.loc (c : Thread nD τ) ↦[arg31.view.set]{fullShare} g)) ∗ (∃ g, (arg32.view.loc (c : Thread nD τ) ↦[arg32.view.set]{fullShare} g)) ∗ (∃ g, (arg33.view.loc (c : Thread nD τ) ↦[arg33.view.set]{fullShare} g)))

/-- The trips of the loop, numbered over the grid: trip 0 of the whole run is tested by the body, and
the two rows of blocks a trip reads are its own and the one before it. -/
theorem chunk_cases : ∀ (i : grid0.Coords) (k0_t1 : Fin k0_t1_loop.trips),
    (Scalar.cmpi .ne (Scalar.extui (Scalar.cmpi .eq (Scalar.addi (Scalar.muli (BitVec.ofNat 32 (i 0).val) 5#32) (Scf.iv 0#32 1#32 k0_t1)) 0#32) : BitVec 32) 0#32 = 1#1 ∧ k0_off9 i k0_t1 = ![0, 0] ∧ k0_off10 i k0_t1 = ![0, 0])
    ∨ (¬ (Scalar.cmpi .ne (Scalar.extui (Scalar.cmpi .eq (Scalar.addi (Scalar.muli (BitVec.ofNat 32 (i 0).val) 5#32) (Scf.iv 0#32 1#32 k0_t1)) 0#32) : BitVec 32) 0#32 = 1#1) ∧ ∃ p : Nat, k0_off9 i k0_t1 = ![128 * p, 0] ∧ k0_off10 i k0_t1 = ![128 * p + 128, 0]) := by
  have key : ∀ (i : grid0.Coords) (k0_t1 : Fin k0_t1_loop.trips),
    (Scalar.cmpi .ne (Scalar.extui (Scalar.cmpi .eq (Scalar.addi (Scalar.muli (BitVec.ofNat 32 (i 0).val) 5#32) (Scf.iv 0#32 1#32 k0_t1)) 0#32) : BitVec 32) 0#32 = 1#1 ∧ k0_off9 i k0_t1 = ![0, 0] ∧ k0_off10 i k0_t1 = ![0, 0])
    ∨ (¬ (Scalar.cmpi .ne (Scalar.extui (Scalar.cmpi .eq (Scalar.addi (Scalar.muli (BitVec.ofNat 32 (i 0).val) 5#32) (Scf.iv 0#32 1#32 k0_t1)) 0#32) : BitVec 32) 0#32 = 1#1) ∧ k0_off9 i k0_t1 = ![128 * (5 * (i 0).val + k0_t1.val - 1), 0] ∧ k0_off10 i k0_t1 = ![128 * (5 * (i 0).val + k0_t1.val - 1) + 128, 0]) := by decide +kernel
  intro i t
  rcases key i t with h | ⟨h, h9, h10⟩
  · exact .inl h
  · exact .inr ⟨h, _, h9, h10⟩

set_option maxRecDepth 65536 in
set_option maxHeartbeats 40000000 in
/-- One trip, from and to what the buffers hold. -/
theorem trip (c : Dev nD) (i : grid0.Coords) (arg1 : Memref sig .tc .vmem S640x512 .f32) (harg1 : arg1.IsWhole) (arg2 : Memref sig .tc .vmem S640x512 .f32) (harg2 : arg2.IsWhole) (arg3 : Memref sig .tc .vmem S640x256 .f32) (harg3 : arg3.IsWhole) (arg4 : Memref sig .tc .vmem S640x256 .f32) (harg4 : arg4.IsWhole) (arg5 : Memref sig .tc .vmem S640x512 .bf16) (harg5 : arg5.IsWhole) (arg6 : Memref sig .tc .vmem S640x512 .f32) (harg6 : arg6.IsWhole) (arg7 : Memref sig .tc .vmem S640x256 .f32) (harg7 : arg7.IsWhole) (arg8 : Memref sig .tc .vmem S5x2x128x128 .f32) (harg8 : arg8.IsWhole) (arg9 : Memref sig .tc .vmem S1x128 .f32) (harg9 : arg9.IsWhole) (arg10 : Memref sig .tc .vmem S640x512 .f32) (harg10 : arg10.IsWhole) (arg11 : Memref sig .tc .vmem S640x512 .f32) (harg11 : arg11.IsWhole) (arg12 : Memref sig .tc .vmem S640x512 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S640x8 .f32) (harg15 : arg15.IsWhole) (arg16 : Memref sig .tc .smem S1x8 .f32) (harg16 : arg16.IsWhole) (arg17 : Memref sig .tc .vmem S1x512 .f32) (harg17 : arg17.IsWhole) (arg18 : Memref sig .tc .vmem S640x256 .f32) (harg18 : arg18.IsWhole) (arg19 : Memref sig .tc .vmem S640x256 .f32) (harg19 : arg19.IsWhole) (arg20 : Memref sig .tc .vmem S640x512 .f32) (harg20 : arg20.IsWhole) (arg21 : Memref sig .tc .vmem S640x512 .f32) (harg21 : arg21.IsWhole) (arg22 : Memref sig .tc .vmem S640x256 .f32) (harg22 : arg22.IsWhole) (arg23 : Memref sig .tc .vmem S8x128 .f32) (harg23 : arg23.IsWhole) (arg24 : Memref sig .tc .vmem S640x512 .f32) (harg24 : arg24.IsWhole) (arg25 : Memref sig .tc .vmem S8320x128 .f32) (harg25 : arg25.IsWhole) (arg26 : Memref sig .tc .vmem S8320x128 .f32) (harg26 : arg26.IsWhole) (arg27 : Memref sig .tc .vmem S8x128 .f32) (harg27 : arg27.IsWhole) (arg28 : Memref sig .tc .vmem S8x512 .f32) (harg28 : arg28.IsWhole) (arg29 : Memref sig .tc .vmem S2x128x128 .f32) (harg29 : arg29.IsWhole) (arg30 : Memref sig .tc .vmem S128x512 .bf16) (harg30 : arg30.IsWhole) (arg31 : Memref sig .tc .vmem S128x512 .bf16) (harg31 : arg31.IsWhole) (arg32 : Memref sig .tc .vmem S128x512 .f32) (harg32 : arg32.IsWhole) (arg33 : Memref sig .tc .vmem S128x512 .f32) (harg33 : arg33.IsWhole) (arg0 : BitVec 32) (v12 : Vec F S1x128 .f32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (Q : Buf (Elt F) (arg21.view.loc (c : Thread nD τ)) → Prop) (Q' : Buf (Elt F) (arg21.view.loc (c : Thread nD τ)) → Prop) (harg0 : arg0 = BitVec.ofNat 32 (i 0).val) (k0_t1 : Fin k0_t1_loop.trips) (acc : FVec F S1x128 .f32)
    (hQ : ∀ g, Q g → Q' (arg21.view.writes (Elt F) g (gatePieces c arg1 arg2 arg6 v12 f1 f2 f6 k0_t1))) :
    held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 f1 f2 f3 f4 f5 f6 f7 f8 f9 f10 f11 f12 f13 f14 f15 f16 f17 Q ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg0 v12 k0_t1 acc) (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 f1 f2 f3 f4 f5 f6 f7 f8 f9 f10 f11 f12 f13 f14 f15 f16 f17 Q') := by
  obtain ⟨hc, h9, h10⟩ | ⟨hc, p, h9, h10⟩ := chunk_cases i k0_t1
  case' inl =>
    letI c9 : ClosedOff (k0_off9 i k0_t1) := ⟨![0, 0], h9⟩
    letI c10 : ClosedOff (k0_off10 i k0_t1) := ⟨![0, 0], h10⟩
  case' inr =>
    letI c9 : ClosedOff (k0_off9 i k0_t1) := ⟨![128 * p, 0], h9⟩
    letI c10 : ClosedOff (k0_off10 i k0_t1) := ⟨![128 * p + 128, 0], h10⟩
  all_goals
    subst harg0
    unfold held k0_t1_body
    iintro ⟨H1, H2, H3, H4, H5, H6, H7, H8, H9, H10, H11, H12, H13, H14, H15, H16, H17, ⟨%g18, H18⟩, ⟨%g19, H19⟩, ⟨%g20, H20⟩, ⟨%g21, %q21, H21⟩, ⟨%g22, H22⟩, ⟨%g23, H23⟩, ⟨%g24, H24⟩, ⟨%g25, H25⟩, ⟨%g26, H26⟩, ⟨%g27, H27⟩, ⟨%g28, H28⟩, ⟨%g29, H29⟩, ⟨%g30, H30⟩, ⟨%g31, H31⟩, ⟨%g32, H32⟩, ⟨%g33, H33⟩⟩
    sl_exec_parts (disch := first | sl_exact hc)
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]
    · iexists (arg21.view.writes (Elt F) g21 (gatePieces c arg1 arg2 arg6 v12 f1 f2 f6 k0_t1))
      isplitr
      · ipureintro; exact hQ g21 q21
      · iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.Proof.Attention

end
-- ==== Proof.AttnBody.lean ====
/-
  The body of the attention backward kernel at one grid point.
-/
module

public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import Idealize.ShloMosaic.Adequacy
public import Idealize.ShloMosaic.Init
public import proofs.«01_k».proof.Proof.AttnLoop

@[expose] public section

noncomputable section

namespace Cert.Proof.Attention

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A loop at the head of a program, from the invariant before its first trip and the continuation
from the invariant after its last. -/
theorem for_bind {c : Dev nD} {w : Nat} {σ : Type} (lb ub st : BitVec w) (hok : Scf.OK lb ub st) (init : σ)
    (body : Fin (Scf.trips lb ub st) → σ → Prog (TpuEff nD τ sig (Elt F) Λ₀ .tc) σ) (I : Nat → σ → sProp 𝕄)
    (hbody : ∀ (k : Fin (Scf.trips lb ub st)) (acc : σ),
      I k acc ⊢ wp Idealize.ShloMosaic.frame (wpE (defs₀ (F := F)) Variants.none (c : Thread nD τ) none) Set.univ (body k acc) (I (k.val + 1)))
    {β : Type} {kk : σ → Prog (TpuEff nD τ sig (Elt F) Λ₀ .tc) β} {Q : β → sProp 𝕄} :
    iprop(I 0 init ∗ (∀ acc, I (Scf.trips lb ub st) acc -∗
        wp Idealize.ShloMosaic.frame (wpE (defs₀ (F := F)) Variants.none (c : Thread nD τ) none) Set.univ (kk acc) Q))
      ⊢ wp Idealize.ShloMosaic.frame (wpE (defs₀ (F := F)) Variants.none (c : Thread nD τ) none) Set.univ (Scf.for lb ub st hok init body >>= kk) Q := by
  iintro ⟨HI, HK⟩
  iapply (Scf.wp_for_bind Idealize.ShloMosaic.frame (wpE (defs₀ (F := F)) Variants.none (c : Thread nD τ) none) Set.univ lb ub st hok init body I hbody) $$ HI
  iexact HK

/-- The point is the first of the grid. -/
abbrev isFirst (i : grid0.Coords) : Prop :=
  Scalar.cmpi .ne (Scalar.extui (Scalar.cmpi .eq (BitVec.ofNat 32 (i 0).val) 0#32) : BitVec 32) 0#32 = 1#1
/-- The point is the last of the grid. -/
abbrev isLast (i : grid0.Coords) : Prop :=
  Scalar.cmpi .ne (Scalar.extui (Scalar.cmpi .eq (BitVec.ofNat 32 (i 0).val) 12#32) : BitVec 32) 0#32 = 1#1
/-- The first, the last, or one between. -/
theorem point_cases : ∀ i : grid0.Coords, isFirst i ∧ ¬ isLast i ∨ ¬ isFirst i ∧ isLast i ∨ ¬ isFirst i ∧ ¬ isLast i := by
  decide +kernel

/-- Before trip `k` the rows of the blocks already done read `G`: the loop goes from the last block to the first. -/
abbrev doneTo {c : Dev nD} (arg21 : Memref sig .tc .vmem S640x512 .f32) (G : S640x512.Idx → Elt F .f32) (k : Nat)
    (g : Buf (Elt F) (arg21.view.loc (c : Thread nD τ))) : Prop :=
  ∀ y : S640x512.Idx, 640 - 128 * k ≤ (y 0).val → arg21.view.read (Elt F) g y = G y

/-- Before the first trip no row is done. -/
theorem not_done {y : S640x512.Idx} (h : 640 - 128 * 0 ≤ (y 0).val) : False := by
  have : (y 0).val < 640 := (y 0).isLt
  omega

set_option maxRecDepth 65536 in
set_option maxHeartbeats 40000000 in
/-- The body at one point: the gate's gradient ends as `G` says, if every block of it is what `G` has there. -/
theorem body (c : Dev nD) (i : grid0.Coords) (arg1 : Memref sig .tc .vmem S640x512 .f32) (harg1 : arg1.IsWhole) (arg2 : Memref sig .tc .vmem S640x512 .f32) (harg2 : arg2.IsWhole) (arg3 : Memref sig .tc .vmem S640x256 .f32) (harg3 : arg3.IsWhole) (arg4 : Memref sig .tc .vmem S640x256 .f32) (harg4 : arg4.IsWhole) (arg5 : Memref sig .tc .vmem S640x512 .bf16) (harg5 : arg5.IsWhole) (arg6 : Memref sig .tc .vmem S640x512 .f32) (harg6 : arg6.IsWhole) (arg7 : Memref sig .tc .vmem S640x256 .f32) (harg7 : arg7.IsWhole) (arg8 : Memref sig .tc .vmem S5x2x128x128 .f32) (harg8 : arg8.IsWhole) (arg9 : Memref sig .tc .vmem S1x128 .f32) (harg9 : arg9.IsWhole) (arg10 : Memref sig .tc .vmem S640x512 .f32) (harg10 : arg10.IsWhole) (arg11 : Memref sig .tc .vmem S640x512 .f32) (harg11 : arg11.IsWhole) (arg12 : Memref sig .tc .vmem S640x512 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S640x8 .f32) (harg15 : arg15.IsWhole) (arg16 : Memref sig .tc .smem S1x8 .f32) (harg16 : arg16.IsWhole) (arg17 : Memref sig .tc .vmem S1x512 .f32) (harg17 : arg17.IsWhole) (arg18 : Memref sig .tc .vmem S640x256 .f32) (harg18 : arg18.IsWhole) (arg19 : Memref sig .tc .vmem S640x256 .f32) (harg19 : arg19.IsWhole) (arg20 : Memref sig .tc .vmem S640x512 .f32) (harg20 : arg20.IsWhole) (arg21 : Memref sig .tc .vmem S640x512 .f32) (harg21 : arg21.IsWhole) (arg22 : Memref sig .tc .vmem S640x256 .f32) (harg22 : arg22.IsWhole) (arg23 : Memref sig .tc .vmem S8x128 .f32) (harg23 : arg23.IsWhole) (arg24 : Memref sig .tc .vmem S640x512 .f32) (harg24 : arg24.IsWhole) (arg25 : Memref sig .tc .vmem S8320x128 .f32) (harg25 : arg25.IsWhole) (arg26 : Memref sig .tc .vmem S8320x128 .f32) (harg26 : arg26.IsWhole) (arg27 : Memref sig .tc .vmem S8x128 .f32) (harg27 : arg27.IsWhole) (arg28 : Memref sig .tc .vmem S8x512 .f32) (harg28 : arg28.IsWhole) (arg29 : Memref sig .tc .vmem S2x128x128 .f32) (harg29 : arg29.IsWhole) (arg30 : Memref sig .tc .vmem S128x512 .bf16) (harg30 : arg30.IsWhole) (arg31 : Memref sig .tc .vmem S128x512 .bf16) (harg31 : arg31.IsWhole) (arg32 : Memref sig .tc .vmem S128x512 .f32) (harg32 : arg32.IsWhole) (arg33 : Memref sig .tc .vmem S128x512 .f32) (harg33 : arg33.IsWhole) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (G : S640x512.Idx → Elt F .f32)
    (hG : ∀ (k : Fin k0_t1_loop.trips) (g : Buf (Elt F) (arg21.view.loc (c : Thread nD τ))), doneTo (c := c) arg21 G k g → doneTo (c := c) arg21 G (k + 1)
      (arg21.view.writes (Elt F) g (gatePieces c arg1 arg2 arg6 (View.readAt (Elt F) arg9.view (Rect.unit (s := S1x128) ![0, 0] S1x128.size inb_S1x128_S1x128_0_0).toLoadRect f9) f1 f2 f6 k))) :
    held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 f1 f2 f3 f4 f5 f6 f7 f8 f9 f10 f11 f12 f13 f14 f15 f16 f17 (fun _ => True) ⊢ wp frame (wpE (defs₀ (F := F)) Variants.none (c : Thread nD τ) none) Set.univ (cc0_attention_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) (fun _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 f1 f2 f3 f4 f5 f6 f7 f8 f9 f10 f11 f12 f13 f14 f15 f16 f17 (fun g => ∀ y, arg21.view.read (Elt F) g y = G y)) := by
  rw [cc0_attention_bwd_eq_skeleton]
  obtain ⟨h0, h1⟩ | ⟨h0, h1⟩ | ⟨h0, h1⟩ := point_cases i
  all_goals
    unfold held cc0_attention_bwd_skel
    iintro ⟨H1, H2, H3, H4, H5, H6, H7, H8, H9, H10, H11, H12, H13, H14, H15, H16, H17, ⟨%g18, H18⟩, ⟨%g19, H19⟩, ⟨%g20, H20⟩, ⟨%g21, %q21, H21⟩, ⟨%g22, H22⟩, ⟨%g23, H23⟩, ⟨%g24, H24⟩, ⟨%g25, H25⟩, ⟨%g26, H26⟩, ⟨%g27, H27⟩, ⟨%g28, H28⟩, ⟨%g29, H29⟩, ⟨%g30, H30⟩, ⟨%g31, H31⟩, ⟨%g32, H32⟩, ⟨%g33, H33⟩⟩
    sl_exec_parts (disch := first | sl_exact h0 | sl_exact h1)
    iapply (for_bind (c := c) _ _ _ _ _ _ (fun k _ => held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 f1 f2 f3 f4 f5 f6 f7 f8 f9 f10 f11 f12 f13 f14 f15 f16 f17 (doneTo (c := c) arg21 G k))
      (fun k acc => trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 _ _ f1 f2 f3 f4 f5 f6 f7 f8 f9 f10 f11 f12 f13 f14 f15 f16 f17 _ _ rfl k acc (hG k)))
    isplitr []
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]
      · iexists g21; isplitr
        · ipureintro; exact fun y hy => (not_done hy).elim
        · iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      isplitl [H31]; · iexists _; iexact H31
      isplitl [H32]; · iexists _; iexact H32
      iexists _; iexact H33
    · iintro %acc ⟨H1, H2, H3, H4, H5, H6, H7, H8, H9, H10, H11, H12, H13, H14, H15, H16, H17, ⟨%g18, H18⟩, ⟨%g19, H19⟩, ⟨%g20, H20⟩, ⟨%g21, %q21, H21⟩, ⟨%g22, H22⟩, ⟨%g23, H23⟩, ⟨%g24, H24⟩, ⟨%g25, H25⟩, ⟨%g26, H26⟩, ⟨%g27, H27⟩, ⟨%g28, H28⟩, ⟨%g29, H29⟩, ⟨%g30, H30⟩, ⟨%g31, H31⟩, ⟨%g32, H32⟩, ⟨%g33, H33⟩⟩
      sl_exec_parts (disch := first | sl_exact h0 | sl_exact h1)
      sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]
      · iexists g21; isplitr
        · ipureintro; exact fun y => q21 y (Nat.zero_le _)
        · iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      isplitl [H31]; · iexists _; iexact H31
      isplitl [H32]; · iexists _; iexact H32
      iexists _; iexact H33

end Cert.Proof.Attention

end
-- ==== Proof.AttnGate.lean ====
/-
  What a block of 640 rows of the gate's gradient is, head by head and 128 rows at a time, and that the
  stores of the loop's trips leave it.
-/
module

public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import Idealize.ShloMosaic.Adequacy
public import Idealize.ShloMosaic.Init
public import proofs.«01_k».proof.Proof.AttnBody
public import Idealize.ShloMosaic.Lib.Pipeline.DatRel
public import Idealize.ShloMosaic.Lib.Pipeline.ArrRel
public import Idealize.ShloMosaic.Lib.Pointwise

@[expose] public section

noncomputable section

namespace Cert.Proof.Attention

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic (ix2 eq_ix2)

/-- The block of 128 rows and one head's 128 columns at `(p, q)` of 640 rows. -/
def block (X : Vec F S640x512 .f32) (p : Fin 5) (q : Fin 4) : Vec F S128x128 .f32 := fun z =>
  X (ix2 (⟨128 * p.val + (z 0).val, by have : (z 0).val < 128 := (z 0).isLt; have := p.isLt; omega⟩ : Fin 640)
    (⟨128 * q.val + (z 1).val, by have : (z 1).val < 128 := (z 1).isLt; have := q.isLt; omega⟩ : Fin 512))

/-- The gate's gradient on 640 rows. -/
def gateRows (w : Vec F S1x128 .f32) (o g d : Vec F S640x512 .f32) : Vec F S640x512 .f32 := fun y =>
  have h0 : (y 0).val < 640 := (y 0).isLt
  have h1 : (y 1).val < 512 := (y 1).isLt
  gateBlock w (block o ⟨(y 0).val / 128, by omega⟩ ⟨(y 1).val / 128, by omega⟩) (block g ⟨(y 0).val / 128, by omega⟩ ⟨(y 1).val / 128, by omega⟩)
    (block d ⟨(y 0).val / 128, by omega⟩ ⟨(y 1).val / 128, by omega⟩)
    (ix2 (⟨(y 0).val % 128, Nat.mod_lt _ (by decide)⟩ : Fin 128) (⟨(y 1).val % 128, Nat.mod_lt _ (by decide)⟩ : Fin 128))

/-- At the place of `z` in the block `(p, q)` the rows' gradient is the block's. -/
theorem gateRows_at (w : Vec F S1x128 .f32) (o g d : Vec F S640x512 .f32) (p : Fin 5) (q : Fin 4) (z : S128x128.Idx) (y : S640x512.Idx)
    (h0 : (y 0).val = 128 * p.val + (z 0).val) (h1 : (y 1).val = 128 * q.val + (z 1).val) :
    gateRows w o g d y = gateBlock w (block o p q) (block g p q) (block d p q) z := by
  have z0 : (z 0).val < 128 := (z 0).isLt
  have z1 : (z 1).val < 128 := (z 1).isLt
  have e0 : (⟨(y 0).val / 128, by have : (y 0).val < 640 := (y 0).isLt; omega⟩ : Fin 5) = p := Fin.ext (by show (y 0).val / 128 = p.val; omega)
  have e1 : (⟨(y 1).val / 128, by have : (y 1).val < 512 := (y 1).isLt; omega⟩ : Fin 4) = q := Fin.ext (by show (y 1).val / 128 = q.val; omega)
  have ez : ix2 (⟨(y 0).val % 128, Nat.mod_lt _ (by decide)⟩ : Fin 128) (⟨(y 1).val % 128, Nat.mod_lt _ (by decide)⟩ : Fin 128) = z := by
    funext a
    match a with
    | ⟨0, _⟩ => exact Fin.ext (by show (y 0).val % 128 = (z 0).val; omega)
    | ⟨1, _⟩ => exact Fin.ext (by show (y 1).val % 128 = (z 1).val; omega)
  unfold gateRows
  dsimp only
  rw [e0, e1]
  exact congrArg _ ez

/-- A load of the block at `(p, q)`. -/
theorem load_block {c : Dev nD} (arg : Memref sig .tc .vmem S640x512 .f32) (f : Buf (Elt F) (arg.view.loc (c : Thread nD τ)))
    (X : Vec F S640x512 .f32) (hX : arg.view.read (Elt F) f = X) (p : Fin 5) (q : Fin 4) (off : Fin 2 → Nat)
    (h : ∀ a, off a + S128x128.size a ≤ S640x512.size a) (e : off = ![128 * p.val, 128 * q.val]) :
    View.readAt (Elt F) arg.view (Rect.unit (s := S640x512) off S128x128.size h).toLoadRect f = block X p q := by
  subst hX e
  funext z
  rw [View.readAt_apply]
  refine congrArg _ ?_
  funext a
  match a with
  | ⟨0, _⟩ => exact Fin.ext (by show 128 * p.val + 1 * (z 0).val = 128 * p.val + (z 0).val; omega)
  | ⟨1, _⟩ => exact Fin.ext (by show 128 * q.val + 1 * (z 1).val = 128 * q.val + (z 1).val; omega)

/-- Each store of a trip puts the rows' gradient into its block. -/
theorem gatePiece_eq {c : Dev nD} (arg1 arg2 arg6 : Memref sig .tc .vmem S640x512 .f32) (w : Vec F S1x128 .f32)
    (f1 : Buf (Elt F) (arg1.view.loc (c : Thread nD τ))) (f2 : Buf (Elt F) (arg2.view.loc (c : Thread nD τ)))
    (f6 : Buf (Elt F) (arg6.view.loc (c : Thread nD τ))) (o g d : Vec F S640x512 .f32)
    (hd : arg1.view.read (Elt F) f1 = d) (ho : arg2.view.read (Elt F) f2 = o) (hg : arg6.view.read (Elt F) f6 = g)
    (p : Fin 5) (q : Fin 4) (off : Fin 2 → Nat) (h : ∀ a, off a + S128x128.size a ≤ S640x512.size a) (e : off = ![128 * p.val, 128 * q.val]) :
    ∀ x, (gatePiece c arg1 arg2 arg6 w f1 f2 f6 off h).2 x = gateRows w o g d ((gatePiece c arg1 arg2 arg6 w f1 f2 f6 off h).1.emb x) := by
  intro x
  show gateBlock w _ _ _ x = _
  rw [load_block (c := c) arg2 f2 o ho p q off h e, load_block (c := c) arg6 f6 g hg p q off h e, load_block (c := c) arg1 f1 d hd p q off h e]
  subst e
  refine (gateRows_at w o g d p q x _ ?_ ?_).symm
  · show 128 * p.val + 1 * (x 0).val = _; omega
  · show 128 * q.val + 1 * (x 1).val = _; omega

theorem off3_eq : ∀ k : Fin k0_t1_loop.trips, k0_off3 k = ![128 * (4 - k.val), 128 * 0] := by decide +kernel
theorem off4_eq : ∀ k : Fin k0_t1_loop.trips, k0_off4 k = ![128 * (4 - k.val), 128 * 1] := by decide +kernel
theorem off7_eq : ∀ k : Fin k0_t1_loop.trips, k0_off7 k = ![128 * (4 - k.val), 128 * 2] := by decide +kernel
theorem off8_eq : ∀ k : Fin k0_t1_loop.trips, k0_off8 k = ![128 * (4 - k.val), 128 * 3] := by decide +kernel

/-- A place of the block's rows and of the head's columns is under that store. -/
theorem mem_gatePiece {c : Dev nD} (arg1 arg2 arg6 : Memref sig .tc .vmem S640x512 .f32) (w : Vec F S1x128 .f32)
    (f1 : Buf (Elt F) (arg1.view.loc (c : Thread nD τ))) (f2 : Buf (Elt F) (arg2.view.loc (c : Thread nD τ)))
    (f6 : Buf (Elt F) (arg6.view.loc (c : Thread nD τ))) (p q : Nat) (off : Fin 2 → Nat)
    (h : ∀ a, off a + S128x128.size a ≤ S640x512.size a) (e : off = ![128 * p, 128 * q]) (y : S640x512.Idx) :
    y ∈ (gatePiece c arg1 arg2 arg6 w f1 f2 f6 off h).1.set ↔ ((y 0).val / 128 = p ∧ (y 1).val / 128 = q) := by
  subst e
  show y ∈ (Rect.unit (s := S640x512) ![128 * p, 128 * q] S128x128.size h).set ↔ _
  rw [Rect.mem_set_unit]
  refine Fin.forall_fin_two.trans ?_
  show ((128 * p ≤ (y 0).val ∧ (y 0).val < 128 * p + 128) ∧ (128 * q ≤ (y 1).val ∧ (y 1).val < 128 * q + 128)) ↔ _
  omega

/-- A trip does one more block of rows. -/
theorem done_step {c : Dev nD} (arg1 arg2 arg6 arg21 : Memref sig .tc .vmem S640x512 .f32) (w : Vec F S1x128 .f32)
    (f1 : Buf (Elt F) (arg1.view.loc (c : Thread nD τ))) (f2 : Buf (Elt F) (arg2.view.loc (c : Thread nD τ)))
    (f6 : Buf (Elt F) (arg6.view.loc (c : Thread nD τ))) (o g d : Vec F S640x512 .f32)
    (hd : arg1.view.read (Elt F) f1 = d) (ho : arg2.view.read (Elt F) f2 = o) (hg : arg6.view.read (Elt F) f6 = g)
    (k : Fin k0_t1_loop.trips) (b : Buf (Elt F) (arg21.view.loc (c : Thread nD τ))) (hb : doneTo (c := c) arg21 (gateRows w o g d) k b) :
    doneTo (c := c) arg21 (gateRows w o g d) (k + 1) (arg21.view.writes (Elt F) b (gatePieces c arg1 arg2 arg6 w f1 f2 f6 k)) := by
  have hk : k.val < 5 := k.isLt
  intro y hy
  have hr : (y 0).val < 640 := (y 0).isLt
  have hc : (y 1).val < 512 := (y 1).isLt
  by_cases h : (y 0).val / 128 = 4 - k.val
  · refine View.read_writes_apply_of_pieces _ _ (gateRows w o g d) _ ?_ y ?_
    · simp only [List.forall_mem_cons, List.not_mem_nil, false_imp_iff, implies_true, _root_.and_true]
      exact ⟨gatePiece_eq (c := c) arg1 arg2 arg6 w f1 f2 f6 o g d hd ho hg ⟨4 - k.val, by omega⟩ 3 _ _ (off8_eq k),
        gatePiece_eq (c := c) arg1 arg2 arg6 w f1 f2 f6 o g d hd ho hg ⟨4 - k.val, by omega⟩ 2 _ _ (off7_eq k),
        gatePiece_eq (c := c) arg1 arg2 arg6 w f1 f2 f6 o g d hd ho hg ⟨4 - k.val, by omega⟩ 1 _ _ (off4_eq k),
        gatePiece_eq (c := c) arg1 arg2 arg6 w f1 f2 f6 o g d hd ho hg ⟨4 - k.val, by omega⟩ 0 _ _ (off3_eq k)⟩
    · rw [List.exists_mem_cons_iff, List.exists_mem_cons_iff, List.exists_mem_cons_iff, List.exists_mem_cons_iff,
        mem_gatePiece (c := c) arg1 arg2 arg6 w f1 f2 f6 _ _ _ _ (off8_eq k) y, mem_gatePiece (c := c) arg1 arg2 arg6 w f1 f2 f6 _ _ _ _ (off7_eq k) y,
        mem_gatePiece (c := c) arg1 arg2 arg6 w f1 f2 f6 _ _ _ _ (off4_eq k) y, mem_gatePiece (c := c) arg1 arg2 arg6 w f1 f2 f6 _ _ _ _ (off3_eq k) y]
      omega
  · rw [View.read_writes_apply_of_forall_not_mem]
    · exact hb y (by omega)
    · simp only [List.forall_mem_cons, List.not_mem_nil, false_imp_iff, implies_true, _root_.and_true]
      rw [mem_gatePiece (c := c) arg1 arg2 arg6 w f1 f2 f6 _ _ _ _ (off8_eq k) y, mem_gatePiece (c := c) arg1 arg2 arg6 w f1 f2 f6 _ _ _ _ (off7_eq k) y,
        mem_gatePiece (c := c) arg1 arg2 arg6 w f1 f2 f6 _ _ _ _ (off4_eq k) y, mem_gatePiece (c := c) arg1 arg2 arg6 w f1 f2 f6 _ _ _ _ (off3_eq k) y]
      exact ⟨fun e => h e.1, fun e => h e.1, fun e => h e.1, fun e => h e.1⟩

end Cert.Proof.Attention

end
-- ==== Proof.AttnRun.lean ====
/-
  The launch of the attention backward kernel: every input's block stays what the pipeline staged, the
  gate's gradient is left at the rows' gradient, and of the other outputs nothing is said.
-/
module

public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import Idealize.ShloMosaic.Adequacy
public import Idealize.ShloMosaic.Init
public import proofs.«01_k».proof.Proof.AttnGate

@[expose] public section

noncomputable section

namespace Cert.Proof.Attention

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which the run does not name what is left: the outputs. -/
def marked (w : Fin cfg0.W) : Bool := decide (17 ≤ w.val)

/-- What is known of a block the body leaves: the gate's gradient is the rows' gradient. -/
def left (c : Dev nD) (w : Fin cfg0.W) (t : Fin cfg0.N) (X : (cfg0.win w).block.Idx → Elt F (cfg0.win w).elt) : Prop :=
  match w, X with
  | ⟨20, _⟩, X => X = (gateRows (iblk m c 8 t) (iblk m c 1 t) (iblk m c 5 t) (iblk m c 0 t))
  | _, _ => True

/-- The launch's data: the arrays as the region finds them, and each input's buffer left at its block. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨n + 17, h⟩ => Pipeline.Dat.unnamed (cfg := cfg0) ⟨n + 17, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- The data with the outputs held to what is known of them. -/
abbrev rdat (c : Dev nD) : Pipeline.RDat τ (Elt F) Unit ℕ (UR sig nD τ) ℕ cfg0 c := (dats m 0 c).toRRel marked (left m c)

/-- The invariant between points, with the scratch buffers as memrefs. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ Y, ⌜(rdat m c).Finds 17 t Y⌝ ∗ owns (c : Thread nD τ) (win0_17.stage (cfg0.slots t 17)) fullShare Y)
    ∗ (∃ Y, ⌜(rdat m c).Finds 18 t Y⌝ ∗ owns (c : Thread nD τ) (win0_18.stage (cfg0.slots t 18)) fullShare Y)
    ∗ (∃ Y, ⌜(rdat m c).Finds 19 t Y⌝ ∗ owns (c : Thread nD τ) (win0_19.stage (cfg0.slots t 19)) fullShare Y)
    ∗ (∃ Y, ⌜(rdat m c).Finds 20 t Y⌝ ∗ owns (c : Thread nD τ) (win0_20.stage (cfg0.slots t 20)) fullShare Y)
    ∗ (∃ Y, ⌜(rdat m c).Finds 21 t Y⌝ ∗ owns (c : Thread nD τ) (win0_21.stage (cfg0.slots t 21)) fullShare Y)
    ∗ (∃ Y, ⌜(rdat m c).Finds 22 t Y⌝ ∗ owns (c : Thread nD τ) (win0_22.stage (cfg0.slots t 22)) fullShare Y)
    ∗ (∃ Y, ⌜(rdat m c).Finds 23 t Y⌝ ∗ owns (c : Thread nD τ) (win0_23.stage (cfg0.slots t 23)) fullShare Y)
    ∗ (∃ Y, ⌜(rdat m c).Finds 24 t Y⌝ ∗ owns (c : Thread nD τ) (win0_24.stage (cfg0.slots t 24)) fullShare Y)
    ∗ (∃ Y, ⌜(rdat m c).Finds 25 t Y⌝ ∗ owns (c : Thread nD τ) (win0_25.stage (cfg0.slots t 25)) fullShare Y)
    ∗ (∃ Y, ⌜(rdat m c).Finds 26 t Y⌝ ∗ owns (c : Thread nD τ) (win0_26.stage (cfg0.slots t 26)) fullShare Y)
    ∗ (∃ Y, ⌜(rdat m c).Finds 27 t Y⌝ ∗ owns (c : Thread nD τ) (win0_27.stage (cfg0.slots t 27)) fullShare Y))

/-- What it hands back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ (∃ X, ⌜left m c 17 t X⌝ ∗ owns (c : Thread nD τ) (win0_17.stage (cfg0.slots t 17)) fullShare X)
    ∗ (∃ X, ⌜left m c 18 t X⌝ ∗ owns (c : Thread nD τ) (win0_18.stage (cfg0.slots t 18)) fullShare X)
    ∗ (∃ X, ⌜left m c 19 t X⌝ ∗ owns (c : Thread nD τ) (win0_19.stage (cfg0.slots t 19)) fullShare X)
    ∗ (∃ X, ⌜left m c 20 t X⌝ ∗ owns (c : Thread nD τ) (win0_20.stage (cfg0.slots t 20)) fullShare X)
    ∗ (∃ X, ⌜left m c 21 t X⌝ ∗ owns (c : Thread nD τ) (win0_21.stage (cfg0.slots t 21)) fullShare X)
    ∗ (∃ X, ⌜left m c 22 t X⌝ ∗ owns (c : Thread nD τ) (win0_22.stage (cfg0.slots t 22)) fullShare X)
    ∗ (∃ X, ⌜left m c 23 t X⌝ ∗ owns (c : Thread nD τ) (win0_23.stage (cfg0.slots t 23)) fullShare X)
    ∗ (∃ X, ⌜left m c 24 t X⌝ ∗ owns (c : Thread nD τ) (win0_24.stage (cfg0.slots t 24)) fullShare X)
    ∗ (∃ X, ⌜left m c 25 t X⌝ ∗ owns (c : Thread nD τ) (win0_25.stage (cfg0.slots t 25)) fullShare X)
    ∗ (∃ X, ⌜left m c 26 t X⌝ ∗ owns (c : Thread nD τ) (win0_26.stage (cfg0.slots t 26)) fullShare X)
    ∗ (∃ X, ⌜left m c 27 t X⌝ ∗ owns (c : Thread nD τ) (win0_27.stage (cfg0.slots t 27)) fullShare X))

set_option maxHeartbeats 3200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA_eq]
  unfold owns
  iintro ⟨⟨⟨⟨%e29, %b29, %r29, H29⟩, ⟨%e30, %b30, %r30, H30⟩, ⟨%e31, %b31, %r31, H31⟩, ⟨%e32, %b32, %r32, H32⟩, ⟨%e33, %b33, %r33, H33⟩⟩, Hg⟩, Ho, ⟨%d1, %f1, %r1, H1⟩, ⟨%d2, %f2, %r2, H2⟩, ⟨%d3, %f3, %r3, H3⟩, ⟨%d4, %f4, %r4, H4⟩, ⟨%d5, %f5, %r5, H5⟩, ⟨%d6, %f6, %r6, H6⟩, ⟨%d7, %f7, %r7, H7⟩, ⟨%d8, %f8, %r8, H8⟩, ⟨%d9, %f9, %r9, H9⟩, ⟨%d10, %f10, %r10, H10⟩, ⟨%d11, %f11, %r11, H11⟩, ⟨%d12, %f12, %r12, H12⟩, ⟨%d13, %f13, %r13, H13⟩, ⟨%d14, %f14, %r14, H14⟩, ⟨%d15, %f15, %r15, H15⟩, ⟨%d16, %f16, %r16, H16⟩, ⟨%d17, %f17, %r17, H17⟩, ⟨%y18, %h18, %b18, %r18, H18⟩, ⟨%y19, %h19, %b19, %r19, H19⟩, ⟨%y20, %h20, %b20, %r20, H20⟩, ⟨%y21, %h21, %b21, %r21, H21⟩, ⟨%y22, %h22, %b22, %r22, H22⟩, ⟨%y23, %h23, %b23, %r23, H23⟩, ⟨%y24, %h24, %b24, %r24, H24⟩, ⟨%y25, %h25, %b25, %r25, H25⟩, ⟨%y26, %h26, %b26, %r26, H26⟩, ⟨%y27, %h27, %b27, %r27, H27⟩, ⟨%y28, %h28, %b28, %r28, H28⟩⟩
  have hw : View.readAt (Elt F) (win0_8.stage (cfg0.slots t 8)).view (Rect.unit (s := S1x128) ![0, 0] S1x128.size inb_S1x128_S1x128_0_0).toLoadRect f9 = iblk m c 8 t := by
    rw [← r9]
    funext z
    rw [View.readAt_apply]
    refine congrArg _ ?_
    funext a
    match a with
    | ⟨0, _⟩ => exact Fin.ext (by show 0 + 1 * (z 0).val = (z 0).val; omega)
    | ⟨1, _⟩ => exact Fin.ext (by show 0 + 1 * (z 1).val = (z 1).val; omega)
  iapply (wp_wand_r Idealize.ShloMosaic.frame (wpE (defs₀ (F := F)) Variants.none (c : Thread nD τ) none) Set.univ (Q := fun _ => held c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) f1 f2 f3 f4 f5 f6 f7 f8 f9 f10 f11 f12 f13 f14 f15 f16 f17 (fun g => ∀ y, (win0_20.stage (cfg0.slots t 20)).view.read (Elt F) g y = (gateRows (iblk m c 8 t) (iblk m c 1 t) (iblk m c 5 t) (iblk m c 0 t)) y)))
  isplitl [H1 H2 H3 H4 H5 H6 H7 H8 H9 H10 H11 H12 H13 H14 H15 H16 H17 H18 H19 H20 H21 H22 H23 H24 H25 H26 H27 H28 H29 H30 H31 H32 H33]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) f1 f2 f3 f4 f5 f6 f7 f8 f9 f10 f11 f12 f13 f14 f15 f16 f17 (gateRows (iblk m c 8 t) (iblk m c 1 t) (iblk m c 5 t) (iblk m c 0 t)) (fun k g hg => by
      rw [hw]; exact done_step (c := c) _ _ _ _ _ f1 f2 f6 _ _ _ r1 r2 r6 k g hg))
    unfold held
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]
    · iexists b21; isplitr
      · ipureintro; trivial
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33
  iintro %_ ⟨H1, H2, H3, H4, H5, H6, H7, H8, H9, H10, H11, H12, H13, H14, H15, H16, H17, ⟨%g18, H18⟩, ⟨%g19, H19⟩, ⟨%g20, H20⟩, ⟨%g21, %q21, H21⟩, ⟨%g22, H22⟩, ⟨%g23, H23⟩, ⟨%g24, H24⟩, ⟨%g25, H25⟩, ⟨%g26, H26⟩, ⟨%g27, H27⟩, ⟨%g28, H28⟩, ⟨%g29, H29⟩, ⟨%g30, H30⟩, ⟨%g31, H31⟩, ⟨%g32, H32⟩, ⟨%g33, H33⟩⟩
  isplitl [Hg H29 H30 H31 H32 H33]
  · isplitr [Hg]
    · isplitl [H29]
      · iexists _; iexists _; isplitr; swap; · iexact H29
        ipureintro; rfl
      isplitl [H30]
      · iexists _; iexists _; isplitr; swap; · iexact H30
        ipureintro; rfl
      isplitl [H31]
      · iexists _; iexists _; isplitr; swap; · iexact H31
        ipureintro; rfl
      isplitl [H32]
      · iexists _; iexists _; isplitr; swap; · iexact H32
        ipureintro; rfl
      iexists _; iexists _; isplitr; swap; · iexact H33
      ipureintro; rfl
    iexact Hg
  isplitl [Ho]; · iexact Ho
  isplitl [H1]
  · iexists f1; isplitr
    · ipureintro; exact r1
    iexact H1
  isplitl [H2]
  · iexists f2; isplitr
    · ipureintro; exact r2
    iexact H2
  isplitl [H3]
  · iexists f3; isplitr
    · ipureintro; exact r3
    iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists f10; isplitr
    · ipureintro; exact r10
    iexact H10
  isplitl [H11]
  · iexists f11; isplitr
    · ipureintro; exact r11
    iexact H11
  isplitl [H12]
  · iexists f12; isplitr
    · ipureintro; exact r12
    iexact H12
  isplitl [H13]
  · iexists f13; isplitr
    · ipureintro; exact r13
    iexact H13
  isplitl [H14]
  · iexists f14; isplitr
    · ipureintro; exact r14
    iexact H14
  isplitl [H15]
  · iexists f15; isplitr
    · ipureintro; exact r15
    iexact H15
  isplitl [H16]
  · iexists f16; isplitr
    · ipureintro; exact r16
    iexact H16
  isplitl [H17]
  · iexists f17; isplitr
    · ipureintro; exact r17
    iexact H17
  isplitl [H18]
  · iexists _; isplitr; swap
    · iexists g18; isplitr; swap
      · iexact H18
      ipureintro; rfl
    ipureintro; trivial
  isplitl [H19]
  · iexists _; isplitr; swap
    · iexists g19; isplitr; swap
      · iexact H19
      ipureintro; rfl
    ipureintro; trivial
  isplitl [H20]
  · iexists _; isplitr; swap
    · iexists g20; isplitr; swap
      · iexact H20
      ipureintro; rfl
    ipureintro; trivial
  isplitl [H21]
  · iexists _; isplitr; swap
    · iexists g21; isplitr; swap
      · iexact H21
      ipureintro; rfl
    ipureintro; exact funext q21
  isplitl [H22]
  · iexists _; isplitr; swap
    · iexists g22; isplitr; swap
      · iexact H22
      ipureintro; rfl
    ipureintro; trivial
  isplitl [H23]
  · iexists _; isplitr; swap
    · iexists g23; isplitr; swap
      · iexact H23
      ipureintro; rfl
    ipureintro; trivial
  isplitl [H24]
  · iexists _; isplitr; swap
    · iexists g24; isplitr; swap
      · iexact H24
      ipureintro; rfl
    ipureintro; trivial
  isplitl [H25]
  · iexists _; isplitr; swap
    · iexists g25; isplitr; swap
      · iexact H25
      ipureintro; rfl
    ipureintro; trivial
  isplitl [H26]
  · iexists _; isplitr; swap
    · iexists g26; isplitr; swap
      · iexact H26
      ipureintro; rfl
    ipureintro; trivial
  isplitl [H27]
  · iexists _; isplitr; swap
    · iexists g27; isplitr; swap
      · iexact H27
      ipureintro; rfl
    ipureintro; trivial
  iexists _; isplitr; swap
  · iexists g28; isplitr; swap
    · iexact H28
    ipureintro; rfl
  ipureintro; trivial

/-- The row of the body's label is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (left m c) := fun t => by
  rw [bigSep_W0, bigSep_W0, defs₀_row]
  exact triple_restated (sound_body m c t) rfl .rfl fun _ => .rfl

set_option backward.isDefEq.respectTransparency.types false in
/-- The whole program runs, and ends with every array as the data say and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.Proof.Attention

end
-- ==== Proof.AttnHead.lean ====
/-
  The gradient of the linear attention's gate, one head of one row at a time, and the reference's lines for it.
-/
module

public import proofs.«01_k».proof.Proof.Gen.AttentionRefIdeal.Read
public import proofs.«01_k».proof.Proof.Rows
public import Idealize.ShloMosaic.Lib.Pipeline.ValueKit
public import Idealize.ShloMosaic.Lib.Pointwise
public import Idealize.ShloMosaic.Lib.Tactic
public import Idealize.ShloMosaic.Lib.IdealHost

@[expose] public section

noncomputable section

namespace Cert.Proof.Attention

open Idealize.ShloMosaic Idealize.ShloMosaic.TcCoe
open Idealize.ShloMosaic (ix2 eq_ix2)

/-! ## One head of one row -/

/-- What a head of a row is scaled by. -/
def headInv (o : Fin 128 → EReal) : EReal :=
  Ideal.rsqrt (Ideal.div (∑ k, o k * o k) (Ideal.ofBits .f32 0x43000000#32) + Ideal.ofBits .f32 0x358637BD#32)

theorem bits_head : Ideal.ofBits .f32 0x43000000#32 = ((128 : ℝ) : EReal) := by
  simp [Ideal.ofBits, Ideal.ieee, -EReal.coe_mul]; norm_num

theorem real_headInv {o : Fin 128 → EReal} (h : ∀ k, IsReal (o k)) : IsReal (headInv o) := by
  choose y hy using h
  obtain rfl : o = fun k => (y k : EReal) := funext hy
  obtain ⟨e, he, hb⟩ := bits_eps
  have hs : 0 ≤ ∑ k, y k * y k := Finset.sum_nonneg fun k _ => mul_self_nonneg _
  have hu : 0 < (∑ k, y k * y k) * (1 / 128) + e := by positivity
  have hm : Ideal.div (∑ k, (y k : EReal) * (y k : EReal)) (Ideal.ofBits .f32 0x43000000#32) + Ideal.ofBits .f32 0x358637BD#32
      = (((∑ k, y k * y k) * (1 / 128) + e : ℝ) : EReal) := by
    rw [bits_head, hb, Ideal.div_coe (by norm_num), EReal.coe_add, EReal.coe_mul, coe_sum]
    simp only [EReal.coe_mul]
  refine ⟨(Real.sqrt ((∑ k, y k * y k) * (1 / 128) + e))⁻¹, ?_⟩
  rw [headInv, hm, Ideal.rsqrt_coe, if_neg (not_lt.2 hu.le), if_neg hu.ne']

/-- The gate's gradient at one place: SiLU's derivative at the gate, times the gradient times the scaled and weighted row. -/
def headGrad (o : Fin 128 → EReal) (w g d : EReal) (k : Fin 128) : EReal := bend g (d * (o k * headInv o * w))

/-- Row `r` of an array, head `q`. -/
def headOf (x : (⟨2, ![8320, 512]⟩ : Shape).Idx → EReal) (r : Fin 8320) (q : Fin 4) (k : Fin 128) : EReal :=
  x (ix2 r (⟨128 * q.val + k.val, by omega⟩ : Fin 512))

/-- The gate's gradient, whole. -/
def gateGrad (d o g : (⟨2, ![8320, 512]⟩ : Shape).Idx → EReal) (w : (⟨2, ![1, 128]⟩ : Shape).Idx → EReal) (r : Fin 8320) (q : Fin 4)
    (k : Fin 128) : EReal :=
  headGrad (headOf o r q) (w (ix2 0 k)) (headOf g r q k) (headOf d r q k) k

/-! ## The reference's lines -/

open Cert.AttentionRefIdeal Cert.AttentionRefIdeal.Read

/-- The place of row `r`, head `q`, column `k`. -/
def at3 (r : Fin 8320) (q : Fin 4) (k : Fin 128) : S8320x4x128.Idx := fun a => match a with
  | ⟨0, _⟩ => r
  | ⟨1, _⟩ => q
  | ⟨2, _⟩ => k

variable (x0 x1 x5 : Vec Ideal S8320x512 .f32) (x8 : Vec Ideal S1x128 .f32)

theorem heads_at (x : Vec Ideal S8320x512 .f32) (r : Fin 8320) (q : Fin 4) (k : Fin 128) :
    val_main_v0 (F := Ideal) x (at3 r q k) = headOf x r q k := by
  rw [val_main_v0_apply]
  refine congrArg x (funext fun a => Fin.ext ?_)
  have := q.isLt
  have := k.isLt
  match a with
  | ⟨0, _⟩ => show ((r.val * 4 + q.val) * 128 + k.val) / 512 = r.val; omega
  | ⟨1, _⟩ => show ((r.val * 4 + q.val) * 128 + k.val) % 512 = 128 * q.val + k.val; omega

theorem scale_at (r : Fin 8320) (q : Fin 4) (k : Fin 128) :
    val_main_v9 (F := Ideal) x1 (at3 r q k) = headInv (headOf x1 r q) := by
  rw [val_main_v9_apply, val_main_v8_apply, val_main_v7_apply, val_main_v5_apply, val_main_v3_apply, val_main_v2_apply,
    val_main_v4_apply, val_main_v6_apply, val_main_cst_apply, val_main_cst_0_apply, val_main_cst_1_apply]
  show Ideal.rsqrt (Ideal.div (Ideal.ofBits .f32 0x00000000#32
    + ∑ k' : Fin 128, val_main_v0 (F := Ideal) x1 (at3 r q k') * val_main_v0 (F := Ideal) x1 (at3 r q k')) _ + _) = _
  rw [bits_zero, zero_add]
  simp only [heads_at]
  rfl

theorem weighted_at (r : Fin 8320) (q : Fin 4) (k : Fin 128) :
    val_main_v13 (F := Ideal) x1 x8 (at3 r q k) = headOf x1 r q k * headInv (headOf x1 r q) * x8 (ix2 0 k) := by
  rw [val_main_v13_apply, val_main_v10_apply, heads_at, scale_at, val_main_v12_apply, val_main_v11_apply]
  refine congrArg (fun i => headOf x1 r q k * headInv (headOf x1 r q) * x8 i) (funext fun a => ?_)
  match a with
  | ⟨0, _⟩ => rfl
  | ⟨1, _⟩ => rfl

theorem logistic_at (r : Fin 8320) (q : Fin 4) (k : Fin 128) :
    val_main_v15_2 (F := Ideal) x5 (at3 r q k) = logistic (headOf x5 r q k) := by
  rw [val_main_v15_2_apply, val_main_call0_v4_apply, val_main_call0_v3_apply, val_main_call0_v2_apply, val_main_call0_v1_apply,
    val_main_call0_v0_apply, val_main_call0_cst_apply, val_main_call0_cst_0_apply]
  show Ideal.div (Ideal.ofBits .f32 0x3F800000#32) (Ideal.ofBits .f32 0x3F800000#32
    + Ideal.exp (-(val_main_v0 (F := Ideal) x5 (at3 r q k)))) = _
  rw [Ideal.ofBits_one_f32, heads_at]
  rfl

theorem slope_at (r : Fin 8320) (q : Fin 4) (k : Fin 128) :
    val_main_v15_1 (F := Ideal) x5 (at3 r q k) = logistic (headOf x5 r q k) * (1 - logistic (headOf x5 r q k)) := by
  rw [val_main_v15_1_apply, val_main_call0_v7_apply, val_main_call0_v6_apply, val_main_call0_cst_1_apply, logistic_at]
  show _ * (Ideal.ofBits .f32 0x3F800000#32 - _) = _
  rw [Ideal.ofBits_one_f32]

/-- Row `r`, head `q`, column `k` of the gradient that the reference's lines leave. -/
theorem gate_at (h0 : ∀ i, IsReal (x0 i)) (h1 : ∀ i, IsReal (x1 i)) (h5 : ∀ i, IsReal (x5 i)) (h8 : ∀ i, IsReal (x8 i))
    (r : Fin 8320) (q : Fin 4) (k : Fin 128) :
    val_main_v20 (F := Ideal) x0 x1 x5 x8 (at3 r q k) = gateGrad x0 x1 x5 x8 r q k := by
  have ct : val_main_v19 (F := Ideal) x0 x1 x8 (at3 r q k)
      = headOf x0 r q k * (headOf x1 r q k * headInv (headOf x1 r q) * x8 (ix2 0 k)) := by
    rw [val_main_v19_apply, weighted_at]
    show _ * val_main_v0 (F := Ideal) x0 (at3 r q k) = _
    rw [heads_at]
    exact mul_comm _ _
  rw [val_main_v20_apply, val_main_call1_v1_apply, val_main_call1_v2_apply, val_main_call1_v0_apply, ct, logistic_at, slope_at]
  show _ * _ + val_main_v0 (F := Ideal) x5 (at3 r q k) * _ * _ = _
  rw [heads_at]
  exact (bend_eq (h5 _) ((h0 _).mul (((h1 _).mul (real_headInv fun _ => h1 _)).mul (h8 _)))).1

/-- The gradient that the reference's lines leave. -/
theorem gate_eq (h0 : ∀ i, IsReal (x0 i)) (h1 : ∀ i, IsReal (x1 i)) (h5 : ∀ i, IsReal (x5 i)) (h8 : ∀ i, IsReal (x8 i))
    (r : Fin 8320) (q : Fin 4) (k : Fin 128) (i : S8320x512.Idx) (e0 : (i 0).val = r.val) (e1 : (i 1).val = 128 * q.val + k.val) :
    val_main_v21 (F := Ideal) x0 x1 x5 x8 i = gateGrad x0 x1 x5 x8 r q k := by
  rw [val_main_v21_apply, ← gate_at x0 x1 x5 x8 h0 h1 h5 h8]
  refine congrArg _ (funext fun a => Fin.ext ?_)
  have := q.isLt
  have := k.isLt
  match a with
  | ⟨0, _⟩ => show ((i 0).val * 512 + (i 1).val) / 512 = r.val; omega
  | ⟨1, _⟩ => show ((i 0).val * 512 + (i 1).val) / 128 % 4 = q.val; omega
  | ⟨2, _⟩ => show ((i 0).val * 512 + (i 1).val) % 128 = k.val; omega

end Cert.Proof.Attention

end
-- ==== Proof.AttnFinite.lean ====
/-
  The precondition of the gate's claim, read.
-/
module

public import proofs.«01_k».proof.Proof.Finite

@[expose] public section

noncomputable section

namespace Cert.Proof.AttnFinite

open Idealize.ShloMosaic Cert.Proof.Finite
open Cert.Pre_gate_finite

theorem facts : Cert.Pre_gate_finite.Facts where
  bcast_S_S8320x512 := by decide
  reducesTo_S8320x512_S_d0_1 := by decide
  h_S_ := by decide
  bcast_S_S1x128 := by decide
  reducesTo_S1x128_S_d0_1 := by decide

theorem fn_real [Cert.Pre_gate_finite.Facts] (x0 x1 : FVec Ideal S8320x512 .f32) (x2 x3 : FVec Ideal S8320x256 .f32)
    (x4 : FVec Ideal S8320x512 .bf16) (x5 : FVec Ideal S8320x512 .f32) (x6 : FVec Ideal S8320x256 .f32)
    (x7 : FVec Ideal S65x2x128x128 .f32) (x8 : FVec Ideal S1x128 .f32) (x9 x10 : FVec Ideal S8320x512 .f32)
    (x11 : FVec Ideal S8320x512 .bf16) (x12 x13 : FVec Ideal S8320x128 .bf16) (x14 : FVec Ideal S8320x8 .f32)
    (x15 : FVec Ideal S1x8 .f32) (x16 : FVec Ideal S1x512 .f32)
    (h : fn (F := Ideal) x0 x1 x2 x3 x4 x5 x6 x7 x8 x9 x10 x11 x12 x13 x14 x15 x16 = fun _ => 1#1) :
    (∀ i, IsReal (x0 i)) ∧ (∀ i, IsReal (x1 i)) ∧ (∀ i, IsReal (x5 i)) ∧ ∀ i, IsReal (x8 i) := by
  have h' := congrFun h (fun k => k.elim0)
  simp only [fn, fn_part1] at h'
  obtain ⟨h', e8⟩ := and_left h'
  obtain ⟨h', e5⟩ := and_left h'
  obtain ⟨e0, e1⟩ := and_left h'
  exact ⟨of_all _ _ (fun _ => rfl) _ _ _ _ e0, of_all _ _ (fun _ => rfl) _ _ _ _ e1, of_all _ _ (fun _ => rfl) _ _ _ _ e5,
    of_all _ _ (fun _ => rfl) _ _ _ _ e8⟩

end Cert.Proof.AttnFinite

end
-- ==== Proof.AttnValue.lean ====
/-
  The attention backward kernel's program runs without fault and keeps its arguments, and its launch leaves the
  gradient of the linear attention's gate.
-/
module

public import proofs.«01_k».proof.Defs
public import proofs.«01_k».proof.Proof.AttnRun
public import proofs.«01_k».proof.Proof.AttnHead
public import proofs.«01_k».proof.Proof.AttnFinite
public import proofs.«01_k».proof.Proof.Gen.Attention
public import proofs.«01_k».proof.Proof.Gen.AttentionRefIdeal.Run

@[expose] public section

noncomputable section

namespace Cert.Proof.Attention

open Cert.AttentionIdeal Cert.AttentionIdeal.Gen
open Idealize.ShloMosaic Idealize.ShloMosaic.TcCoe
open Idealize.SL.Sem
open Idealize.ShloMosaic (ix2 eq_ix2)

/-! ## The frames -/

section Frames

variable {F : FTy → Type} [FloatOps F] (m : (ℓ : Loc nD τ sig) → Buf (Elt F) ℓ)

/-- An input's array is left as the launch finds it. -/
theorem input {r : PUnit × MemSt nD τ sig (Elt F)} (h : Pipeline.RDat.FramePost cfg0 (rdat m) (V m) r) (c : Dev nD) (w : Fin cfg0.W)
    (hin : (cfg0.win w).isOut = false) :
    r.2.mem ((cfg0.spec w).arr.view.loc (c.tc : Thread nD τ)) = V m c (Pipeline.arrRef spec0 w) :=
  (h.arr_in c w hin).trans (A_eq m c w)

theorem kept0 {r : PUnit × MemSt nD τ sig (Elt F)} (h : Pipeline.RDat.FramePost cfg0 (rdat m) (V m) r) (c : Dev nD) :
    r.2.mem ((c : Thread nD τ).loc main_arg0) = m ((c : Thread nD τ).loc main_arg0) := (input m h c 0 rfl).trans (V_main_arg0 m c)

theorem kept1 {r : PUnit × MemSt nD τ sig (Elt F)} (h : Pipeline.RDat.FramePost cfg0 (rdat m) (V m) r) (c : Dev nD) :
    r.2.mem ((c : Thread nD τ).loc main_arg1) = m ((c : Thread nD τ).loc main_arg1) := (input m h c 1 rfl).trans (V_main_arg1 m c)

theorem kept2 {r : PUnit × MemSt nD τ sig (Elt F)} (h : Pipeline.RDat.FramePost cfg0 (rdat m) (V m) r) (c : Dev nD) :
    r.2.mem ((c : Thread nD τ).loc main_arg2) = m ((c : Thread nD τ).loc main_arg2) := (input m h c 2 rfl).trans (V_main_arg2 m c)

theorem kept3 {r : PUnit × MemSt nD τ sig (Elt F)} (h : Pipeline.RDat.FramePost cfg0 (rdat m) (V m) r) (c : Dev nD) :
    r.2.mem ((c : Thread nD τ).loc main_arg3) = m ((c : Thread nD τ).loc main_arg3) := (input m h c 3 rfl).trans (V_main_arg3 m c)

theorem kept4 {r : PUnit × MemSt nD τ sig (Elt F)} (h : Pipeline.RDat.FramePost cfg0 (rdat m) (V m) r) (c : Dev nD) :
    r.2.mem ((c : Thread nD τ).loc main_arg4) = m ((c : Thread nD τ).loc main_arg4) := (input m h c 4 rfl).trans (V_main_arg4 m c)

theorem kept5 {r : PUnit × MemSt nD τ sig (Elt F)} (h : Pipeline.RDat.FramePost cfg0 (rdat m) (V m) r) (c : Dev nD) :
    r.2.mem ((c : Thread nD τ).loc main_arg5) = m ((c : Thread nD τ).loc main_arg5) := (input m h c 5 rfl).trans (V_main_arg5 m c)

theorem kept6 {r : PUnit × MemSt nD τ sig (Elt F)} (h : Pipeline.RDat.FramePost cfg0 (rdat m) (V m) r) (c : Dev nD) :
    r.2.mem ((c : Thread nD τ).loc main_arg6) = m ((c : Thread nD τ).loc main_arg6) := (input m h c 6 rfl).trans (V_main_arg6 m c)

theorem kept7 {r : PUnit × MemSt nD τ sig (Elt F)} (h : Pipeline.RDat.FramePost cfg0 (rdat m) (V m) r) (c : Dev nD) :
    r.2.mem ((c : Thread nD τ).loc main_arg7) = m ((c : Thread nD τ).loc main_arg7) := (input m h c 7 rfl).trans (V_main_arg7 m c)

theorem kept8 {r : PUnit × MemSt nD τ sig (Elt F)} (h : Pipeline.RDat.FramePost cfg0 (rdat m) (V m) r) (c : Dev nD) :
    r.2.mem ((c : Thread nD τ).loc main_arg8) = m ((c : Thread nD τ).loc main_arg8) := (input m h c 8 rfl).trans (V_main_arg8 m c)

theorem kept9 {r : PUnit × MemSt nD τ sig (Elt F)} (h : Pipeline.RDat.FramePost cfg0 (rdat m) (V m) r) (c : Dev nD) :
    r.2.mem ((c : Thread nD τ).loc main_arg9) = m ((c : Thread nD τ).loc main_arg9) := (input m h c 9 rfl).trans (V_main_arg9 m c)

theorem kept10 {r : PUnit × MemSt nD τ sig (Elt F)} (h : Pipeline.RDat.FramePost cfg0 (rdat m) (V m) r) (c : Dev nD) :
    r.2.mem ((c : Thread nD τ).loc main_arg10) = m ((c : Thread nD τ).loc main_arg10) := (input m h c 10 rfl).trans (V_main_arg10 m c)

theorem kept11 {r : PUnit × MemSt nD τ sig (Elt F)} (h : Pipeline.RDat.FramePost cfg0 (rdat m) (V m) r) (c : Dev nD) :
    r.2.mem ((c : Thread nD τ).loc main_arg11) = m ((c : Thread nD τ).loc main_arg11) := (input m h c 11 rfl).trans (V_main_arg11 m c)

theorem kept12 {r : PUnit × MemSt nD τ sig (Elt F)} (h : Pipeline.RDat.FramePost cfg0 (rdat m) (V m) r) (c : Dev nD) :
    r.2.mem ((c : Thread nD τ).loc main_arg12) = m ((c : Thread nD τ).loc main_arg12) := (input m h c 12 rfl).trans (V_main_arg12 m c)

theorem kept13 {r : PUnit × MemSt nD τ sig (Elt F)} (h : Pipeline.RDat.FramePost cfg0 (rdat m) (V m) r) (c : Dev nD) :
    r.2.mem ((c : Thread nD τ).loc main_arg13) = m ((c : Thread nD τ).loc main_arg13) := (input m h c 13 rfl).trans (V_main_arg13 m c)

theorem kept14 {r : PUnit × MemSt nD τ sig (Elt F)} (h : Pipeline.RDat.FramePost cfg0 (rdat m) (V m) r) (c : Dev nD) :
    r.2.mem ((c : Thread nD τ).loc main_arg14) = m ((c : Thread nD τ).loc main_arg14) := (input m h c 14 rfl).trans (V_main_arg14 m c)

theorem kept15 {r : PUnit × MemSt nD τ sig (Elt F)} (h : Pipeline.RDat.FramePost cfg0 (rdat m) (V m) r) (c : Dev nD) :
    r.2.mem ((c : Thread nD τ).loc main_arg15) = m ((c : Thread nD τ).loc main_arg15) := (input m h c 15 rfl).trans (V_main_arg15 m c)

theorem kept16 {r : PUnit × MemSt nD τ sig (Elt F)} (h : Pipeline.RDat.FramePost cfg0 (rdat m) (V m) r) (c : Dev nD) :
    r.2.mem ((c : Thread nD τ).loc main_arg16) = m ((c : Thread nD τ).loc main_arg16) := (input m h c 16 rfl).trans (V_main_arg16 m c)

/-- The arguments are kept. -/
theorem kept {r : PUnit × MemSt nD τ sig (Elt F)} (h : Pipeline.RDat.FramePost cfg0 (rdat m) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  ⟨kept0 m h c, kept1 m h c, kept2 m h c, kept3 m h c, kept4 m h c, kept5 m h c, kept6 m h c, kept7 m h c, kept8 m h c, kept9 m h c, kept10 m h c, kept11 m h c, kept12 m h c, kept13 m h c, kept14 m h c, kept15 m h c, kept16 m h c⟩

theorem frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16))
      ∧ r.2.sem = fun _ => 0) :=
  (θ_run defs _ _).mono (fun _ h => ⟨kept m h.1, h.2⟩) (run_main m ρ)

end Frames

theorem frame_ideal : quiescent_AttentionIdeal (hAttentionIdeal := Cert.AttentionIdeal.Gen.facts) := fun m ρ _ =>
  (θ_run Cert.AttentionIdeal.defs _ _).mono (fun _ h => h) (frame (F := Ideal) m ρ)

theorem reference_frame : quiescent_AttentionRefIdeal (hAttentionRefIdeal := Cert.AttentionRefIdeal.Gen.facts) := fun m ρ _ =>
  (θ_run Cert.AttentionRefIdeal.defs _ _).mono
    (fun r h => ⟨fun c => (h c).2, sem_eq_zero_of_no_sems (by decide) r.2⟩)
    (Cert.AttentionRefIdeal.Value.run (F := Ideal) m ρ)

/-! ## The gradient of the gate -/

variable (m : (ℓ : Loc nD τ sig) → Buf (Elt Ideal) ℓ) (c : Dev nD)

/-- The array's row of row `p` of point `t`'s block: the points go up the rows. -/
def up (t : Fin cfg0.N) (p : Fin 640) : Fin 8320 :=
  ⟨640 * (12 - t.val) + p.val, by have : t.val < 13 := t.isLt; omega⟩

theorem idx : ∀ t : Fin cfg0.N,
    win0_0.index t = ![12 - t.val, 0] ∧ win0_1.index t = ![12 - t.val, 0] ∧ win0_5.index t = ![12 - t.val, 0]
    ∧ win0_8.index t = ![0, 0] ∧ win0_20.index t = ![12 - t.val, 0] :=
  (by decide +kernel : ∀ t : Fin grid0.N, _)

theorem blk0 (t : Fin cfg0.N) (p : Fin 640) (k : Fin 512) :
    (iblk m c 0 t : Vec Ideal S640x512 .f32) (ix2 p k) = V m c main_arg0 (ix2 (up t p) k) := by
  blk_ext [iblk, up, idx t]

theorem blk1 (t : Fin cfg0.N) (p : Fin 640) (k : Fin 512) :
    (iblk m c 1 t : Vec Ideal S640x512 .f32) (ix2 p k) = V m c main_arg1 (ix2 (up t p) k) := by
  blk_ext [iblk, up, idx t]

theorem blk5 (t : Fin cfg0.N) (p : Fin 640) (k : Fin 512) :
    (iblk m c 5 t : Vec Ideal S640x512 .f32) (ix2 p k) = V m c main_arg5 (ix2 (up t p) k) := by
  blk_ext [iblk, up, idx t]

theorem blk8 (t : Fin cfg0.N) (p : Fin 1) (k : Fin 128) :
    (iblk m c 8 t : Vec Ideal S1x128 .f32) (ix2 p k) = V m c main_arg8 (ix2 p k) := by
  blk_ext [iblk, idx t]

/-- One place of a head's block. -/
theorem gateBlock_apply (w : Vec Ideal S1x128 .f32) (o g d : Vec Ideal S128x128 .f32) (p k : Fin 128) :
    gateBlock (F := Ideal) w o g d (ix2 p k) = headGrad (fun k => o (ix2 p k)) (w (ix2 0 k)) (g (ix2 p k)) (d (ix2 p k)) k := by
  have hi : ∀ q : Fin 1, k0_pay50 (F := Ideal) o (ix2 p q) = headInv fun k => o (ix2 p k) := fun q => by
    unfold k0_pay50
    pointwise
    rfl
  unfold gateBlock k0_pay55 k0_pay51 k0_pay52
  pointwise
  rw [hi, zero_sub]
  rfl

/-- One place of a block of 128 rows of one head, in the arrays' terms. -/
theorem gate_blk (t : Fin cfg0.N) (p : Fin 5) (q : Fin 4) (a k : Fin 128) :
    gateBlock (F := Ideal) (iblk m c 8 t) (block (iblk m c 1 t) p q) (block (iblk m c 5 t) p q) (block (iblk m c 0 t) p q) (ix2 a k)
      = gateGrad (V m c main_arg0) (V m c main_arg1) (V m c main_arg5) (V m c main_arg8) (up t ⟨128 * p.val + a.val, by omega⟩) q k := by
  have e : ∀ (X : Vec Ideal S640x512 .f32) (k : Fin 128), block X p q (ix2 a k)
      = X (ix2 (⟨128 * p.val + a.val, by omega⟩ : Fin 640) (⟨128 * q.val + k.val, by omega⟩ : Fin 512)) := fun _ _ => rfl
  rw [gateBlock_apply]
  simp only [e, blk0, blk1, blk5, blk8]
  rfl

/-- What the points leave, in the arrays' terms. -/
theorem gate_rows (t : Fin cfg0.N) (y : S640x512.Idx) :
    gateRows (F := Ideal) (iblk m c 8 t) (iblk m c 1 t) (iblk m c 5 t) (iblk m c 0 t) y
      = gateGrad (V m c main_arg0) (V m c main_arg1) (V m c main_arg5) (V m c main_arg8) (up t (y 0))
        ⟨(y 1).val / 128, by have : (y 1).val < 512 := (y 1).isLt; omega⟩ ⟨(y 1).val % 128, Nat.mod_lt _ (by decide)⟩ := by
  have h0 : (y 0).val < 640 := (y 0).isLt
  have h1 : (y 1).val < 512 := (y 1).isLt
  unfold gateRows
  dsimp only
  rw [gate_blk]
  refine congrArg (fun r => gateGrad _ _ _ _ r _ _) (congrArg (up t) (Fin.ext ?_))
  show 128 * ((y 0).val / 128) + (y 0).val % 128 = (y 0).val
  omega

/-- The gate's gradient, as one array. -/
def gateWhole (d o g : Vec Ideal S8320x512 .f32) (w : Vec Ideal S1x128 .f32) : Vec Ideal S8320x512 .f32 := fun i =>
  gateGrad d o g w (i 0) ⟨(i 1).val / 128, by have : (i 1).val < 512 := (i 1).isLt; omega⟩ ⟨(i 1).val % 128, Nat.mod_lt _ (by decide)⟩

/-- The array the launch leaves. -/
theorem gate_array (after : (w : Fin cfg0.W) → Fin cfg0.N → (cfg0.win w).block.Idx → Elt Ideal (cfg0.win w).elt)
    (h : ∀ t, (cfg0.win 20).flush t = true → after 20 t = gateRows (F := Ideal) (iblk m c 8 t) (iblk m c 1 t) (iblk m c 5 t) (iblk m c 0 t)) :
    ((rdat m c).withAfter after).arrAt 20 cfg0.N = gateWhole (V m c main_arg0) (V m c main_arg1) (V m c main_arg5) (V m c main_arg8) := by
  refine ((rdat m c).withAfter after).arrAt_eq_of_covers 20 _ (by decide +kernel) fun t hf y => ?_
  blk_simp
  have he : ((View.whole main_v0_3).slice (win0_20.rect t)).emb y = ix2 (up t (y 0)) (y 1) := by
    blk_ext [up, idx t]
  rw [Pipeline.RDat.withAfter_after, h t hf, he]
  exact gate_rows m c t y

/-- What the program's run leaves. -/
theorem gate_left {r : PUnit × MemSt nD τ sig (Elt Ideal)} (h : Pipeline.RDat.FramePost cfg0 (rdat m) (V m) r) :
    r.2.mem ((c : Thread nD τ).loc main_v0_3) = gateWhole (m ((c : Thread nD τ).loc main_arg0)) (m ((c : Thread nD τ).loc main_arg1))
      (m ((c : Thread nD τ).loc main_arg5)) (m ((c : Thread nD τ).loc main_arg8)) := by
  obtain ⟨after, hl, ha⟩ := h.exists_exact c
  exact (ha 20).trans (gate_array m c after fun t hf => Pipeline.Dat.toRRel_leaves (dat := dats m 0 c) (fgt := marked) (Rl := left m c) (w := 20) (t := t) (by decide) (hl 20 t hf))

/-- The reference's gradient is that array. -/
theorem gate_ref (x0 x1 x5 : Vec Ideal S8320x512 .f32) (x8 : Vec Ideal S1x128 .f32)
    (h0 : ∀ i, IsReal (x0 i)) (h1 : ∀ i, IsReal (x1 i)) (h5 : ∀ i, IsReal (x5 i)) (h8 : ∀ i, IsReal (x8 i)) :
    Cert.AttentionRefIdeal.Read.val_main_v21 (F := Ideal) x0 x1 x5 x8 = gateWhole x0 x1 x5 x8 := funext fun i =>
  gate_eq x0 x1 x5 x8 h0 h1 h5 h8 (i 0) _ _ i rfl (Nat.div_add_mod _ _).symm

theorem values : algebraic_AttentionIdeal_AttentionRefIdeal_pre_gate_finite (hAttentionIdeal := Cert.AttentionIdeal.Gen.facts)
    (hAttentionRefIdeal := Cert.AttentionRefIdeal.Gen.facts) (hPre_gate_finite := AttnFinite.facts) := by
  intro m g m' g' hpre hagree
  have hreal := fun c => @AttnFinite.fn_real AttnFinite.facts _ _ _ _ _ _ _ _ _ _ _ _ _ _ _ _ _ (hpre c)
  refine ⟨fun c => gateWhole (m ((c : Thread nD τ).loc main_arg0)) (m ((c : Thread nD τ).loc main_arg1))
      (m ((c : Thread nD τ).loc main_arg5)) (m ((c : Thread nD τ).loc main_arg8)), ?_, ?_⟩
  · exact (θ_run Cert.AttentionIdeal.defs _ _).mono (fun r h c => ⟨gate_left m c h.1, kept m h.1 c⟩) (run_main (F := Ideal) m g)
  · refine (θ_run Cert.AttentionRefIdeal.defs _ _).mono (fun r h c => ?_) (Cert.AttentionRefIdeal.Value.run (F := Ideal) m' g')
    obtain ⟨r0, r1, r5, r8⟩ := hreal c
    obtain ⟨a0, a1, _, _, _, a5, _, _, a8, _⟩ := hagree c
    refine ⟨((h c).1.trans (Cert.AttentionRefIdeal.Read.val_main_v21_eq _ _ _ _)).trans ?_, (h c).2⟩
    rw [a0, a1, a5, a8]
    exact gate_ref _ _ _ _ r0 r1 r5 r8

end Cert.Proof.Attention

end
-- ==== Proof.AttnFrame.lean ====
/-
  The attention backward kernel's program, in its own arithmetic, runs without fault and keeps its arguments.
-/
module

public import proofs.«01_k».proof.Proof.AttnSame
public import proofs.«01_k».proof.Proof.AttnValue

@[expose] public section

noncomputable section

namespace Cert.Proof.Attention

open Cert.AttentionIdeal Cert.AttentionIdeal.Gen
open Idealize.ShloMosaic Idealize.ShloMosaic.TcCoe
open Idealize.SL.Sem

/-- What holds of a pair holds of an equal pair. -/
theorem carry {α β : Sort*} {P : α → β → Prop} {a a' : α} {b b' : β} (ha : a = a') (hb : b = b') (h : P a' b') : P a b :=
  ha ▸ hb ▸ h

set_option maxHeartbeats 4000000 in
theorem frame_kernel : quiescent_Attention (hAttention := Cert.Attention.Gen.facts) := fun m ρ _ =>
  carry (P := fun D M => θ_run D (onTc (τ := τ) M) ⟨m, fun _ => 0, ρ⟩ _) (defs_same (F := Bits)) (main_same (F := Bits))
    (frame m ρ)

end Cert.Proof.Attention

end
-- ==== Proof.ForwardArrays.lean ====
/-
  The forward pass of a feed-forward block: its lines on single rows, and what the first block's forward launch
  leaves of its blocks and, over the grid, of its arrays.
-/
module

public import proofs.«01_k».proof.Proof.Gen.ForwardIdeal.Value
public import proofs.«01_k».proof.Proof.FirstArrays

@[expose] public section

noncomputable section

open Idealize.ShloMosaic Idealize.ShloMosaic.TcCoe

namespace Cert.Proof.ForwardArrays

open Cert.ForwardIdeal Cert.ForwardIdeal.Gen Cert.Proof.RowSums
open Cert.Proof.FirstArrays (behind)

/-! ## The block's forward lines -/

/-- What a feed-forward block is given: its rows, the two gains, and the weights, the first two transposed. -/
structure Fed where
  h : Fin 8320 → Fin 1024 → EReal
  gpre : Fin 1024 → EReal
  gpost : Fin 1024 → EReal
  wg : Fin 2816 → Fin 1024 → EReal
  wu : Fin 2816 → Fin 1024 → EReal
  wd : Fin 2816 → Fin 1024 → EReal

namespace Fed

variable (G : Fed)

/-- The normalized rows with their gain. -/
def n (r : Fin 8320) (k : Fin 1024) : EReal := hat (G.h r) k * G.gpre k

/-- The gate's projection. -/
def a (r : Fin 8320) (j : Fin 2816) : EReal := ∑ k, G.n r k * G.wg j k

/-- The other projection. -/
def b (r : Fin 8320) (j : Fin 2816) : EReal := ∑ k, G.n r k * G.wu j k

/-- The gated rows. -/
def s (r : Fin 8320) (j : Fin 2816) : EReal := G.a r j * logistic (G.a r j) * G.b r j

/-- Their product with the last weight. -/
def f (r : Fin 8320) (k : Fin 1024) : EReal := ∑ j, G.s r j * G.wd j k

/-- The block's output: half of the normalized product, with its gain, added to the rows. -/
def out (r : Fin 8320) (k : Fin 1024) : EReal :=
  G.h r k + Ideal.ofBits .f32 0x3F000000#32 * (hat (G.f r) k * G.gpost k)

end Fed

/-- The same, read off arrays. -/
def fedOf (h : Vec Ideal S8320x1024 .f32) (gpre gpost : Vec Ideal S1x1024 .f32) (wg wu wd : S2816x1024.Idx → EReal) : Fed where
  h r k := h (ix2 r k)
  gpre k := gpre (ix2 0 k)
  gpost k := gpost (ix2 0 k)
  wg j k := wg (ix2 j k)
  wu j k := wu (ix2 j k)
  wd j k := wd (ix2 j k)

/-! ## What the body computes from its blocks -/

section
variable (i : grid0.Coords) (v0 : Vec Ideal S128x1024 .f32) (v1 : Vec Ideal S416x1024 .f32) (v16 : Vec Ideal S1x1024 .f32)
  (v20 : Vec Ideal S2816x1024 .bf16)

theorem n_apply (p : Fin 416) (k : Fin 1024) : k0_pay5 (F := Ideal) i v0 v1 v16 (ix2 p k)
    = hat (fun k => k0_pay4 (F := Ideal) i v0 v1 (ix2 p k)) k * v16 (ix2 0 k) := by
  unfold k0_pay5
  pointwise
  rfl

theorem a_apply (p : Fin 416) (j : Fin 2816) : k0_pay6 (F := Ideal) i v0 v1 v16 v20 (ix2 p j)
    = ∑ k : Fin 1024, k0_pay5 (F := Ideal) i v0 v1 v16 (ix2 p k) * v20 (ix2 j k) := by
  unfold k0_pay6
  pointwise

theorem b_apply (p : Fin 416) (j : Fin 2816) : k0_pay7 (F := Ideal) i v0 v1 v16 v20 (ix2 p j)
    = ∑ k : Fin 1024, k0_pay5 (F := Ideal) i v0 v1 v16 (ix2 p k) * v20 (ix2 j k) := by
  unfold k0_pay7
  pointwise

theorem s_apply (b : Vec Ideal S416x2816 .f32) (p : Fin 416) (j : Fin 2816) :
    k0_pay1 (F := Ideal) (k0_pay6 i v0 v1 v16 v20) b (k0_pay10 i v0 v1 v16 v20) (ix2 p j)
      = k0_pay6 (F := Ideal) i v0 v1 v16 v20 (ix2 p j) * logistic (k0_pay6 (F := Ideal) i v0 v1 v16 v20 (ix2 p j))
        * b (ix2 p j) := by
  unfold k0_pay1 k0_pay10
  pointwise
  rw [zero_sub]
  rfl

theorem f_apply (a b d : Vec Ideal S416x2816 .f32) (p : Fin 416) (k : Fin 1024) :
    k0_pay2 (F := Ideal) a b d v20 (ix2 p k)
      = ∑ j : Fin 2816, k0_pay1 (F := Ideal) a b d (ix2 p j) * v20 (ix2 j k) := by
  unfold k0_pay2
  pointwise

theorem out_apply (h f : Vec Ideal S416x1024 .f32) (p : Fin 416) (k : Fin 1024) :
    k0_pay3 (F := Ideal) h f v16 (ix2 p k)
      = h (ix2 p k) + Ideal.ofBits .f32 0x3F000000#32 * (hat (fun k => f (ix2 p k)) k * v16 (ix2 0 k)) := by
  unfold k0_pay3
  pointwise
  rfl

end

/-! ## The blocks -/

variable (m : (ℓ : Loc nD τ sig) → Buf (Elt Ideal) ℓ) (c : Dev nD)

theorem idx : ∀ t : Fin cfg0.N,
    win0_1.index t = ![0, 0] ∧ win0_2.index t = ![0, 0] ∧ win0_3.index t = ![0, 0] ∧ win0_4.index t = ![0, 0]
    ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The second array's block starts 128 rows early, and never before the array. -/
theorem idx0 : ∀ t : Fin cfg0.N, win0_0.index t = ![416 * t.val - 128, 0] :=
  (by decide +kernel : ∀ t : Fin grid0.N, _)

theorem blk0 (t : Fin cfg0.N) (p : Fin 416) (k : Fin 1024) :
    (iblk m c 0 t : Vec Ideal S416x1024 .f32) (ix2 p k)
      = V m c main_arg1 (ix2 ⟨416 * t.val - 128 + p.val, by have : t.val < 20 := t.isLt; omega⟩ k) := by
  have h0 : (((View.whole main_arg1).slice (win0_0.rect t)).emb (ix2 p k) 0 : Nat) = win0_0.index t 0 + p.val :=
    ValueKit.view_emb_slice_whole_unit_val main_arg1 _ _ _ _ 0
  have h1 : (((View.whole main_arg1).slice (win0_0.rect t)).emb (ix2 p k) 1 : Nat) = win0_0.index t 1 + k.val :=
    ValueKit.view_emb_slice_whole_unit_val main_arg1 _ _ _ _ 1
  rw [idx0 t] at h0 h1
  blk_ext [iblk]
  · exact h0
  · exact h1.trans (Nat.zero_add _)

theorem blk1 (t : Fin cfg0.N) (p : Fin 1) (k : Fin 1024) :
    (iblk m c 1 t : Vec Ideal S1x1024 .f32) (ix2 p k) = V m c main_arg2 (ix2 p k) := by
  blk_ext [iblk, idx t]

theorem blk2 (t : Fin cfg0.N) (p : Fin 2816) (k : Fin 1024) :
    (iblk m c 2 t : Vec Ideal S2816x1024 .bf16) (ix2 p k) = V m c main_v1 (ix2 p k) := by
  blk_ext [iblk, idx t]

theorem blk3 (t : Fin cfg0.N) (p : Fin 2816) (k : Fin 1024) :
    (iblk m c 3 t : Vec Ideal S2816x1024 .bf16) (ix2 p k) = V m c main_v3 (ix2 p k) := by
  blk_ext [iblk, idx t]

theorem blk4 (t : Fin cfg0.N) (p : Fin 2816) (k : Fin 1024) :
    (iblk m c 4 t : Vec Ideal S2816x1024 .bf16) (ix2 p k) = V m c main_v4 (ix2 p k) := by
  blk_ext [iblk, idx t]

theorem blk5 (t : Fin cfg0.N) (p : Fin 1) (k : Fin 1024) :
    (iblk m c 5 t : Vec Ideal S1x1024 .f32) (ix2 p k) = V m c main_arg6 (ix2 p k) := by
  blk_ext [iblk, idx t]

theorem blk6 (t : Fin cfg0.N) (p : Fin 128) (k : Fin 1024) :
    (iblk m c 6 t : Vec Ideal S128x1024 .f32) (ix2 p k) = V m c main_arg0 (ix2 p k) := by
  blk_ext [iblk, idx t]

theorem first : ∀ t : Fin cfg0.N, Scalar.cmpi .eq (BitVec.ofNat 32 (grid0.coords t 0).val) 0#32
    = if t.val = 0 then 1#1 else 0#1 :=
  (by decide +kernel : ∀ t : Fin grid0.N, _)

/-- The block of the rows, as the body puts it together. -/
abbrev hBlk (t : Fin cfg0.N) : Vec Ideal S416x1024 .f32 :=
  k0_pay4 (F := Ideal) (grid0.coords t) (iblk m c 6 t) (iblk m c 0 t)

theorem h_blk (t : Fin cfg0.N) (p : Fin 416) (k : Fin 1024) :
    hBlk m c t (ix2 p k) = behind (V m c main_arg0) (V m c main_arg1) (ix2 (at_ t p) k) := by
  unfold hBlk k0_pay4 behind
  rw [first]
  have ht : t.val < 20 := t.isLt
  by_cases h : t.val = 0
  · rw [if_pos h]
    pointwise
    simp only [blk0, blk6]
    have e : (at_ t p).val = p.val := by simp [at_, h]
    by_cases hp : p.val < 128
    · rw [dif_pos hp, dif_pos (e.symm ▸ hp : (at_ t p).val < 128)]
      exact congrArg (fun r => V m c main_arg0 (ix2 r k)) (Fin.ext e.symm)
    · rw [dif_neg hp, dif_neg (e.symm ▸ hp : ¬(at_ t p).val < 128)]
      exact congrArg (fun r => V m c main_arg1 (ix2 r k)) (Fin.ext (by
        show 416 * t.val - 128 + (p.val - 128) = (at_ t p).val - 128
        omega))
  · rw [if_neg h]
    pointwise
    simp only [blk0]
    have e : (at_ t p).val = 416 * t.val + p.val := rfl
    rw [dif_neg (by omega : ¬(at_ t p).val < 128)]
    exact congrArg (fun r => V m c main_arg1 (ix2 r k)) (Fin.ext (by
      show 416 * t.val - 128 + p.val = (at_ t p).val - 128
      omega))

/-- What the launch is given. -/
def fed : Fed :=
  fedOf (behind (V m c main_arg0) (V m c main_arg1)) (V m c main_arg2) (V m c main_arg6) (V m c main_v1) (V m c main_v3)
    (V m c main_v4)

/-! ## What the body leaves of its blocks -/

theorem n_blk (t : Fin cfg0.N) (p : Fin 416) (k : Fin 1024) :
    k0_pay5 (F := Ideal) (grid0.coords t) (iblk m c 6 t) (iblk m c 0 t) (iblk m c 1 t) (ix2 p k)
      = (fed m c).n (at_ t p) k := by
  rw [n_apply]
  simp only [h_blk, blk1]
  rfl

abbrev aBlk (t : Fin cfg0.N) : Vec Ideal S416x2816 .f32 :=
  k0_pay6 (F := Ideal) (grid0.coords t) (iblk m c 6 t) (iblk m c 0 t) (iblk m c 1 t) (iblk m c 2 t)

abbrev bBlk (t : Fin cfg0.N) : Vec Ideal S416x2816 .f32 :=
  k0_pay7 (F := Ideal) (grid0.coords t) (iblk m c 6 t) (iblk m c 0 t) (iblk m c 1 t) (iblk m c 3 t)

abbrev denBlk (t : Fin cfg0.N) : Vec Ideal S416x2816 .f32 :=
  k0_pay10 (F := Ideal) (grid0.coords t) (iblk m c 6 t) (iblk m c 0 t) (iblk m c 1 t) (iblk m c 2 t)

theorem a_blk (t : Fin cfg0.N) (p : Fin 416) (j : Fin 2816) : aBlk m c t (ix2 p j) = (fed m c).a (at_ t p) j := by
  rw [aBlk, a_apply]
  simp only [n_blk, blk2]
  rfl

theorem b_blk (t : Fin cfg0.N) (p : Fin 416) (j : Fin 2816) : bBlk m c t (ix2 p j) = (fed m c).b (at_ t p) j := by
  rw [bBlk, b_apply]
  simp only [n_blk, blk3]
  rfl

theorem s_blk (t : Fin cfg0.N) (p : Fin 416) (j : Fin 2816) :
    k0_pay1 (F := Ideal) (aBlk m c t) (bBlk m c t) (denBlk m c t) (ix2 p j) = (fed m c).s (at_ t p) j := by
  rw [aBlk, denBlk, s_apply]
  rw [show k0_pay6 (F := Ideal) (grid0.coords t) (iblk m c 6 t) (iblk m c 0 t) (iblk m c 1 t) (iblk m c 2 t) (ix2 p j)
    = (fed m c).a (at_ t p) j from a_blk m c t p j, b_blk]
  rfl

theorem f_blk (t : Fin cfg0.N) (p : Fin 416) (k : Fin 1024) :
    k0_pay2 (F := Ideal) (aBlk m c t) (bBlk m c t) (denBlk m c t) (iblk m c 4 t) (ix2 p k)
      = (fed m c).f (at_ t p) k := by
  rw [f_apply]
  simp only [s_blk, blk4]
  rfl

theorem out_blk (t : Fin cfg0.N) (p : Fin 416) (k : Fin 1024) :
    k0_pay3 (F := Ideal) (hBlk m c t)
      (k0_pay2 (F := Ideal) (aBlk m c t) (bBlk m c t) (denBlk m c t) (iblk m c 4 t)) (iblk m c 5 t) (ix2 p k)
      = (fed m c).out (at_ t p) k := by
  rw [out_apply]
  simp only [f_blk, h_blk, blk5]
  rfl

/-! ## The arrays -/

theorem out_array : (dats m 0 c).arrAt 7 cfg0.N = fun i : S8320x1024.Idx => (fed m c).out (i 0) (i 1) := by
  refine (dats m 0 c).arrAt_eq_of_covers 7 _ (by decide +kernel) fun t hf y => ?_
  blk_simp
  have he : ((View.whole main_v5_0).slice (win0_7.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_7, he]
  unfold outsAt0
  frame_out
  exact out_blk m c t p k

theorem a_array : (dats m 0 c).arrAt 8 cfg0.N = fun i : S8320x2816.Idx => (fed m c).a (i 0) (i 1) := by
  refine (dats m 0 c).arrAt_eq_of_covers 8 _ (by decide +kernel) fun t hf y => ?_
  blk_simp
  have he : ((View.whole main_v5_1).slice (win0_8.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_8, he]
  unfold outsAt0
  frame_out
  exact a_blk m c t p k

theorem b_array : (dats m 0 c).arrAt 9 cfg0.N = fun i : S8320x2816.Idx => (fed m c).b (i 0) (i 1) := by
  refine (dats m 0 c).arrAt_eq_of_covers 9 _ (by decide +kernel) fun t hf y => ?_
  blk_simp
  have he : ((View.whole main_v5_2).slice (win0_9.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_9, he]
  unfold outsAt0
  frame_out
  exact b_blk m c t p k

theorem s_array : (dats m 0 c).arrAt 10 cfg0.N = fun i : S8320x2816.Idx => (fed m c).s (i 0) (i 1) := by
  refine (dats m 0 c).arrAt_eq_of_covers 10 _ (by decide +kernel) fun t hf y => ?_
  blk_simp
  have he : ((View.whole main_v5_3).slice (win0_10.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_10, he]
  unfold outsAt0
  frame_out
  exact s_blk m c t p k

theorem f_array : (dats m 0 c).arrAt 11 cfg0.N = fun i : S8320x1024.Idx => (fed m c).f (i 0) (i 1) := by
  refine (dats m 0 c).arrAt_eq_of_covers 11 _ (by decide +kernel) fun t hf y => ?_
  blk_simp
  have he : ((View.whole main_v5_4).slice (win0_11.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_11, he]
  unfold outsAt0
  frame_out
  exact f_blk m c t p k

end Cert.Proof.ForwardArrays

end
-- ==== Proof.Forward.lean ====
/-
  The first block's forward pass: its launch leaves the block's output and what the backward pass reads of it, as the
  reference writes them, and the reference runs without fault and keeps its arguments.
-/
module

public import proofs.«01_k».proof.Defs
public import proofs.«01_k».proof.Proof.Gen.ForwardIdeal.Value
public import proofs.«01_k».proof.Proof.Gen.ForwardRefIdeal.Read
public import proofs.«01_k».proof.Proof.ForwardArrays
public import Idealize.ShloMosaic.Adequacy
public import Idealize.ShloMosaic.Init
public import Idealize.ShloMosaic.Lib.ValueLayout

@[expose] public section

noncomputable section

open Idealize.ShloMosaic Idealize.ShloMosaic.TcCoe

/-! ## The reference's results -/

namespace Cert.Proof.ForwardRef

open Cert.ForwardRefIdeal Cert.ForwardRefIdeal.Read
open Cert.Proof.FirstArrays (behind)
open Cert.Proof.ForwardArrays

variable (x0 : Vec Ideal S128x1024 .f32) (x1 : Vec Ideal S8192x1024 .f32) (x2 : Vec Ideal S1x1024 .f32)
  (x3 x4 : Vec Ideal S1024x2816 .f32) (x5 : Vec Ideal S2816x1024 .f32) (x6 : Vec Ideal S1x1024 .f32)

/-- What the reference computes from. -/
def fed : Fed where
  h r k := behind x0 x1 (ix2 r k)
  gpre k := x2 (ix2 0 k)
  gpost k := x6 (ix2 0 k)
  wg j k := x3 (ix2 k j)
  wu j k := x4 (ix2 k j)
  wd j k := x5 (ix2 j k)

theorem fedOf_eq {h : Vec Ideal S8320x1024 .f32} {gpre gpost : Vec Ideal S1x1024 .f32}
    {wg wu wd : Vec Ideal S2816x1024 .f32} (hh : h = behind x0 x1) (hpre : gpre = x2) (hpost : gpost = x6)
    (hwg : ∀ j k, wg (ix2 j k) = x3 (ix2 k j)) (hwu : ∀ j k, wu (ix2 j k) = x4 (ix2 k j)) (hwd : wd = x5) :
    fedOf h gpre gpost wg wu wd = fed x0 x1 x2 x3 x4 x5 x6 := by
  subst hh hpre hpost hwd
  simp only [fedOf, hwg, hwu]
  rfl

theorem inv_h (r : Fin 8320) (q : Fin 1) :
    val_main_v8 (F := Ideal) x0 x1 (ix2 r q) = inv fun k => val_main_v0 (F := Ideal) x0 x1 (ix2 r k) := by
  unfold val_main_v8 val_main_v7 val_main_v6 val_main_v5 val_main_v4 val_main_v3 val_main_v2 val_main_v1 val_main_cst
    val_main_cst_0 val_main_cst_1
  pointwise
  rfl

theorem n_eq (r : Fin 8320) (k : Fin 1024) :
    val_main_v12 (F := Ideal) x0 x1 x2 (ix2 r k) = (fed x0 x1 x2 x3 x4 x5 x6).n r k := by
  unfold val_main_v12 val_main_v11 val_main_v10 val_main_v9
  pointwise
  rw [inv_h]
  rfl

theorem a_eq (r : Fin 8320) (j : Fin 2816) :
    val_main_v13 (F := Ideal) x0 x1 x2 x3 (ix2 r j) = (fed x0 x1 x2 x3 x4 x5 x6).a r j := by
  unfold val_main_v13
  pointwise
  exact Finset.sum_congr rfl fun k _ => congrArg (· * x3 (ix2 k j)) (n_eq x0 x1 x2 x3 x4 x5 x6 r k)

theorem b_eq (r : Fin 8320) (j : Fin 2816) :
    val_main_v14 (F := Ideal) x0 x1 x2 x4 (ix2 r j) = (fed x0 x1 x2 x3 x4 x5 x6).b r j := by
  unfold val_main_v14
  pointwise
  exact Finset.sum_congr rfl fun k _ => congrArg (· * x4 (ix2 k j)) (n_eq x0 x1 x2 x3 x4 x5 x6 r k)

theorem s_eq (r : Fin 8320) (j : Fin 2816) :
    val_main_v16 (F := Ideal) x0 x1 x2 x3 x4 (ix2 r j) = (fed x0 x1 x2 x3 x4 x5 x6).s r j := by
  unfold val_main_v16 val_main_v15 val_main_call0_v5 val_main_call0_v4 val_main_call0_v3 val_main_call0_v2
    val_main_call0_v1 val_main_call0_v0 val_main_call0_cst val_main_call0_cst_0
  pointwise
  rw [a_eq x0 x1 x2 x3 x4 x5 x6, b_eq x0 x1 x2 x3 x4 x5 x6]
  rfl

theorem f_eq (r : Fin 8320) (k : Fin 1024) :
    val_main_v17 (F := Ideal) x0 x1 x2 x3 x4 x5 (ix2 r k) = (fed x0 x1 x2 x3 x4 x5 x6).f r k := by
  unfold val_main_v17
  pointwise
  exact Finset.sum_congr rfl fun j _ => congrArg (· * x5 (ix2 j k)) (s_eq x0 x1 x2 x3 x4 x5 x6 r j)

theorem inv_f (r : Fin 8320) (q : Fin 1) : val_main_v25 (F := Ideal) x0 x1 x2 x3 x4 x5 (ix2 r q)
    = inv fun k => val_main_v17 (F := Ideal) x0 x1 x2 x3 x4 x5 (ix2 r k) := by
  unfold val_main_v25 val_main_v24 val_main_v23 val_main_v22 val_main_v21 val_main_v20 val_main_v19 val_main_v18
    val_main_cst_2 val_main_cst_3 val_main_cst_4
  pointwise
  rfl

theorem out_eq (r : Fin 8320) (k : Fin 1024) :
    val_main_v32 (F := Ideal) x0 x1 x2 x3 x4 x5 x6 (ix2 r k) = (fed x0 x1 x2 x3 x4 x5 x6).out r k := by
  unfold val_main_v32 val_main_v31 val_main_v30 val_main_v29 val_main_v28 val_main_v27 val_main_v26 val_main_cst_5
  pointwise
  rw [inv_f]
  simp only [f_eq x0 x1 x2 x3 x4 x5 x6]
  rfl

theorem out_array : val_main_v32 (F := Ideal) x0 x1 x2 x3 x4 x5 x6
    = fun i => (fed x0 x1 x2 x3 x4 x5 x6).out (i 0) (i 1) :=
  funext fun i => (congrArg _ (eq_ix2 i)).trans (out_eq x0 x1 x2 x3 x4 x5 x6 (i 0) (i 1))

theorem a_array : val_main_v33 (F := Ideal) x0 x1 x2 x3 = fun i => (fed x0 x1 x2 x3 x4 x5 x6).a (i 0) (i 1) :=
  funext fun i => (congrArg (val_main_v13 (F := Ideal) x0 x1 x2 x3) (eq_ix2 i)).trans
    (a_eq x0 x1 x2 x3 x4 x5 x6 (i 0) (i 1))

theorem b_array : val_main_v34 (F := Ideal) x0 x1 x2 x4 = fun i => (fed x0 x1 x2 x3 x4 x5 x6).b (i 0) (i 1) :=
  funext fun i => (congrArg (val_main_v14 (F := Ideal) x0 x1 x2 x4) (eq_ix2 i)).trans
    (b_eq x0 x1 x2 x3 x4 x5 x6 (i 0) (i 1))

theorem s_array : val_main_v35 (F := Ideal) x0 x1 x2 x3 x4 = fun i => (fed x0 x1 x2 x3 x4 x5 x6).s (i 0) (i 1) :=
  funext fun i => (congrArg (val_main_v16 (F := Ideal) x0 x1 x2 x3 x4) (eq_ix2 i)).trans
    (s_eq x0 x1 x2 x3 x4 x5 x6 (i 0) (i 1))

theorem f_array : val_main_v17 (F := Ideal) x0 x1 x2 x3 x4 x5 = fun i => (fed x0 x1 x2 x3 x4 x5 x6).f (i 0) (i 1) :=
  funext fun i => (congrArg _ (eq_ix2 i)).trans (f_eq x0 x1 x2 x3 x4 x5 x6 (i 0) (i 1))

end Cert.Proof.ForwardRef

/-! ## What the host operations hand to the launch -/

namespace Cert.Proof.Forward

open Cert.ForwardIdeal Cert.ForwardIdeal.Gen Idealize.SL.Sem
open Cert.Proof.FirstArrays (behind)

section
variable (m : (ℓ : Loc nD τ sig) → Buf (Elt Ideal) ℓ) (c : Dev nD)

abbrev x0 : Vec Ideal S128x1024 .f32 := m ((c : Thread nD τ).loc main_arg0)
abbrev x1 : Vec Ideal S8192x1024 .f32 := m ((c : Thread nD τ).loc main_arg1)
abbrev x2 : Vec Ideal S1x1024 .f32 := m ((c : Thread nD τ).loc main_arg2)
abbrev x3 : Vec Ideal S1024x2816 .f32 := m ((c : Thread nD τ).loc main_arg3)
abbrev x4 : Vec Ideal S1024x2816 .f32 := m ((c : Thread nD τ).loc main_arg4)
abbrev x5 : Vec Ideal S2816x1024 .f32 := m ((c : Thread nD τ).loc main_arg5)
abbrev x6 : Vec Ideal S1x1024 .f32 := m ((c : Thread nD τ).loc main_arg6)

/-- The gate's weight, transposed. -/
theorem V_wg (j : Fin 2816) (k : Fin 1024) : (V m c main_v1 : S2816x1024.Idx → EReal) (ix2 j k)
    = (m ((c : Thread nD τ).loc main_arg3) : S1024x2816.Idx → EReal) (ix2 k j) := by
  have h : V m c main_v1 = truncf (F := Ideal) .bf16 (transpose S2816x1024 [1, 0] (m ((c : Thread nD τ).loc main_arg3)) transposes_S1024x2816_S2816x1024_1_0) bitsLt_bf16_f32 := by
    unfold V
    simp only [hostOps0, List.flatten_cons, List.flatten_nil, List.append_nil, List.cons_append, List.nil_append]
    after_results
  rw [h]
  exact ValueIdx.transpose_ix2_apply _ _ j k

/-- The other weight, transposed. -/
theorem V_wu (j : Fin 2816) (k : Fin 1024) : (V m c main_v3 : S2816x1024.Idx → EReal) (ix2 j k)
    = (m ((c : Thread nD τ).loc main_arg4) : S1024x2816.Idx → EReal) (ix2 k j) := by
  have h : V m c main_v3 = truncf (F := Ideal) .bf16 (transpose S2816x1024 [1, 0] (m ((c : Thread nD τ).loc main_arg4)) transposes_S1024x2816_S2816x1024_1_0) bitsLt_bf16_f32 := by
    unfold V
    simp only [hostOps0, List.flatten_cons, List.flatten_nil, List.append_nil, List.cons_append, List.nil_append]
    after_results
  rw [h]
  exact ValueIdx.transpose_ix2_apply _ _ j k

/-- The last weight. -/
theorem V_wd : V m c main_v4 = m ((c : Thread nD τ).loc main_arg5) := by
  unfold V
  simp only [hostOps0, List.flatten_cons, List.flatten_nil, List.append_nil, List.cons_append, List.nil_append]
  after_results
  rfl

theorem behind_eq {f f' : Vec Ideal S128x1024 .f32} {x x' : Vec Ideal S8192x1024 .f32} (hf : f = f') (hx : x = x') :
    behind f x = behind f' x' := by
  subst hf hx
  rfl

/-- What the launch is given is what the reference computes from. -/
theorem fed_eq : ForwardArrays.fed m c = ForwardRef.fed (x0 m c) (x1 m c) (x2 m c) (x3 m c) (x4 m c) (x5 m c) (x6 m c) :=
  ForwardRef.fedOf_eq (x0 m c) (x1 m c) (x2 m c) (x3 m c) (x4 m c) (x5 m c) (x6 m c)
    (behind_eq (V_main_arg0 m c) (V_main_arg1 m c)) (V_main_arg2 m c) (V_main_arg6 m c) (V_wg m c) (V_wu m c) (V_wd m c)

end

/-! ## The claims -/

/-- Equal arguments have equal results. -/
theorem same {A0 A1 A2 A3 A4 A5 A6 β : Type} {x0 y0 : A0} {x1 y1 : A1} {x2 y2 : A2} {x3 y3 : A3} {x4 y4 : A4}
    {x5 y5 : A5} {x6 y6 : A6} (v : A0 → A1 → A2 → A3 → A4 → A5 → A6 → β) (h0 : x0 = y0) (h1 : x1 = y1)
    (h2 : x2 = y2) (h3 : x3 = y3) (h4 : x4 = y4) (h5 : x5 = y5) (h6 : x6 = y6) :
    v x0 x1 x2 x3 x4 x5 x6 = v y0 y1 y2 y3 y4 y5 y6 := by
  subst h0 h1 h2 h3 h4 h5 h6
  rfl

theorem reference_frame : quiescent_ForwardRefIdeal (hForwardRefIdeal := Cert.ForwardRefIdeal.Gen.facts) := fun m ρ _ =>
  (θ_run Cert.ForwardRefIdeal.defs _ _).mono
    (fun r h => ⟨fun c => (h c).2.2.2.2.2, sem_eq_zero_of_no_sems (by decide) r.2⟩)
    (Cert.ForwardRefIdeal.Value.run (F := Ideal) m ρ)

theorem values : algebraic_ForwardIdeal_ForwardRefIdeal (hForwardIdeal := Cert.ForwardIdeal.Gen.facts)
    (hForwardRefIdeal := Cert.ForwardRefIdeal.Gen.facts) := by
  intro m g m' g' _ hagree
  refine ⟨fun c => Cert.ForwardRefIdeal.Read.val_main_v32 (F := Ideal) (x0 m c) (x1 m c) (x2 m c) (x3 m c) (x4 m c) (x5 m c) (x6 m c),
    fun c => Cert.ForwardRefIdeal.Read.val_main_v33 (F := Ideal) (x0 m c) (x1 m c) (x2 m c) (x3 m c),
    fun c => Cert.ForwardRefIdeal.Read.val_main_v34 (F := Ideal) (x0 m c) (x1 m c) (x2 m c) (x4 m c),
    fun c => Cert.ForwardRefIdeal.Read.val_main_v35 (F := Ideal) (x0 m c) (x1 m c) (x2 m c) (x3 m c) (x4 m c),
    fun c => Cert.ForwardRefIdeal.Read.val_main_v17 (F := Ideal) (x0 m c) (x1 m c) (x2 m c) (x3 m c) (x4 m c) (x5 m c), ?_, ?_⟩
  · refine (θ_run Cert.ForwardIdeal.defs _ _).mono (fun r h c => ?_) (Cert.ForwardIdeal.Value.run_blocks (F := Ideal) m g)
    obtain ⟨e0, e1, e2, e3, e4, kept⟩ := h c
    have K0 := ForwardArrays.out_array m c
    have K1 := ForwardArrays.a_array m c
    have K2 := ForwardArrays.b_array m c
    have K3 := ForwardArrays.s_array m c
    have K4 := ForwardArrays.f_array m c
    rw [fed_eq m c] at K0 K1 K2 K3 K4
    exact ⟨e0.trans (K0.trans (ForwardRef.out_array (x0 m c) (x1 m c) (x2 m c) (x3 m c) (x4 m c) (x5 m c) (x6 m c)).symm),
      e1.trans (K1.trans (ForwardRef.a_array (x0 m c) (x1 m c) (x2 m c) (x3 m c) (x4 m c) (x5 m c) (x6 m c)).symm),
      e2.trans (K2.trans (ForwardRef.b_array (x0 m c) (x1 m c) (x2 m c) (x3 m c) (x4 m c) (x5 m c) (x6 m c)).symm),
      e3.trans (K3.trans (ForwardRef.s_array (x0 m c) (x1 m c) (x2 m c) (x3 m c) (x4 m c) (x5 m c) (x6 m c)).symm),
      e4.trans (K4.trans (ForwardRef.f_array (x0 m c) (x1 m c) (x2 m c) (x3 m c) (x4 m c) (x5 m c) (x6 m c)).symm), kept⟩
  · refine (θ_run Cert.ForwardRefIdeal.defs _ _).mono (fun r h c => ?_) (Cert.ForwardRefIdeal.Value.run (F := Ideal) m' g')
    obtain ⟨e0, e1, e2, e3, e4, kept⟩ := h c
    obtain ⟨a0, a1, a2, a3, a4, a5, a6⟩ := hagree c
    exact ⟨e0.trans ((Cert.ForwardRefIdeal.Read.val_main_v32_eq _ _).trans
        (same (Cert.ForwardRefIdeal.Read.val_main_v32 (F := Ideal)) a0 a1 a2 a3 a4 a5 a6)),
      e1.trans ((Cert.ForwardRefIdeal.Read.val_main_v33_eq _ _ _ _).trans
        (same (fun x0 x1 x2 x3 _ _ _ => Cert.ForwardRefIdeal.Read.val_main_v33 (F := Ideal) x0 x1 x2 x3)
          a0 a1 a2 a3 a4 a5 a6)),
      e2.trans ((Cert.ForwardRefIdeal.Read.val_main_v34_eq _ _ _ _).trans
        (same (fun x0 x1 x2 _ x4 _ _ => Cert.ForwardRefIdeal.Read.val_main_v34 (F := Ideal) x0 x1 x2 x4)
          a0 a1 a2 a3 a4 a5 a6)),
      e3.trans ((Cert.ForwardRefIdeal.Read.val_main_v35_eq _ _ _ _ _).trans
        (same (fun x0 x1 x2 x3 x4 _ _ => Cert.ForwardRefIdeal.Read.val_main_v35 (F := Ideal) x0 x1 x2 x3 x4)
          a0 a1 a2 a3 a4 a5 a6)),
      e4.trans ((Cert.ForwardRefIdeal.Read.val_main_v17_eq _ _ _ _ _ _).trans
        (same (fun x0 x1 x2 x3 x4 x5 _ => Cert.ForwardRefIdeal.Read.val_main_v17 (F := Ideal) x0 x1 x2 x3 x4 x5)
          a0 a1 a2 a3 a4 a5 a6)), kept⟩

end Cert.Proof.Forward

end
-- ==== Proof.LossRows.lean ====
/-
  The lines of the second block's forward pass with the mixer's output in front and the loss behind, as row functions,
  and the loss as a sum over all the rows.
-/
module

public import proofs.«01_k».proof.Proof.ForwardArrays

@[expose] public section

noncomputable section

open Idealize.ShloMosaic Idealize.ShloMosaic.TcCoe

namespace Cert.Proof.LossRows

open Cert.Proof.RowSums
open Cert.Proof.ForwardArrays (Fed)

/-- A half. -/
abbrev half : EReal := Ideal.ofBits .f32 0x3F000000#32

/-- One part in 1024. -/
abbrev part1024 : EReal := Ideal.ofBits .f32 0x3A800000#32

/-! ## The lines -/

/-- What the launch is given: the rows, the two halves of the mixer's output, its weight and gain, the block's gains
and weights, and the target. -/
structure Mixed where
  x : Fin 8320 → Fin 1024 → EReal
  cg : Fin 8320 → Fin 512 → EReal
  cs : Fin 8320 → Fin 512 → EReal
  wo : Fin 1024 → Fin 1024 → EReal
  gm : Fin 1024 → EReal
  gpre : Fin 1024 → EReal
  gpost : Fin 1024 → EReal
  wg : Fin 2816 → Fin 1024 → EReal
  wu : Fin 2816 → Fin 1024 → EReal
  wd : Fin 2816 → Fin 1024 → EReal
  tgt : Fin 8192 → Fin 1024 → EReal

namespace Mixed

variable (G : Mixed)

/-- The projected mixer's output. -/
def m (r : Fin 8320) (k : Fin 1024) : EReal :=
  (∑ j : Fin 512, G.cg r j * G.wo ⟨j.val, by omega⟩ k) + ∑ j : Fin 512, G.cs r j * G.wo ⟨512 + j.val, by omega⟩ k

/-- The rows with it added. -/
def h (r : Fin 8320) (k : Fin 1024) : EReal := G.x r k + hat (G.m r) k * G.gm k

/-- What the block is given. -/
def fed : Fed where
  h := G.h
  gpre := G.gpre
  gpost := G.gpost
  wg := G.wg
  wu := G.wu
  wd := G.wd

/-- The block's output less the target, behind the front rows. -/
def err (r : Fin 8320) (k : Fin 1024) : EReal :=
  if h : 128 ≤ r.val then G.fed.out r k - G.tgt ⟨r.val - 128, by omega⟩ k else 0

/-- The loss's gradient at the block's output. -/
def dy (r : Fin 8320) (k : Fin 1024) : EReal := G.err r k * part1024

/-- A block's share of the loss. -/
def lossOf (t : Fin 20) : EReal :=
  half * ∑ p : Fin 416, (∑ k, G.err (at_ t p) k * G.err (at_ t p) k) * part1024

/-- The loss. -/
def loss : EReal := ∑ t, G.lossOf t

end Mixed

/-- The same, read off arrays. -/
def mixedOf (x : (⟨2, ![8320, 1024]⟩ : Shape).Idx → EReal) (cg cs : (⟨2, ![8320, 512]⟩ : Shape).Idx → EReal) (wo : (⟨2, ![1024, 1024]⟩ : Shape).Idx → EReal)
    (gm gpre gpost : (⟨2, ![1, 1024]⟩ : Shape).Idx → EReal) (wg wu wd : (⟨2, ![2816, 1024]⟩ : Shape).Idx → EReal) (tgt : (⟨2, ![8192, 1024]⟩ : Shape).Idx → EReal) : Mixed where
  x r k := x (ix2 r k)
  cg r k := cg (ix2 r k)
  cs r k := cs (ix2 r k)
  wo j k := wo (ix2 j k)
  gm k := gm (ix2 0 k)
  gpre k := gpre (ix2 0 k)
  gpost k := gpost (ix2 0 k)
  wg j k := wg (ix2 j k)
  wu j k := wu (ix2 j k)
  wd j k := wd (ix2 j k)
  tgt r k := tgt (ix2 r k)

/-! ## The loss over all the rows -/

/-- A real factor that isn't negative goes inside a sum. -/
theorem mul_sum_real {c : ℝ} (hc : 0 ≤ c) : ∀ {n : ℕ} (f : Fin n → EReal),
    (c : EReal) * ∑ i, f i = ∑ i, (c : EReal) * f i
  | 0, _ => by simp
  | n + 1, f => by
    rw [Fin.sum_univ_succ, Fin.sum_univ_succ,
      EReal.left_distrib_of_nonneg_of_ne_top (EReal.coe_nonneg.2 hc) (EReal.coe_ne_top c), mul_sum_real hc]

theorem bits_part : Ideal.ofBits .f32 0x3A800000#32 = ((1 / 1024 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- The loss is half the sum of the rows' mean squares behind the front. -/
theorem loss_rows (G : Mixed) : G.loss = half * ∑ r : Fin 8192,
    (∑ k, G.err ⟨128 + r.val, by omega⟩ k * G.err ⟨128 + r.val, by omega⟩ k) * part1024 := by
  have h0 : ∀ r : Fin 128, (∑ k, G.err ⟨r.val, by omega⟩ k * G.err ⟨r.val, by omega⟩ k) * part1024 = 0 := fun r => by
    have e : ∀ k, G.err ⟨r.val, by omega⟩ k = 0 := fun k => dif_neg (by simp)
    simp only [e, mul_zero, Finset.sum_const_zero, zero_mul]
  have hs : (∑ t : Fin 20, ∑ p : Fin 416, (∑ k, G.err (at_ t p) k * G.err (at_ t p) k) * part1024)
      = ∑ r : Fin 8192, (∑ k, G.err ⟨128 + r.val, by omega⟩ k * G.err ⟨128 + r.val, by omega⟩ k) * part1024 := by
    refine (sum_blocks (m := 20) (n := 416) rfl fun r => (∑ k, G.err r k * G.err r k) * part1024).symm.trans ?_
    refine (Fin.sum_univ_add (a := 128) (b := 8192) fun r => (∑ k, G.err r k * G.err r k) * part1024).trans ?_
    refine (congrArg₂ (· + ·) (Finset.sum_eq_zero fun r _ => h0 r) rfl).trans (zero_add _)
  rw [← hs]
  unfold Mixed.loss Mixed.lossOf half
  rw [bits_half]
  exact (mul_sum_real (by norm_num) _).symm

end Cert.Proof.LossRows

end
-- ==== Proof.LossArrays.lean ====
/-
  The second block's forward launch: the mixer's output is projected, normalized and added to the rows, the block's
  forward lines run on the sum, and the loss and its gradient at the block's output are taken. What the launch leaves
  of its blocks and, over the grid, of its arrays.
-/
module

public import proofs.«01_k».proof.Proof.Gen.LossIdeal.Value
public import proofs.«01_k».proof.Proof.LossRows

@[expose] public section

noncomputable section

open Idealize.ShloMosaic Idealize.ShloMosaic.TcCoe

namespace Cert.Proof.LossArrays

open Cert.LossIdeal Cert.LossIdeal.Gen Cert.Proof.RowSums
open Cert.Proof.LossRows

/-! ## What the body computes from its blocks -/

section
variable (x : Vec Ideal S416x1024 .f32) (cg cs : Vec Ideal S416x512 .bf16) (w w' : Vec Ideal S512x1024 .bf16)
  (gm g : Vec Ideal S1x1024 .f32) (h f tg : Vec Ideal S416x1024 .f32) (d : Vec Ideal S416x1 .f32)
  (wg wu wd : Vec Ideal S2816x1024 .bf16)

theorem m_apply (p : Fin 416) (k : Fin 1024) : k0_pay3 (F := Ideal) cg w cs w' (ix2 p k)
    = (∑ j : Fin 512, cg (ix2 p j) * w (ix2 j k)) + ∑ j : Fin 512, cs (ix2 p j) * w' (ix2 j k) := by
  unfold k0_pay3
  pointwise

theorem h_apply (p : Fin 416) (k : Fin 1024) : k0_pay4 (F := Ideal) x cg w cs w' gm (ix2 p k)
    = x (ix2 p k) + hat (fun k => k0_pay3 (F := Ideal) cg w cs w' (ix2 p k)) k * gm (ix2 0 k) := by
  unfold k0_pay4
  pointwise
  rfl

theorem n_apply (p : Fin 416) (k : Fin 1024) :
    k0_pay6 (F := Ideal) (k0_pay4 x cg w cs w' gm) (k0_pay5 x cg w cs w' gm) g (ix2 p k)
      = hat (fun k => k0_pay4 (F := Ideal) x cg w cs w' gm (ix2 p k)) k * g (ix2 0 k) := by
  unfold k0_pay6 k0_pay5
  pointwise
  rfl

theorem a_apply (p : Fin 416) (j : Fin 2816) : k0_pay7 (F := Ideal) h d g wg (ix2 p j)
    = ∑ k : Fin 1024, k0_pay6 (F := Ideal) h d g (ix2 p k) * wg (ix2 j k) := by
  unfold k0_pay7
  pointwise

theorem b_apply (p : Fin 416) (j : Fin 2816) : k0_pay8 (F := Ideal) h d g wu (ix2 p j)
    = ∑ k : Fin 1024, k0_pay6 (F := Ideal) h d g (ix2 p k) * wu (ix2 j k) := by
  unfold k0_pay8
  pointwise

theorem s_apply (p : Fin 416) (j : Fin 2816) : k0_pay11 (F := Ideal) h d g wg wu (ix2 p j)
    = k0_pay7 (F := Ideal) h d g wg (ix2 p j) * logistic (k0_pay7 (F := Ideal) h d g wg (ix2 p j))
      * k0_pay8 (F := Ideal) h d g wu (ix2 p j) := by
  unfold k0_pay11
  pointwise
  rw [zero_sub]
  rfl

theorem f_apply (p : Fin 416) (k : Fin 1024) : k0_pay12 (F := Ideal) h d g wg wu wd (ix2 p k)
    = ∑ j : Fin 2816, k0_pay11 (F := Ideal) h d g wg wu (ix2 p j) * wd (ix2 j k) := by
  unfold k0_pay12
  pointwise

theorem dy_apply (a : BitVec 32) (p : Fin 416) (k : Fin 1024) : k0_pay14 (F := Ideal) a h f g tg (ix2 p k)
    = k0_pay13 (F := Ideal) a h f g tg (ix2 p k) * part1024 := by
  unfold k0_pay14
  pointwise

theorem loss_apply (X : Vec Ideal S8x128 .f32) (i : Fin 8) (j : Fin 128) : k0_pay2 (F := Ideal) h X (ix2 i j)
    = X (ix2 i j) + half * ∑ p : Fin 416, (∑ k : Fin 1024, h (ix2 p k) * h (ix2 p k)) * part1024 := by
  unfold k0_pay2
  pointwise

theorem zero_apply (i : Fin 8) (j : Fin 128) : k0_pay1 (F := Ideal) (ix2 i j) = 0 := by
  unfold k0_pay1
  pointwise

/-- Which rows of a block lie behind the front. -/
theorem behind_front : ∀ (t : Fin 20) (p : Fin 416),
    IntOp.cmpi .sge (IntOp.addi (Scalar.muli (BitVec.ofNat 32 t.val) 416#32) (BitVec.ofNat 32 p.val)) 128#32
      = if 128 ≤ 416 * t.val + p.val then 1#1 else 0#1 := by
  decide +kernel

/-- Which block is the first. -/
theorem first : ∀ t : Fin 20, Scalar.cmpi .eq (BitVec.ofNat 32 t.val) 0#32 = if t.val = 0 then 1#1 else 0#1 := by
  decide +kernel

theorem err_apply (t : Fin 20) (p : Fin 416) (k : Fin 1024) :
    k0_pay13 (F := Ideal) (BitVec.ofNat 32 t.val) h f g tg (ix2 p k)
      = if 128 ≤ 416 * t.val + p.val then
          (h (ix2 p k) + half * (hat (fun k => f (ix2 p k)) k * g (ix2 0 k)))
            - (if t.val = 0 then (if hp : p.val < 128 then 0 else tg (ix2 ⟨p.val - 128, by omega⟩ k)) else tg (ix2 p k))
        else 0 := by
  unfold k0_pay13
  pointwise
  rw [behind_front, first]
  by_cases h1 : 128 ≤ 416 * t.val + p.val
  · rw [if_pos h1, if_pos h1]
    by_cases h2 : t.val = 0
    · rw [if_pos h2, if_pos h2]
      rfl
    · rw [if_neg h2, if_neg h2]
      rfl
  · rw [if_neg h1, if_neg h1]
    rfl

end

/-! ## The blocks -/

variable (m : (ℓ : Loc nD τ sig) → Buf (Elt Ideal) ℓ) (c : Dev nD)

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0]
    ∧ win0_7.index t = ![t.val, 0] ∧ win0_8.index t = ![0, 0] ∧ win0_9.index t = ![0, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![0, 0] :=
  (by decide +kernel : ∀ t : Fin grid0.N, _)

/-- The target's block starts 128 rows early, and never before the array. -/
theorem idx10 : ∀ t : Fin cfg0.N, win0_10.index t = ![416 * t.val - 128, 0] :=
  (by decide +kernel : ∀ t : Fin grid0.N, _)

theorem blk0 (t : Fin cfg0.N) (p : Fin 416) (k : Fin 1024) :
    (iblk m c 0 t : Vec Ideal S416x1024 .f32) (ix2 p k) = V m c main_arg0 (ix2 (at_ t p) k) := by
  blk_ext [iblk, at_, idx t]

theorem blk1 (t : Fin cfg0.N) (p : Fin 1) (k : Fin 1024) :
    (iblk m c 1 t : Vec Ideal S1x1024 .f32) (ix2 p k) = V m c main_arg5 (ix2 p k) := by
  blk_ext [iblk, idx t]

theorem blk2 (t : Fin cfg0.N) (p : Fin 2816) (k : Fin 1024) :
    (iblk m c 2 t : Vec Ideal S2816x1024 .bf16) (ix2 p k) = V m c main_v1 (ix2 p k) := by
  blk_ext [iblk, idx t]

theorem blk3 (t : Fin cfg0.N) (p : Fin 2816) (k : Fin 1024) :
    (iblk m c 3 t : Vec Ideal S2816x1024 .bf16) (ix2 p k) = V m c main_v3 (ix2 p k) := by
  blk_ext [iblk, idx t]

theorem blk4 (t : Fin cfg0.N) (p : Fin 2816) (k : Fin 1024) :
    (iblk m c 4 t : Vec Ideal S2816x1024 .bf16) (ix2 p k) = V m c main_v4 (ix2 p k) := by
  blk_ext [iblk, idx t]

theorem blk5 (t : Fin cfg0.N) (p : Fin 1) (k : Fin 1024) :
    (iblk m c 5 t : Vec Ideal S1x1024 .f32) (ix2 p k) = V m c main_arg9 (ix2 p k) := by
  blk_ext [iblk, idx t]

theorem blk6 (t : Fin cfg0.N) (p : Fin 416) (k : Fin 512) :
    (iblk m c 6 t : Vec Ideal S416x512 .bf16) (ix2 p k) = V m c main_arg1 (ix2 (at_ t p) k) := by
  blk_ext [iblk, at_, idx t]

theorem blk7 (t : Fin cfg0.N) (p : Fin 416) (k : Fin 512) :
    (iblk m c 7 t : Vec Ideal S416x512 .bf16) (ix2 p k) = V m c main_arg2 (ix2 (at_ t p) k) := by
  blk_ext [iblk, at_, idx t]

theorem blk8 (t : Fin cfg0.N) (p : Fin 1024) (k : Fin 1024) :
    (iblk m c 8 t : Vec Ideal S1024x1024 .bf16) (ix2 p k) = V m c main_v5 (ix2 p k) := by
  blk_ext [iblk, idx t]

theorem blk9 (t : Fin cfg0.N) (p : Fin 1) (k : Fin 1024) :
    (iblk m c 9 t : Vec Ideal S1x1024 .f32) (ix2 p k) = V m c main_arg4 (ix2 p k) := by
  blk_ext [iblk, idx t]

theorem blk10 (t : Fin cfg0.N) (p : Fin 416) (k : Fin 1024) :
    (iblk m c 10 t : Vec Ideal S416x1024 .f32) (ix2 p k)
      = V m c main_arg10 (ix2 ⟨416 * t.val - 128 + p.val, by have : t.val < 20 := t.isLt; omega⟩ k) := by
  have h0 : (((View.whole main_arg10).slice (win0_10.rect t)).emb (ix2 p k) 0 : Nat) = win0_10.index t 0 + p.val :=
    ValueKit.view_emb_slice_whole_unit_val main_arg10 _ _ _ _ 0
  have h1 : (((View.whole main_arg10).slice (win0_10.rect t)).emb (ix2 p k) 1 : Nat) = win0_10.index t 1 + k.val :=
    ValueKit.view_emb_slice_whole_unit_val main_arg10 _ _ _ _ 1
  rw [idx10 t] at h0 h1
  blk_ext [iblk]
  · exact h0
  · exact h1.trans (Nat.zero_add _)

/-- A block's place in the grid, as the body reads it. -/
theorem coord : ∀ t : Fin cfg0.N, (grid0.coords t 0).val = t.val :=
  (by decide +kernel : ∀ t : Fin grid0.N, _)

/-- The upper rows of the mixer's weight. -/
theorem ld_top (X : Vec Ideal S1024x1024 .bf16)
    (inb : ∀ a : Fin 2, (![0, 0] : Fin 2 → ℕ) a + (![512, 1024] : Fin 2 → ℕ) a ≤ (![1024, 1024] : Fin 2 → ℕ) a)
    (j : Fin 512) (k : Fin 1024) :
    View.ld X (Rect.unit (s := S1024x1024) ![0, 0] ![512, 1024] inb) (ix2 j k) = X (ix2 ⟨j.val, by omega⟩ k) := by
  show X _ = X _
  congr 1
  funext a
  apply Fin.ext
  match a with
  | ⟨0, _⟩ => show 0 + 1 * j.val = j.val; omega
  | ⟨1, _⟩ => show 0 + 1 * k.val = k.val; omega

/-- The lower rows. -/
theorem ld_low (X : Vec Ideal S1024x1024 .bf16)
    (inb : ∀ a : Fin 2, (![512, 0] : Fin 2 → ℕ) a + (![512, 1024] : Fin 2 → ℕ) a ≤ (![1024, 1024] : Fin 2 → ℕ) a)
    (j : Fin 512) (k : Fin 1024) :
    View.ld X (Rect.unit (s := S1024x1024) ![512, 0] ![512, 1024] inb) (ix2 j k) = X (ix2 ⟨512 + j.val, by omega⟩ k) := by
  show X _ = X _
  congr 1
  funext a
  apply Fin.ext
  match a with
  | ⟨0, _⟩ => show 512 + 1 * j.val = 512 + j.val; omega
  | ⟨1, _⟩ => show 0 + 1 * k.val = k.val; omega

/-- What the launch is given. -/
def given : Mixed :=
  mixedOf (V m c main_arg0) (V m c main_arg1) (V m c main_arg2) (V m c main_v5) (V m c main_arg4) (V m c main_arg5)
    (V m c main_arg9) (V m c main_v1) (V m c main_v3) (V m c main_v4) (V m c main_arg10)

/-! ## What the body leaves of its blocks -/

/-- The upper half of the mixer's weight. -/
abbrev topBlk (t : Fin cfg0.N) : Vec Ideal S512x1024 .bf16 :=
  View.ld (iblk m c 8 t : Vec Ideal S1024x1024 .bf16)
    (Rect.unit (s := S1024x1024) ![0, 0] ![512, 1024] inb_S1024x1024_S512x1024_0_0)

/-- The lower half. -/
abbrev lowBlk (t : Fin cfg0.N) : Vec Ideal S512x1024 .bf16 :=
  View.ld (iblk m c 8 t : Vec Ideal S1024x1024 .bf16)
    (Rect.unit (s := S1024x1024) ![512, 0] ![512, 1024] inb_S1024x1024_S512x1024_512_0)

abbrev mBlk (t : Fin cfg0.N) : Vec Ideal S416x1024 .f32 :=
  k0_pay3 (F := Ideal) (iblk m c 6 t) (topBlk m c t) (iblk m c 7 t) (lowBlk m c t)

abbrev hBlk (t : Fin cfg0.N) : Vec Ideal S416x1024 .f32 :=
  k0_pay4 (F := Ideal) (iblk m c 0 t) (iblk m c 6 t) (topBlk m c t) (iblk m c 7 t) (lowBlk m c t) (iblk m c 9 t)

abbrev sqBlk (t : Fin cfg0.N) : Vec Ideal S416x1 .f32 :=
  k0_pay5 (F := Ideal) (iblk m c 0 t) (iblk m c 6 t) (topBlk m c t) (iblk m c 7 t) (lowBlk m c t) (iblk m c 9 t)

abbrev fBlk (t : Fin cfg0.N) : Vec Ideal S416x1024 .f32 :=
  k0_pay12 (F := Ideal) (hBlk m c t) (sqBlk m c t) (iblk m c 1 t) (iblk m c 2 t) (iblk m c 3 t) (iblk m c 4 t)

abbrev errBlk (t : Fin cfg0.N) : Vec Ideal S416x1024 .f32 :=
  k0_pay13 (F := Ideal) (BitVec.ofNat 32 (grid0.coords t 0).val) (hBlk m c t) (fBlk m c t) (iblk m c 5 t) (iblk m c 10 t)

theorem top_blk (t : Fin cfg0.N) (j : Fin 512) (k : Fin 1024) :
    topBlk m c t (ix2 j k) = V m c main_v5 (ix2 ⟨j.val, by omega⟩ k) :=
  (ld_top _ _ j k).trans (blk8 m c t _ k)

theorem low_blk (t : Fin cfg0.N) (j : Fin 512) (k : Fin 1024) :
    lowBlk m c t (ix2 j k) = V m c main_v5 (ix2 ⟨512 + j.val, by omega⟩ k) :=
  (ld_low _ _ j k).trans (blk8 m c t _ k)

theorem m_blk (t : Fin cfg0.N) (p : Fin 416) (k : Fin 1024) : mBlk m c t (ix2 p k) = (given m c).m (at_ t p) k := by
  rw [mBlk, m_apply]
  simp only [top_blk, low_blk, blk6, blk7]
  rfl

theorem h_blk (t : Fin cfg0.N) (p : Fin 416) (k : Fin 1024) : hBlk m c t (ix2 p k) = (given m c).h (at_ t p) k := by
  rw [hBlk, h_apply]
  simp only [m_blk, blk0, blk9]
  rfl

theorem n_blk (t : Fin cfg0.N) (p : Fin 416) (k : Fin 1024) :
    k0_pay6 (F := Ideal) (hBlk m c t) (sqBlk m c t) (iblk m c 1 t) (ix2 p k) = (given m c).fed.n (at_ t p) k := by
  rw [hBlk, sqBlk, n_apply]
  simp only [h_blk, blk1]
  rfl

theorem a_blk (t : Fin cfg0.N) (p : Fin 416) (j : Fin 2816) :
    k0_pay7 (F := Ideal) (hBlk m c t) (sqBlk m c t) (iblk m c 1 t) (iblk m c 2 t) (ix2 p j)
      = (given m c).fed.a (at_ t p) j := by
  rw [a_apply]
  simp only [n_blk, blk2]
  rfl

theorem b_blk (t : Fin cfg0.N) (p : Fin 416) (j : Fin 2816) :
    k0_pay8 (F := Ideal) (hBlk m c t) (sqBlk m c t) (iblk m c 1 t) (iblk m c 3 t) (ix2 p j)
      = (given m c).fed.b (at_ t p) j := by
  rw [b_apply]
  simp only [n_blk, blk3]
  rfl

theorem s_blk (t : Fin cfg0.N) (p : Fin 416) (j : Fin 2816) :
    k0_pay11 (F := Ideal) (hBlk m c t) (sqBlk m c t) (iblk m c 1 t) (iblk m c 2 t) (iblk m c 3 t) (ix2 p j)
      = (given m c).fed.s (at_ t p) j := by
  rw [s_apply, a_blk, b_blk]
  rfl

theorem f_blk (t : Fin cfg0.N) (p : Fin 416) (k : Fin 1024) : fBlk m c t (ix2 p k) = (given m c).fed.f (at_ t p) k := by
  rw [fBlk, f_apply]
  simp only [s_blk, blk4]
  rfl

theorem err_blk (t : Fin cfg0.N) (p : Fin 416) (k : Fin 1024) : errBlk m c t (ix2 p k) = (given m c).err (at_ t p) k := by
  have ht : t.val < 20 := t.isLt
  have e : (at_ t p).val = 416 * t.val + p.val := rfl
  rw [errBlk, coord]
  refine (err_apply _ _ _ _ t p k).trans ?_
  simp only [h_blk, f_blk, blk5, blk10]
  unfold Mixed.err
  by_cases h1 : 128 ≤ 416 * t.val + p.val
  · rw [if_pos h1, dif_pos (e.symm ▸ h1 : 128 ≤ (at_ t p).val)]
    refine congrArg (fun q => (given m c).fed.out (at_ t p) k - q) ?_
    by_cases h2 : t.val = 0
    · rw [if_pos h2, dif_neg (by omega : ¬p.val < 128)]
      exact congrArg (fun r => V m c main_arg10 (ix2 r k)) (Fin.ext (by
        show 416 * t.val - 128 + (p.val - 128) = (at_ t p).val - 128
        omega))
    · rw [if_neg h2]
      exact congrArg (fun r => V m c main_arg10 (ix2 r k)) (Fin.ext (by
        show 416 * t.val - 128 + p.val = (at_ t p).val - 128
        omega))
  · rw [if_neg h1, dif_neg (e.symm ▸ h1 : ¬128 ≤ (at_ t p).val)]

theorem dy_blk (t : Fin cfg0.N) (p : Fin 416) (k : Fin 1024) :
    k0_pay14 (F := Ideal) (BitVec.ofNat 32 (grid0.coords t 0).val) (hBlk m c t) (fBlk m c t) (iblk m c 5 t)
      (iblk m c 10 t) (ix2 p k) = (given m c).dy (at_ t p) k := by
  rw [dy_apply]
  exact congrArg (· * part1024) (err_blk m c t p k)

theorem loss_step (t : Fin cfg0.N) (X : Vec Ideal S8x128 .f32) (i : Fin 8) (j : Fin 128) :
    k0_pay2 (F := Ideal) (errBlk m c t) X (ix2 i j) = X (ix2 i j) + (given m c).lossOf t := by
  rw [loss_apply]
  simp only [err_blk]
  rfl

/-! ## The arrays -/

theorem h_array : (dats m 0 c).arrAt 11 cfg0.N = fun i : S8320x1024.Idx => (given m c).h (i 0) (i 1) := by
  refine (dats m 0 c).arrAt_eq_of_covers 11 _ (by decide +kernel) fun t hf y => ?_
  blk_simp
  have he : ((View.whole main_v6_0).slice (win0_11.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_11, he]
  by_cases h : t.val % 20 = 0
  · rw [outsAt0_A m c t h]
    frame_out
    exact h_blk m c t p k
  · rw [outsAt0_B m c t h]
    frame_out
    exact h_blk m c t p k

theorem m_array : (dats m 0 c).arrAt 12 cfg0.N = fun i : S8320x1024.Idx => (given m c).m (i 0) (i 1) := by
  refine (dats m 0 c).arrAt_eq_of_covers 12 _ (by decide +kernel) fun t hf y => ?_
  blk_simp
  have he : ((View.whole main_v6_1).slice (win0_12.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_12, he]
  by_cases h : t.val % 20 = 0
  · rw [outsAt0_A m c t h]
    frame_out
    exact m_blk m c t p k
  · rw [outsAt0_B m c t h]
    frame_out
    exact m_blk m c t p k

theorem a_array : (dats m 0 c).arrAt 13 cfg0.N = fun i : S8320x2816.Idx => (given m c).fed.a (i 0) (i 1) := by
  refine (dats m 0 c).arrAt_eq_of_covers 13 _ (by decide +kernel) fun t hf y => ?_
  blk_simp
  have he : ((View.whole main_v6_2).slice (win0_13.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_13, he]
  by_cases h : t.val % 20 = 0
  · rw [outsAt0_A m c t h]
    frame_out
    exact a_blk m c t p k
  · rw [outsAt0_B m c t h]
    frame_out
    exact a_blk m c t p k

theorem b_array : (dats m 0 c).arrAt 14 cfg0.N = fun i : S8320x2816.Idx => (given m c).fed.b (i 0) (i 1) := by
  refine (dats m 0 c).arrAt_eq_of_covers 14 _ (by decide +kernel) fun t hf y => ?_
  blk_simp
  have he : ((View.whole main_v6_3).slice (win0_14.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_14, he]
  by_cases h : t.val % 20 = 0
  · rw [outsAt0_A m c t h]
    frame_out
    exact b_blk m c t p k
  · rw [outsAt0_B m c t h]
    frame_out
    exact b_blk m c t p k

theorem s_array : (dats m 0 c).arrAt 15 cfg0.N = fun i : S8320x2816.Idx => (given m c).fed.s (i 0) (i 1) := by
  refine (dats m 0 c).arrAt_eq_of_covers 15 _ (by decide +kernel) fun t hf y => ?_
  blk_simp
  have he : ((View.whole main_v6_4).slice (win0_15.rect t)).emb y = ix2 (at_ t (y 0)) (y 1) := by
    blk_ext [at_, idx t]
  obtain ⟨p, k, rfl⟩ : ∃ (p : Fin 416) (k : Fin 2816), y = ix2 p k := ⟨y 0, y 1, eq_ix2 y⟩
  rw [after0_15, he]
  by_cases h : t.val % 20 = 0
  · rw [outsAt0_A m c t h]
    frame_out
    exact s_blk m c t p k
  · rw [outsAt0_B m c t h]
    frame_out
    exact s_blk m c t p k

theorem f_array : (dats m 0 c).arrAt 16 cfg0.N = fun i : S8320x1024.Idx => (given m c).fed.f (i 0) (i 1) := by
  refine (dats m 0 c).arrAt_eq_of_covers 16 _ (by decide +kernel) fun t hf y => ?_
  blk_simp
  have he : ((View.whole main_v6_5).slice (win0_16.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_16, he]
  by_cases h : t.val % 20 = 0
  · rw [outsAt0_A m c t h]
    frame_out
    exact f_blk m c t p k
  · rw [outsAt0_B m c t h]
    frame_out
    exact f_blk m c t p k

theorem dy_array : (dats m 0 c).arrAt 17 cfg0.N = fun i : S8320x1024.Idx => (given m c).dy (i 0) (i 1) := by
  refine (dats m 0 c).arrAt_eq_of_covers 17 _ (by decide +kernel) fun t hf y => ?_
  blk_simp
  have he : ((View.whole main_v6_6).slice (win0_17.rect t)).emb y = ix2 (at_ t (y 0)) (y 1) := by
    blk_ext [at_, idx t]
  obtain ⟨p, k, rfl⟩ : ∃ (p : Fin 416) (k : Fin 1024), y = ix2 p k := ⟨y 0, y 1, eq_ix2 y⟩
  rw [after0_17, he]
  by_cases h : t.val % 20 = 0
  · rw [outsAt0_A m c t h]
    frame_out
    exact dy_blk m c t p k
  · rw [outsAt0_B m c t h]
    frame_out
    exact dy_blk m c t p k

theorem loss_sum (t : Fin cfg0.N) (ht : t.val + 1 = cfg0.N) (i : Fin 8) (j : Fin 128) :
    (outsAt0 m c t.val t.isLt).2.2.2.2.2.2.2 (ix2 i j) = (given m c).loss := by
  rw [Pipeline.eq_sum_fin_of_reset_step_last (fun n h => (outsAt0 m c n h).2.2.2.2.2.2.2 (ix2 i j)) 20 (0 : EReal)
    (fun t => (given m c).lossOf t) ?_ ?_ (by decide) t ht, zero_add]
  · rfl
  · intro t h
    rw [outsAt0_A m c t h]
    frame_out
    exact (loss_step m c t _ i j).trans (congrArg (· + (given m c).lossOf t) (zero_apply i j))
  · intro t h
    rw [outsAt0_B m c t h]
    frame_out
    exact loss_step m c t _ i j

theorem loss_array : (dats m 0 c).arrAt 18 cfg0.N = fun _ : S8x128.Idx => (given m c).loss := by
  refine (dats m 0 c).arrAt_eq_of_covers 18 _ (by decide +kernel) fun t hf y => ?_
  blk_simp
  have he : ((View.whole main_v6_7).slice (win0_18.rect t)).emb y = y := by
    blk_ext [idx t]
  obtain ⟨p, k, rfl⟩ : ∃ (p : Fin 8) (k : Fin 128), y = ix2 p k := ⟨y 0, y 1, eq_ix2 y⟩
  rw [after0_18]
  have hm := (flush0_18 t).mp hf
  exact loss_sum m c t (by have : t.val < 20 := t.isLt; show t.val + 1 = 20; omega) p k

end Cert.Proof.LossArrays

end
-- ==== Proof.LossRef.lean ====
/-
  The reference's stages of the second block's forward pass, read as the lines' row functions.
-/
module

public import proofs.«01_k».proof.Proof.Gen.LossRefIdeal.Read
public import proofs.«01_k».proof.Proof.LossRows

@[expose] public section

noncomputable section

open Idealize.ShloMosaic Idealize.ShloMosaic.TcCoe

namespace Cert.Proof.LossRef

open Cert.LossRefIdeal Cert.LossRefIdeal.Read
open Cert.Proof.LossRows

variable (x0 : Vec Ideal S8320x1024 .f32) (x1 x2 : Vec Ideal S8320x512 .bf16) (x3 : Vec Ideal S1024x1024 .f32)
  (x4 x5 : Vec Ideal S1x1024 .f32) (x6 x7 : Vec Ideal S1024x2816 .f32) (x8 : Vec Ideal S2816x1024 .f32)
  (x9 : Vec Ideal S1x1024 .f32) (x10 : Vec Ideal S8192x1024 .f32)

/-- What the reference computes from. -/
def mixed : Mixed where
  x r k := x0 (ix2 r k)
  cg r k := x1 (ix2 r k)
  cs r k := x2 (ix2 r k)
  wo j k := x3 (ix2 j k)
  gm k := x4 (ix2 0 k)
  gpre k := x5 (ix2 0 k)
  gpost k := x9 (ix2 0 k)
  wg j k := x6 (ix2 k j)
  wu j k := x7 (ix2 k j)
  wd j k := x8 (ix2 j k)
  tgt r k := x10 (ix2 r k)

theorem mixedOf_eq {x : Vec Ideal S8320x1024 .f32} {cg cs : Vec Ideal S8320x512 .bf16} {wo : Vec Ideal S1024x1024 .f32}
    {gm gpre gpost : Vec Ideal S1x1024 .f32} {wg wu wd : Vec Ideal S2816x1024 .f32} {tgt : Vec Ideal S8192x1024 .f32}
    (hx : x = x0) (hcg : cg = x1) (hcs : cs = x2) (hwo : wo = x3) (hgm : gm = x4) (hpre : gpre = x5) (hpost : gpost = x9)
    (hwg : ∀ j k, wg (ix2 j k) = x6 (ix2 k j)) (hwu : ∀ j k, wu (ix2 j k) = x7 (ix2 k j)) (hwd : wd = x8)
    (htgt : tgt = x10) : mixedOf x cg cs wo gm gpre gpost wg wu wd tgt = mixed x0 x1 x2 x3 x4 x5 x6 x7 x8 x9 x10 := by
  subst hx hcg hcs hwo hgm hpre hpost hwd htgt
  simp only [mixedOf, hwg, hwu]
  rfl

/-! ## The rows the block is given -/

theorem m_eq (r : Fin 8320) (k : Fin 1024) : val_main_v2 (F := Ideal) x1 x2 x3 (ix2 r k) = (mixed x0 x1 x2 x3 x4 x5 x6 x7 x8 x9 x10).m r k := by
  unfold val_main_v2 val_main_v1 val_main_v0
  pointwise
  rfl

theorem inv_m (r : Fin 8320) (q : Fin 1) :
    val_main_v10 (F := Ideal) x1 x2 x3 (ix2 r q) = inv fun k => val_main_v2 (F := Ideal) x1 x2 x3 (ix2 r k) := by
  unfold val_main_v10 val_main_v9 val_main_v8 val_main_v7 val_main_v6 val_main_v5 val_main_v4 val_main_v3 val_main_cst val_main_cst_0 val_main_cst_1
  pointwise
  rfl

theorem h_eq (r : Fin 8320) (k : Fin 1024) : val_main_v15 (F := Ideal) x0 x1 x2 x3 x4 (ix2 r k) = (mixed x0 x1 x2 x3 x4 x5 x6 x7 x8 x9 x10).h r k := by
  unfold val_main_v15 val_main_v14 val_main_v13 val_main_v12 val_main_v11
  pointwise
  rw [inv_m]
  simp only [m_eq x0 x1 x2 x3 x4 x5 x6 x7 x8 x9 x10]
  rfl

/-! ## The block's lines -/

theorem inv_h (r : Fin 8320) (q : Fin 1) :
    val_main_v23 (F := Ideal) x0 x1 x2 x3 x4 (ix2 r q) = inv fun k => val_main_v15 (F := Ideal) x0 x1 x2 x3 x4 (ix2 r k) := by
  unfold val_main_v23 val_main_v22 val_main_v21 val_main_v20 val_main_v19 val_main_v18 val_main_v17 val_main_v16 val_main_cst_2 val_main_cst_3 val_main_cst_4
  pointwise
  rfl

theorem n_eq (r : Fin 8320) (k : Fin 1024) : val_main_v27 (F := Ideal) x0 x1 x2 x3 x4 x5 (ix2 r k) = (mixed x0 x1 x2 x3 x4 x5 x6 x7 x8 x9 x10).fed.n r k := by
  unfold val_main_v27 val_main_v26 val_main_v25 val_main_v24
  pointwise
  rw [inv_h]
  simp only [h_eq x0 x1 x2 x3 x4 x5 x6 x7 x8 x9 x10]
  rfl

theorem a_eq (r : Fin 8320) (j : Fin 2816) : val_main_v28 (F := Ideal) x0 x1 x2 x3 x4 x5 x6 (ix2 r j) = (mixed x0 x1 x2 x3 x4 x5 x6 x7 x8 x9 x10).fed.a r j := by
  unfold val_main_v28
  pointwise
  exact Finset.sum_congr rfl fun k _ => congrArg (· * x6 (ix2 k j)) (n_eq x0 x1 x2 x3 x4 x5 x6 x7 x8 x9 x10 r k)

theorem b_eq (r : Fin 8320) (j : Fin 2816) : val_main_v29 (F := Ideal) x0 x1 x2 x3 x4 x5 x7 (ix2 r j) = (mixed x0 x1 x2 x3 x4 x5 x6 x7 x8 x9 x10).fed.b r j := by
  unfold val_main_v29
  pointwise
  exact Finset.sum_congr rfl fun k _ => congrArg (· * x7 (ix2 k j)) (n_eq x0 x1 x2 x3 x4 x5 x6 x7 x8 x9 x10 r k)

theorem s_eq (r : Fin 8320) (j : Fin 2816) : val_main_v31 (F := Ideal) x0 x1 x2 x3 x4 x5 x6 x7 (ix2 r j) = (mixed x0 x1 x2 x3 x4 x5 x6 x7 x8 x9 x10).fed.s r j := by
  unfold val_main_v31 val_main_v30 val_main_call0_v5 val_main_call0_v4 val_main_call0_v3 val_main_call0_v2
    val_main_call0_v1 val_main_call0_v0 val_main_call0_cst val_main_call0_cst_0
  pointwise
  rw [a_eq x0 x1 x2 x3 x4 x5 x6 x7 x8 x9 x10, b_eq x0 x1 x2 x3 x4 x5 x6 x7 x8 x9 x10]
  rfl

theorem f_eq (r : Fin 8320) (k : Fin 1024) : val_main_v32 (F := Ideal) x0 x1 x2 x3 x4 x5 x6 x7 x8 (ix2 r k) = (mixed x0 x1 x2 x3 x4 x5 x6 x7 x8 x9 x10).fed.f r k := by
  unfold val_main_v32
  pointwise
  exact Finset.sum_congr rfl fun j _ => congrArg (· * x8 (ix2 j k)) (s_eq x0 x1 x2 x3 x4 x5 x6 x7 x8 x9 x10 r j)

theorem inv_f (r : Fin 8320) (q : Fin 1) :
    val_main_v40 (F := Ideal) x0 x1 x2 x3 x4 x5 x6 x7 x8 (ix2 r q) = inv fun k => val_main_v32 (F := Ideal) x0 x1 x2 x3 x4 x5 x6 x7 x8 (ix2 r k) := by
  unfold val_main_v40 val_main_v39 val_main_v38 val_main_v37 val_main_v36 val_main_v35 val_main_v34 val_main_v33 val_main_cst_5 val_main_cst_6 val_main_cst_7
  pointwise
  rfl

theorem out_eq (r : Fin 8320) (k : Fin 1024) : val_main_v47 (F := Ideal) x0 x1 x2 x3 x4 x5 x6 x7 x8 x9 (ix2 r k) = (mixed x0 x1 x2 x3 x4 x5 x6 x7 x8 x9 x10).fed.out r k := by
  unfold val_main_v47 val_main_v46 val_main_v45 val_main_v44 val_main_v43 val_main_v42 val_main_v41 val_main_cst_8
  pointwise
  rw [inv_f]
  simp only [f_eq x0 x1 x2 x3 x4 x5 x6 x7 x8 x9 x10, h_eq x0 x1 x2 x3 x4 x5 x6 x7 x8 x9 x10]
  rfl

/-! ## The loss -/

theorem err_eq (r : Fin 8192) (k : Fin 1024) :
    val_main_v49 (F := Ideal) x0 x1 x2 x3 x4 x5 x6 x7 x8 x9 x10 (ix2 r k) = (mixed x0 x1 x2 x3 x4 x5 x6 x7 x8 x9 x10).err ⟨128 + r.val, by omega⟩ k := by
  unfold val_main_v49 val_main_v48
  pointwise
  rw [out_eq x0 x1 x2 x3 x4 x5 x6 x7 x8 x9 x10]
  exact ((dif_pos (Nat.le_add_right 128 r.val)).trans (congrArg (fun q => (mixed x0 x1 x2 x3 x4 x5 x6 x7 x8 x9 x10).fed.out ⟨128 + r.val, by omega⟩ k - x10 (ix2 q k))
    (Fin.ext (Nat.add_sub_cancel_left (n := 128) (m := r.val))))).symm

/-- The gradient's factors make one part in 1024. -/
theorem factors (e : EReal) : Ideal.div half (Ideal.ofBits .f32 0x44800000#32) * (Ideal.ofBits .f32 0x40000000#32 * e)
    = e * part1024 := by
  rw [half, part1024, bits_half, bits_width, bits_two, bits_part, Ideal.div_coe (by norm_num), ← mul_assoc, ← EReal.coe_mul,
    ← EReal.coe_mul, mul_comm]
  norm_num

theorem dy_eq (r : Fin 8320) (k : Fin 1024) : val_main_v64 (F := Ideal) x0 x1 x2 x3 x4 x5 x6 x7 x8 x9 x10 (ix2 r k) = (mixed x0 x1 x2 x3 x4 x5 x6 x7 x8 x9 x10).dy r k := by
  unfold val_main_v64 val_main_v63 val_main_v62 val_main_v61 val_main_v60 val_main_v59 val_main_v58 val_main_v52 val_main_v51 val_main_cst_9 val_main_cst_14 val_main_cst_15 val_main_cst_16 val_main_cst_17
  pointwise
  unfold Mixed.dy
  by_cases h : 128 ≤ r.val
  · have hr : r.val - 128 < 8192 := by omega
    rw [dif_pos ⟨h, hr⟩]
    refine (factors _).trans (congrArg (· * part1024) ((err_eq x0 x1 x2 x3 x4 x5 x6 x7 x8 x9 x10 ⟨r.val - 128, hr⟩ k).trans ?_))
    exact congrArg (fun q => (mixed x0 x1 x2 x3 x4 x5 x6 x7 x8 x9 x10).err q k) (Fin.ext (Nat.add_sub_cancel' h))
  · rw [dif_neg fun h' => h h'.1, show (mixed x0 x1 x2 x3 x4 x5 x6 x7 x8 x9 x10).err r k = 0 from dif_neg h, zero_mul]

theorem loss_eq (i : Fin 8) (j : Fin 128) : val_main_v68 (F := Ideal) x0 x1 x2 x3 x4 x5 x6 x7 x8 x9 x10 (ix2 i j) = (mixed x0 x1 x2 x3 x4 x5 x6 x7 x8 x9 x10).loss := by
  unfold val_main_v68 val_main_v57 val_main_v56 val_main_v55 val_main_v54 val_main_v53 val_main_v50 val_main_cst_10 val_main_cst_11 val_main_cst_12 val_main_cst_13
  pointwise
  rw [loss_rows, bits_width]
  simp only [Ideal.div_coe (by norm_num : (1024 : ℝ) ≠ 0), err_eq x0 x1 x2 x3 x4 x5 x6 x7 x8 x9 x10, half, part1024, bits_part]

/-! ## The arrays -/

theorem h_array : val_main_v15 (F := Ideal) x0 x1 x2 x3 x4
    = fun i => (mixed x0 x1 x2 x3 x4 x5 x6 x7 x8 x9 x10).h (i 0) (i 1) :=
  funext fun i => (congrArg (val_main_v15 (F := Ideal) x0 x1 x2 x3 x4) (eq_ix2 i)).trans (h_eq x0 x1 x2 x3 x4 x5 x6 x7 x8 x9 x10 (i 0) (i 1))

theorem m_array : val_main_v2 (F := Ideal) x1 x2 x3
    = fun i => (mixed x0 x1 x2 x3 x4 x5 x6 x7 x8 x9 x10).m (i 0) (i 1) :=
  funext fun i => (congrArg (val_main_v2 (F := Ideal) x1 x2 x3) (eq_ix2 i)).trans (m_eq x0 x1 x2 x3 x4 x5 x6 x7 x8 x9 x10 (i 0) (i 1))

theorem a_array : val_main_v65 (F := Ideal) x0 x1 x2 x3 x4 x5 x6
    = fun i => (mixed x0 x1 x2 x3 x4 x5 x6 x7 x8 x9 x10).fed.a (i 0) (i 1) :=
  funext fun i => (congrArg (val_main_v28 (F := Ideal) x0 x1 x2 x3 x4 x5 x6) (eq_ix2 i)).trans (a_eq x0 x1 x2 x3 x4 x5 x6 x7 x8 x9 x10 (i 0) (i 1))

theorem b_array : val_main_v66 (F := Ideal) x0 x1 x2 x3 x4 x5 x7
    = fun i => (mixed x0 x1 x2 x3 x4 x5 x6 x7 x8 x9 x10).fed.b (i 0) (i 1) :=
  funext fun i => (congrArg (val_main_v29 (F := Ideal) x0 x1 x2 x3 x4 x5 x7) (eq_ix2 i)).trans (b_eq x0 x1 x2 x3 x4 x5 x6 x7 x8 x9 x10 (i 0) (i 1))

theorem s_array : val_main_v67 (F := Ideal) x0 x1 x2 x3 x4 x5 x6 x7
    = fun i => (mixed x0 x1 x2 x3 x4 x5 x6 x7 x8 x9 x10).fed.s (i 0) (i 1) :=
  funext fun i => (congrArg (val_main_v31 (F := Ideal) x0 x1 x2 x3 x4 x5 x6 x7) (eq_ix2 i)).trans (s_eq x0 x1 x2 x3 x4 x5 x6 x7 x8 x9 x10 (i 0) (i 1))

theorem f_array : val_main_v32 (F := Ideal) x0 x1 x2 x3 x4 x5 x6 x7 x8
    = fun i => (mixed x0 x1 x2 x3 x4 x5 x6 x7 x8 x9 x10).fed.f (i 0) (i 1) :=
  funext fun i => (congrArg (val_main_v32 (F := Ideal) x0 x1 x2 x3 x4 x5 x6 x7 x8) (eq_ix2 i)).trans (f_eq x0 x1 x2 x3 x4 x5 x6 x7 x8 x9 x10 (i 0) (i 1))

theorem dy_array : val_main_v64 (F := Ideal) x0 x1 x2 x3 x4 x5 x6 x7 x8 x9 x10
    = fun i => (mixed x0 x1 x2 x3 x4 x5 x6 x7 x8 x9 x10).dy (i 0) (i 1) :=
  funext fun i => (congrArg (val_main_v64 (F := Ideal) x0 x1 x2 x3 x4 x5 x6 x7 x8 x9 x10) (eq_ix2 i)).trans (dy_eq x0 x1 x2 x3 x4 x5 x6 x7 x8 x9 x10 (i 0) (i 1))

theorem loss_array : val_main_v68 (F := Ideal) x0 x1 x2 x3 x4 x5 x6 x7 x8 x9 x10 = fun _ => (mixed x0 x1 x2 x3 x4 x5 x6 x7 x8 x9 x10).loss :=
  funext fun i => (congrArg _ (eq_ix2 i)).trans (loss_eq x0 x1 x2 x3 x4 x5 x6 x7 x8 x9 x10 (i 0) (i 1))

end Cert.Proof.LossRef

end
-- ==== Proof.Loss.lean ====
/-
  The second block's forward call, with the mixer's output in front of it and the loss behind: on the reals the launch
  and the reference's operations have the same results.
-/
module

public import proofs.«01_k».proof.Defs
public import proofs.«01_k».proof.Proof.LossArrays
public import proofs.«01_k».proof.Proof.LossRef
public import proofs.«01_k».proof.Proof.Gen.LossRefIdeal.Run
public import Idealize.ShloMosaic.Adequacy
public import Idealize.ShloMosaic.Init
public import Idealize.ShloMosaic.Lib.ValueLayout

@[expose] public section

noncomputable section

open Idealize.ShloMosaic Idealize.ShloMosaic.TcCoe

/-! ## What the host operations hand to the launch -/

namespace Cert.Proof.Loss

open Cert.LossIdeal Cert.LossIdeal.Gen Idealize.SL.Sem

section
variable (m : (ℓ : Loc nD τ sig) → Buf (Elt Ideal) ℓ) (c : Dev nD)

abbrev x0 : Vec Ideal S8320x1024 .f32 := m ((c : Thread nD τ).loc main_arg0)
abbrev x1 : Vec Ideal S8320x512 .bf16 := m ((c : Thread nD τ).loc main_arg1)
abbrev x2 : Vec Ideal S8320x512 .bf16 := m ((c : Thread nD τ).loc main_arg2)
abbrev x3 : Vec Ideal S1024x1024 .f32 := m ((c : Thread nD τ).loc main_arg3)
abbrev x4 : Vec Ideal S1x1024 .f32 := m ((c : Thread nD τ).loc main_arg4)
abbrev x5 : Vec Ideal S1x1024 .f32 := m ((c : Thread nD τ).loc main_arg5)
abbrev x6 : Vec Ideal S1024x2816 .f32 := m ((c : Thread nD τ).loc main_arg6)
abbrev x7 : Vec Ideal S1024x2816 .f32 := m ((c : Thread nD τ).loc main_arg7)
abbrev x8 : Vec Ideal S2816x1024 .f32 := m ((c : Thread nD τ).loc main_arg8)
abbrev x9 : Vec Ideal S1x1024 .f32 := m ((c : Thread nD τ).loc main_arg9)
abbrev x10 : Vec Ideal S8192x1024 .f32 := m ((c : Thread nD τ).loc main_arg10)

/-- The gate's weight, transposed. -/
theorem V_wg (j : Fin 2816) (k : Fin 1024) : (V m c main_v1 : S2816x1024.Idx → EReal) (ix2 j k)
    = (m ((c : Thread nD τ).loc main_arg6) : S1024x2816.Idx → EReal) (ix2 k j) := by
  have h : V m c main_v1 = truncf (F := Ideal) .bf16 (transpose S2816x1024 [1, 0] (m ((c : Thread nD τ).loc main_arg6)) transposes_S1024x2816_S2816x1024_1_0) bitsLt_bf16_f32 := by
    unfold V
    simp only [hostOps0, List.flatten_cons, List.flatten_nil, List.append_nil, List.cons_append, List.nil_append]
    after_results
  rw [h]
  exact ValueIdx.transpose_ix2_apply _ _ j k

/-- The other weight, transposed. -/
theorem V_wu (j : Fin 2816) (k : Fin 1024) : (V m c main_v3 : S2816x1024.Idx → EReal) (ix2 j k)
    = (m ((c : Thread nD τ).loc main_arg7) : S1024x2816.Idx → EReal) (ix2 k j) := by
  have h : V m c main_v3 = truncf (F := Ideal) .bf16 (transpose S2816x1024 [1, 0] (m ((c : Thread nD τ).loc main_arg7)) transposes_S1024x2816_S2816x1024_1_0) bitsLt_bf16_f32 := by
    unfold V
    simp only [hostOps0, List.flatten_cons, List.flatten_nil, List.append_nil, List.cons_append, List.nil_append]
    after_results
  rw [h]
  exact ValueIdx.transpose_ix2_apply _ _ j k

/-- The last weight. -/
theorem V_wd : V m c main_v4 = m ((c : Thread nD τ).loc main_arg8) := by
  unfold V
  simp only [hostOps0, List.flatten_cons, List.flatten_nil, List.append_nil, List.cons_append, List.nil_append]
  after_results
  rfl

/-- The mixer's weight. -/
theorem V_wo : V m c main_v5 = m ((c : Thread nD τ).loc main_arg3) := by
  unfold V
  simp only [hostOps0, List.flatten_cons, List.flatten_nil, List.append_nil, List.cons_append, List.nil_append]
  after_results
  rfl

/-- What the launch is given is what the reference computes from. -/
theorem given_eq : LossArrays.given m c = LossRef.mixed (x0 m c) (x1 m c) (x2 m c) (x3 m c) (x4 m c) (x5 m c) (x6 m c) (x7 m c) (x8 m c) (x9 m c) (x10 m c) :=
  LossRef.mixedOf_eq (x0 m c) (x1 m c) (x2 m c) (x3 m c) (x4 m c) (x5 m c) (x6 m c) (x7 m c) (x8 m c) (x9 m c) (x10 m c)
    (V_main_arg0 m c) (V_main_arg1 m c) (V_main_arg2 m c) (V_wo m c) (V_main_arg4 m c) (V_main_arg5 m c) (V_main_arg9 m c)
    (V_wg m c) (V_wu m c) (V_wd m c) (V_main_arg10 m c)

end

/-! ## The claims -/

/-- Equal arguments have equal results. -/
theorem same {A0 A1 A2 A3 A4 A5 A6 A7 A8 A9 A10 β : Type} {x0 y0 : A0} {x1 y1 : A1} {x2 y2 : A2} {x3 y3 : A3} {x4 y4 : A4} {x5 y5 : A5} {x6 y6 : A6} {x7 y7 : A7} {x8 y8 : A8} {x9 y9 : A9} {x10 y10 : A10}
    (v : A0 → A1 → A2 → A3 → A4 → A5 → A6 → A7 → A8 → A9 → A10 → β) (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    v x0 x1 x2 x3 x4 x5 x6 x7 x8 x9 x10 = v y0 y1 y2 y3 y4 y5 y6 y7 y8 y9 y10 := by
  subst h0 h1 h2 h3 h4 h5 h6 h7 h8 h9 h10
  rfl

theorem reference_frame : quiescent_LossRefIdeal (hLossRefIdeal := Cert.LossRefIdeal.Gen.facts) := fun m ρ _ =>
  (θ_run Cert.LossRefIdeal.defs _ _).mono
    (fun r h => ⟨fun c => (h c).2.2.2.2.2.2.2.2, sem_eq_zero_of_no_sems (by decide) r.2⟩)
    (Cert.LossRefIdeal.Value.run (F := Ideal) m ρ)

theorem values : algebraic_LossIdeal_LossRefIdeal (hLossIdeal := Cert.LossIdeal.Gen.facts)
    (hLossRefIdeal := Cert.LossRefIdeal.Gen.facts) := by
  intro m g m' g' _ hagree
  refine ⟨fun c => Cert.LossRefIdeal.Read.val_main_v15 (F := Ideal) (x0 m c) (x1 m c) (x2 m c) (x3 m c) (x4 m c),
    fun c => Cert.LossRefIdeal.Read.val_main_v2 (F := Ideal) (x1 m c) (x2 m c) (x3 m c),
    fun c => Cert.LossRefIdeal.Read.val_main_v65 (F := Ideal) (x0 m c) (x1 m c) (x2 m c) (x3 m c) (x4 m c) (x5 m c) (x6 m c),
    fun c => Cert.LossRefIdeal.Read.val_main_v66 (F := Ideal) (x0 m c) (x1 m c) (x2 m c) (x3 m c) (x4 m c) (x5 m c) (x7 m c),
    fun c => Cert.LossRefIdeal.Read.val_main_v67 (F := Ideal) (x0 m c) (x1 m c) (x2 m c) (x3 m c) (x4 m c) (x5 m c) (x6 m c) (x7 m c),
    fun c => Cert.LossRefIdeal.Read.val_main_v32 (F := Ideal) (x0 m c) (x1 m c) (x2 m c) (x3 m c) (x4 m c) (x5 m c) (x6 m c) (x7 m c) (x8 m c),
    fun c => Cert.LossRefIdeal.Read.val_main_v64 (F := Ideal) (x0 m c) (x1 m c) (x2 m c) (x3 m c) (x4 m c) (x5 m c) (x6 m c) (x7 m c) (x8 m c) (x9 m c) (x10 m c),
    fun c => Cert.LossRefIdeal.Read.val_main_v68 (F := Ideal) (x0 m c) (x1 m c) (x2 m c) (x3 m c) (x4 m c) (x5 m c) (x6 m c) (x7 m c) (x8 m c) (x9 m c) (x10 m c), ?_, ?_⟩
  · refine (θ_run Cert.LossIdeal.defs _ _).mono (fun r h c => ?_) (Cert.LossIdeal.Value.run_blocks (F := Ideal) m g)
    obtain ⟨e0, e1, e2, e3, e4, e5, e6, e7, kept⟩ := h c
    have K0 := LossArrays.h_array m c
    have K1 := LossArrays.m_array m c
    have K2 := LossArrays.a_array m c
    have K3 := LossArrays.b_array m c
    have K4 := LossArrays.s_array m c
    have K5 := LossArrays.f_array m c
    have K6 := LossArrays.dy_array m c
    have K7 := LossArrays.loss_array m c
    rw [given_eq m c] at K0 K1 K2 K3 K4 K5 K6 K7
    exact ⟨e0.trans (K0.trans (LossRef.h_array (x0 m c) (x1 m c) (x2 m c) (x3 m c) (x4 m c) (x5 m c) (x6 m c) (x7 m c) (x8 m c) (x9 m c) (x10 m c)).symm),
      e1.trans (K1.trans (LossRef.m_array (x0 m c) (x1 m c) (x2 m c) (x3 m c) (x4 m c) (x5 m c) (x6 m c) (x7 m c) (x8 m c) (x9 m c) (x10 m c)).symm),
      e2.trans (K2.trans (LossRef.a_array (x0 m c) (x1 m c) (x2 m c) (x3 m c) (x4 m c) (x5 m c) (x6 m c) (x7 m c) (x8 m c) (x9 m c) (x10 m c)).symm),
      e3.trans (K3.trans (LossRef.b_array (x0 m c) (x1 m c) (x2 m c) (x3 m c) (x4 m c) (x5 m c) (x6 m c) (x7 m c) (x8 m c) (x9 m c) (x10 m c)).symm),
      e4.trans (K4.trans (LossRef.s_array (x0 m c) (x1 m c) (x2 m c) (x3 m c) (x4 m c) (x5 m c) (x6 m c) (x7 m c) (x8 m c) (x9 m c) (x10 m c)).symm),
      e5.trans (K5.trans (LossRef.f_array (x0 m c) (x1 m c) (x2 m c) (x3 m c) (x4 m c) (x5 m c) (x6 m c) (x7 m c) (x8 m c) (x9 m c) (x10 m c)).symm),
      e6.trans (K6.trans (LossRef.dy_array (x0 m c) (x1 m c) (x2 m c) (x3 m c) (x4 m c) (x5 m c) (x6 m c) (x7 m c) (x8 m c) (x9 m c) (x10 m c)).symm),
      e7.trans (K7.trans (LossRef.loss_array (x0 m c) (x1 m c) (x2 m c) (x3 m c) (x4 m c) (x5 m c) (x6 m c) (x7 m c) (x8 m c) (x9 m c) (x10 m c)).symm), kept⟩
  · refine (θ_run Cert.LossRefIdeal.defs _ _).mono (fun r h c => ?_) (Cert.LossRefIdeal.Value.run (F := Ideal) m' g')
    obtain ⟨e0, e1, e2, e3, e4, e5, e6, e7, kept⟩ := h c
    obtain ⟨a0, a1, a2, a3, a4, a5, a6, a7, a8, a9, a10⟩ := hagree c
    exact ⟨e0.trans ((Cert.LossRefIdeal.Read.val_main_v15_eq _).trans
        (same (fun x0 x1 x2 x3 x4 _ _ _ _ _ _ => Cert.LossRefIdeal.Read.val_main_v15 (F := Ideal) x0 x1 x2 x3 x4)
          a0 a1 a2 a3 a4 a5 a6 a7 a8 a9 a10)),
      e1.trans ((Cert.LossRefIdeal.Read.val_main_v2_eq _).trans
        (same (fun _ x1 x2 x3 _ _ _ _ _ _ _ => Cert.LossRefIdeal.Read.val_main_v2 (F := Ideal) x1 x2 x3)
          a0 a1 a2 a3 a4 a5 a6 a7 a8 a9 a10)),
      e2.trans ((Cert.LossRefIdeal.Read.val_main_v65_eq _).trans
        (same (fun x0 x1 x2 x3 x4 x5 x6 _ _ _ _ => Cert.LossRefIdeal.Read.val_main_v65 (F := Ideal) x0 x1 x2 x3 x4 x5 x6)
          a0 a1 a2 a3 a4 a5 a6 a7 a8 a9 a10)),
      e3.trans ((Cert.LossRefIdeal.Read.val_main_v66_eq _).trans
        (same (fun x0 x1 x2 x3 x4 x5 _ x7 _ _ _ => Cert.LossRefIdeal.Read.val_main_v66 (F := Ideal) x0 x1 x2 x3 x4 x5 x7)
          a0 a1 a2 a3 a4 a5 a6 a7 a8 a9 a10)),
      e4.trans ((Cert.LossRefIdeal.Read.val_main_v67_eq _).trans
        (same (fun x0 x1 x2 x3 x4 x5 x6 x7 _ _ _ => Cert.LossRefIdeal.Read.val_main_v67 (F := Ideal) x0 x1 x2 x3 x4 x5 x6 x7)
          a0 a1 a2 a3 a4 a5 a6 a7 a8 a9 a10)),
      e5.trans ((Cert.LossRefIdeal.Read.val_main_v32_eq _).trans
        (same (fun x0 x1 x2 x3 x4 x5 x6 x7 x8 _ _ => Cert.LossRefIdeal.Read.val_main_v32 (F := Ideal) x0 x1 x2 x3 x4 x5 x6 x7 x8)
          a0 a1 a2 a3 a4 a5 a6 a7 a8 a9 a10)),
      e6.trans ((Cert.LossRefIdeal.Read.val_main_v64_eq _).trans
        (same (Cert.LossRefIdeal.Read.val_main_v64 (F := Ideal))
          a0 a1 a2 a3 a4 a5 a6 a7 a8 a9 a10)),
      e7.trans ((Cert.LossRefIdeal.Read.val_main_v68_eq _).trans
        (same (Cert.LossRefIdeal.Read.val_main_v68 (F := Ideal))
          a0 a1 a2 a3 a4 a5 a6 a7 a8 a9 a10)), kept⟩

end Cert.Proof.Loss

end
-- ==== Proof.MixArrays.lean ====
/-
  The mixer's input launch: the rows are normalized and projected, and the projection's columns are parted. What the
  launch leaves of its blocks and, over the grid, of its arrays, and the same of the reference's stages.
-/
module

public import proofs.«01_k».proof.Proof.Gen.MixIdeal.Value
public import proofs.«01_k».proof.Proof.Gen.MixRefIdeal.Read
public import proofs.«01_k».proof.Proof.RowSums
public import Idealize.ShloMosaic.Lib.ValueLayout

@[expose] public section

noncomputable section

open Idealize.ShloMosaic Idealize.ShloMosaic.TcCoe

namespace Cert.Proof.MixArrays

open Cert.MixIdeal Cert.MixIdeal.Gen

/-! ## The lines -/

/-- What the launch projects: the rows, their gain and the weight, a row of it for each column of the projection. -/
structure Fed where
  h : Fin 8320 → Fin 1024 → EReal
  g : Fin 1024 → EReal
  w : Fin 2432 → Fin 1024 → EReal

namespace Fed

variable (G : Fed)

/-- The normalized rows. -/
def n (r : Fin 8320) (k : Fin 1024) : EReal := hat (G.h r) k * G.g k

/-- Their projection. -/
def proj (r : Fin 8320) (j : Fin 2432) : EReal := ∑ k, G.n r k * G.w j k

end Fed

/-- The same, read off arrays. -/
def fedOf (h : Vec Ideal S8320x1024 .f32) (g : Vec Ideal S1x1024 .f32) (w : S2432x1024.Idx → EReal) : Fed where
  h r k := h (ix2 r k)
  g k := g (ix2 0 k)
  w j k := w (ix2 j k)

/-- A row of a block. -/
def row (t : Fin 13) (p : Fin 640) : Fin 8320 := ⟨640 * t.val + p.val, by omega⟩

/-! ## What the body computes from its blocks -/

section
variable (h : Vec Ideal S640x1024 .f32) (g : Vec Ideal S1x1024 .f32) (w : Vec Ideal S2432x1024 .bf16)
  (v : Vec Ideal S640x2432 .f32)

theorem n_apply (p : Fin 640) (k : Fin 1024) :
    k0_pay2 (F := Ideal) h g (ix2 p k) = hat (fun k => h (ix2 p k)) k * g (ix2 0 k) := by
  unfold k0_pay2
  pointwise
  rfl

theorem proj_apply (p : Fin 640) (j : Fin 2432) :
    k0_pay3 (F := Ideal) h g w (ix2 p j) = ∑ k : Fin 1024, k0_pay2 (F := Ideal) h g (ix2 p k) * w (ix2 j k) := by
  unfold k0_pay3
  pointwise

theorem gq_apply (p : Fin 640) (j : Fin 256) :
    k0_pay4 (F := Ideal) h g w (ix2 p j) = k0_pay3 (F := Ideal) h g w (ix2 p ⟨j.val, by omega⟩) := by
  unfold k0_pay4
  pointwise

theorem gk_apply (p : Fin 640) (j : Fin 256) :
    k0_pay5 (F := Ideal) h g w (ix2 p j) = k0_pay3 (F := Ideal) h g w (ix2 p ⟨256 + j.val, by omega⟩) := by
  unfold k0_pay5
  pointwise

theorem gv_apply (p : Fin 640) (j : Fin 512) :
    k0_pay6 (F := Ideal) h g w (ix2 p j) = k0_pay3 (F := Ideal) h g w (ix2 p ⟨512 + j.val, by omega⟩) := by
  unfold k0_pay6
  pointwise

theorem gg_apply (p : Fin 640) (j : Fin 512) :
    k0_pay7 (F := Ideal) h g w (ix2 p j) = k0_pay3 (F := Ideal) h g w (ix2 p ⟨1024 + j.val, by omega⟩) := by
  unfold k0_pay7
  pointwise

theorem sv_apply (p : Fin 640) (j : Fin 128) :
    k0_pay14 (F := Ideal) v (ix2 p j) = v (ix2 p ⟨2176 + j.val, by omega⟩) := by
  unfold k0_pay14
  pointwise

theorem ga_apply (p : Fin 640) (j : Fin 128) :
    k0_pay15 (F := Ideal) v (ix2 p j) = v (ix2 p ⟨2304 + j.val, by omega⟩) := by
  unfold k0_pay15
  pointwise

/-- The projection, as the later columns' bodies take it. -/
theorem full_eq (a : Vec Ideal S128x256 .f32) (b : Vec Ideal S1x256 .f32) (x y : Vec Ideal S640x128 .f32) :
    k0_pay29 (F := Ideal) h g w a b x y = k0_pay3 (F := Ideal) h g w := by
  unfold k0_pay29
  frame_out

end

/-! ## The blocks -/

variable (m : (ℓ : Loc nD τ sig) → Buf (Elt Ideal) ℓ) (c : Dev nD)

theorem idx : ∀ t : Fin cfg0.N,
    win0_0.index t = ![t.val, 0] ∧ win0_1.index t = ![0, 0] ∧ win0_2.index t = ![0, 0]
    ∧ win0_7.index t = ![t.val, 0]
    ∧ win0_8.index t = ![t.val, 0] ∧ win0_9.index t = ![t.val, 0] ∧ win0_10.index t = ![t.val, 0]
    ∧ win0_13.index t = ![t.val, 0] ∧ win0_14.index t = ![t.val, 0] ∧ win0_17.index t = ![t.val, 0] :=
  (by decide +kernel : ∀ t : Fin grid0.N, _)

theorem blk0 (t : Fin cfg0.N) (p : Fin 640) (k : Fin 1024) :
    (iblk m c 0 t : Vec Ideal S640x1024 .f32) (ix2 p k) = V m c main_arg0 (ix2 (row t p) k) := by
  blk_ext [iblk, row, idx t]

theorem blk1 (t : Fin cfg0.N) (p : Fin 1) (k : Fin 1024) :
    (iblk m c 1 t : Vec Ideal S1x1024 .f32) (ix2 p k) = V m c main_arg1 (ix2 p k) := by
  blk_ext [iblk, idx t]

theorem blk2 (t : Fin cfg0.N) (p : Fin 2432) (k : Fin 1024) :
    (iblk m c 2 t : Vec Ideal S2432x1024 .bf16) (ix2 p k) = V m c main_v1 (ix2 p k) := by
  blk_ext [iblk, idx t]

/-- What the launch is given. -/
def fed : Fed := fedOf (V m c main_arg0) (V m c main_arg1) (V m c main_v1)

/-! ## What the body leaves of its blocks -/

theorem n_blk (t : Fin cfg0.N) (p : Fin 640) (k : Fin 1024) :
    k0_pay2 (F := Ideal) (iblk m c 0 t) (iblk m c 1 t) (ix2 p k) = (fed m c).n (row t p) k := by
  rw [n_apply]
  simp only [blk0, blk1]
  rfl

theorem proj_blk (t : Fin cfg0.N) (p : Fin 640) (j : Fin 2432) :
    k0_pay3 (F := Ideal) (iblk m c 0 t) (iblk m c 1 t) (iblk m c 2 t) (ix2 p j) = (fed m c).proj (row t p) j := by
  rw [proj_apply]
  simp only [n_blk, blk2]
  rfl

/-! ## The arrays -/

/-- Columns 0 to 255 of the projection. -/
def gq (G : Fed) (r : Fin 8320) (j : Fin 256) : EReal := G.proj r ⟨j.val, by omega⟩

theorem gq_array : (dats m 0 c).arrAt 7 cfg0.N = fun i : S8320x256.Idx => gq (fed m c) (i 0) (i 1) := by
  refine (dats m 0 c).arrAt_eq_of_covers 7 _ (by decide +kernel) fun t hf y => ?_
  blk_simp
  have he : ((View.whole main_v2_0).slice (win0_7.rect t)).emb y = ix2 (row t (y 0)) (y 1) := by
    blk_ext [row, idx t]
  obtain ⟨p, j, rfl⟩ : ∃ (p : Fin 640) (j : Fin 256), y = ix2 p j := ⟨y 0, y 1, eq_ix2 y⟩
  rw [after0_7, he]
  frame_out
  exact (gq_apply (iblk m c 0 t) (iblk m c 1 t) (iblk m c 2 t) p j).trans
    (proj_blk m c t p ⟨j.val, by omega⟩)

/-- Columns 256 to 511 of the projection. -/
def gk (G : Fed) (r : Fin 8320) (j : Fin 256) : EReal := G.proj r ⟨256 + j.val, by omega⟩

theorem gk_array : (dats m 0 c).arrAt 8 cfg0.N = fun i : S8320x256.Idx => gk (fed m c) (i 0) (i 1) := by
  refine (dats m 0 c).arrAt_eq_of_covers 8 _ (by decide +kernel) fun t hf y => ?_
  blk_simp
  have he : ((View.whole main_v2_1).slice (win0_8.rect t)).emb y = ix2 (row t (y 0)) (y 1) := by
    blk_ext [row, idx t]
  obtain ⟨p, j, rfl⟩ : ∃ (p : Fin 640) (j : Fin 256), y = ix2 p j := ⟨y 0, y 1, eq_ix2 y⟩
  rw [after0_8, he]
  frame_out
  exact (gk_apply (iblk m c 0 t) (iblk m c 1 t) (iblk m c 2 t) p j).trans
    (proj_blk m c t p ⟨256 + j.val, by omega⟩)

/-- Columns 512 to 1023 of the projection. -/
def gv (G : Fed) (r : Fin 8320) (j : Fin 512) : EReal := G.proj r ⟨512 + j.val, by omega⟩

theorem gv_array : (dats m 0 c).arrAt 9 cfg0.N = fun i : S8320x512.Idx => gv (fed m c) (i 0) (i 1) := by
  refine (dats m 0 c).arrAt_eq_of_covers 9 _ (by decide +kernel) fun t hf y => ?_
  blk_simp
  have he : ((View.whole main_v2_2).slice (win0_9.rect t)).emb y = ix2 (row t (y 0)) (y 1) := by
    blk_ext [row, idx t]
  obtain ⟨p, j, rfl⟩ : ∃ (p : Fin 640) (j : Fin 512), y = ix2 p j := ⟨y 0, y 1, eq_ix2 y⟩
  rw [after0_9, he]
  frame_out
  exact (gv_apply (iblk m c 0 t) (iblk m c 1 t) (iblk m c 2 t) p j).trans
    (proj_blk m c t p ⟨512 + j.val, by omega⟩)

/-- Columns 1024 to 1535 of the projection. -/
def gg (G : Fed) (r : Fin 8320) (j : Fin 512) : EReal := G.proj r ⟨1024 + j.val, by omega⟩

theorem gg_array : (dats m 0 c).arrAt 10 cfg0.N = fun i : S8320x512.Idx => gg (fed m c) (i 0) (i 1) := by
  refine (dats m 0 c).arrAt_eq_of_covers 10 _ (by decide +kernel) fun t hf y => ?_
  blk_simp
  have he : ((View.whole main_v2_3).slice (win0_10.rect t)).emb y = ix2 (row t (y 0)) (y 1) := by
    blk_ext [row, idx t]
  obtain ⟨p, j, rfl⟩ : ∃ (p : Fin 640) (j : Fin 512), y = ix2 p j := ⟨y 0, y 1, eq_ix2 y⟩
  rw [after0_10, he]
  frame_out
  exact (gg_apply (iblk m c 0 t) (iblk m c 1 t) (iblk m c 2 t) p j).trans
    (proj_blk m c t p ⟨1024 + j.val, by omega⟩)

/-- Columns 2176 to 2303 of the projection. -/
def sv (G : Fed) (r : Fin 8320) (j : Fin 128) : EReal := G.proj r ⟨2176 + j.val, by omega⟩

theorem sv_array : (dats m 0 c).arrAt 13 cfg0.N = fun i : S8320x128.Idx => sv (fed m c) (i 0) (i 1) := by
  refine (dats m 0 c).arrAt_eq_of_covers 13 _ (by decide +kernel) fun t hf y => ?_
  blk_simp
  have he : ((View.whole main_v2_6).slice (win0_13.rect t)).emb y = ix2 (row t (y 0)) (y 1) := by
    blk_ext [row, idx t]
  obtain ⟨p, j, rfl⟩ : ∃ (p : Fin 640) (j : Fin 128), y = ix2 p j := ⟨y 0, y 1, eq_ix2 y⟩
  rw [after0_13, he]
  frame_out
  rw [full_eq]
  exact (sv_apply (k0_pay3 (F := Ideal) (iblk m c 0 t) (iblk m c 1 t) (iblk m c 2 t)) p j).trans
    (proj_blk m c t p ⟨2176 + j.val, by omega⟩)

/-- Columns 2304 to 2431 of the projection. -/
def ga (G : Fed) (r : Fin 8320) (j : Fin 128) : EReal := G.proj r ⟨2304 + j.val, by omega⟩

theorem ga_array : (dats m 0 c).arrAt 14 cfg0.N = fun i : S8320x128.Idx => ga (fed m c) (i 0) (i 1) := by
  refine (dats m 0 c).arrAt_eq_of_covers 14 _ (by decide +kernel) fun t hf y => ?_
  blk_simp
  have he : ((View.whole main_v2_7).slice (win0_14.rect t)).emb y = ix2 (row t (y 0)) (y 1) := by
    blk_ext [row, idx t]
  obtain ⟨p, j, rfl⟩ : ∃ (p : Fin 640) (j : Fin 128), y = ix2 p j := ⟨y 0, y 1, eq_ix2 y⟩
  rw [after0_14, he]
  frame_out
  rw [full_eq]
  exact (ga_apply (k0_pay3 (F := Ideal) (iblk m c 0 t) (iblk m c 1 t) (iblk m c 2 t)) p j).trans
    (proj_blk m c t p ⟨2304 + j.val, by omega⟩)

theorem n_array : (dats m 0 c).arrAt 17 cfg0.N = fun i : S8320x1024.Idx => (fed m c).n (i 0) (i 1) := by
  refine (dats m 0 c).arrAt_eq_of_covers 17 _ (by decide +kernel) fun t hf y => ?_
  blk_simp
  have he : ((View.whole main_v2_10).slice (win0_17.rect t)).emb y = ix2 (row t (y 0)) (y 1) := by
    blk_ext [row, idx t]
  obtain ⟨p, j, rfl⟩ : ∃ (p : Fin 640) (j : Fin 1024), y = ix2 p j := ⟨y 0, y 1, eq_ix2 y⟩
  rw [after0_17, he]
  frame_out
  exact n_blk m c t p j

end Cert.Proof.MixArrays

/-! ## The reference -/

namespace Cert.Proof.MixRef

open Cert.MixRefIdeal Cert.MixRefIdeal.Read
open Cert.Proof.MixArrays

variable (x0 : Vec Ideal S8320x1024 .f32) (x1 : Vec Ideal S1x1024 .f32) (x2 : Vec Ideal S1024x2432 .f32)

/-- What the reference computes from. -/
def fed : Fed where
  h r k := x0 (ix2 r k)
  g k := x1 (ix2 0 k)
  w j k := x2 (ix2 k j)

theorem fedOf_eq {h : Vec Ideal S8320x1024 .f32} {g : Vec Ideal S1x1024 .f32} {w : Vec Ideal MixIdeal.S2432x1024 .f32}
    (hh : h = x0) (hg : g = x1) (hw : ∀ j k, w (ix2 j k) = x2 (ix2 k j)) : fedOf h g w = fed x0 x1 x2 := by
  subst hh hg
  simp only [fedOf, hw]
  rfl

theorem inv_h (r : Fin 8320) (q : Fin 1) :
    val_main_v7 (F := Ideal) x0 (ix2 r q) = inv fun k => x0 (ix2 r k) := by
  unfold val_main_v7 val_main_v6 val_main_v5 val_main_v4 val_main_v3 val_main_v2 val_main_v1 val_main_v0 val_main_cst
    val_main_cst_0 val_main_cst_1
  pointwise
  rfl

theorem n_eq (r : Fin 8320) (k : Fin 1024) : val_main_v11 (F := Ideal) x0 x1 (ix2 r k) = (fed x0 x1 x2).n r k := by
  unfold val_main_v11 val_main_v10 val_main_v9 val_main_v8
  pointwise
  rw [inv_h]
  rfl

theorem proj_eq (r : Fin 8320) (j : Fin 2432) :
    val_main_v12 (F := Ideal) x0 x1 x2 (ix2 r j) = (fed x0 x1 x2).proj r j := by
  unfold val_main_v12
  pointwise
  exact Finset.sum_congr rfl fun k _ => congrArg (· * x2 (ix2 k j)) (n_eq x0 x1 x2 r k)

theorem gq_array : val_main_v13 (F := Ideal) x0 x1 x2 = fun i => gq (fed x0 x1 x2) (i 0) (i 1) := by
  funext i
  obtain ⟨r, j, rfl⟩ : ∃ (r : Fin 8320) (j : Fin 256), i = ix2 r j := ⟨i 0, i 1, eq_ix2 i⟩
  unfold val_main_v13
  pointwise
  exact proj_eq x0 x1 x2 r ⟨j.val, by omega⟩

theorem gk_array : val_main_v14 (F := Ideal) x0 x1 x2 = fun i => gk (fed x0 x1 x2) (i 0) (i 1) := by
  funext i
  obtain ⟨r, j, rfl⟩ : ∃ (r : Fin 8320) (j : Fin 256), i = ix2 r j := ⟨i 0, i 1, eq_ix2 i⟩
  unfold val_main_v14
  pointwise
  exact proj_eq x0 x1 x2 r ⟨256 + j.val, by omega⟩

theorem gv_array : val_main_v21 (F := Ideal) x0 x1 x2 = fun i => gv (fed x0 x1 x2) (i 0) (i 1) := by
  funext i
  obtain ⟨r, j, rfl⟩ : ∃ (r : Fin 8320) (j : Fin 512), i = ix2 r j := ⟨i 0, i 1, eq_ix2 i⟩
  unfold val_main_v21 val_main_v15
  pointwise
  exact proj_eq x0 x1 x2 r ⟨512 + j.val, by omega⟩

theorem gg_array : val_main_v16 (F := Ideal) x0 x1 x2 = fun i => gg (fed x0 x1 x2) (i 0) (i 1) := by
  funext i
  obtain ⟨r, j, rfl⟩ : ∃ (r : Fin 8320) (j : Fin 512), i = ix2 r j := ⟨i 0, i 1, eq_ix2 i⟩
  unfold val_main_v16
  pointwise
  exact proj_eq x0 x1 x2 r ⟨1024 + j.val, by omega⟩

theorem sv_array : val_main_v22 (F := Ideal) x0 x1 x2 = fun i => sv (fed x0 x1 x2) (i 0) (i 1) := by
  funext i
  obtain ⟨r, j, rfl⟩ : ∃ (r : Fin 8320) (j : Fin 128), i = ix2 r j := ⟨i 0, i 1, eq_ix2 i⟩
  unfold val_main_v22 val_main_v19
  pointwise
  exact proj_eq x0 x1 x2 r ⟨2176 + j.val, by omega⟩

theorem ga_array : val_main_v20 (F := Ideal) x0 x1 x2 = fun i => ga (fed x0 x1 x2) (i 0) (i 1) := by
  funext i
  obtain ⟨r, j, rfl⟩ : ∃ (r : Fin 8320) (j : Fin 128), i = ix2 r j := ⟨i 0, i 1, eq_ix2 i⟩
  unfold val_main_v20
  pointwise
  exact proj_eq x0 x1 x2 r ⟨2304 + j.val, by omega⟩

theorem n_array : val_main_v23 (F := Ideal) x0 x1 = fun i => (fed x0 x1 x2).n (i 0) (i 1) :=
  funext fun i => (congrArg (val_main_v11 (F := Ideal) x0 x1) (eq_ix2 i)).trans (n_eq x0 x1 x2 (i 0) (i 1))

end Cert.Proof.MixRef

end
-- ==== Proof.Mix.lean ====
/-
  The mixer's input call: on the reals the launch and the reference's operations have the same results.
-/
module

public import proofs.«01_k».proof.Defs
public import proofs.«01_k».proof.Proof.MixArrays
public import proofs.«01_k».proof.Proof.Gen.MixRefIdeal.Run
public import Idealize.ShloMosaic.Adequacy
public import Idealize.ShloMosaic.Init
public import Idealize.ShloMosaic.Lib.ValueLayout

@[expose] public section

noncomputable section

open Idealize.ShloMosaic Idealize.ShloMosaic.TcCoe

/-! ## What the host operations hand to the launch -/

namespace Cert.Proof.Mix

open Cert.MixIdeal Cert.MixIdeal.Gen Idealize.SL.Sem

section
variable (m : (ℓ : Loc nD τ sig) → Buf (Elt Ideal) ℓ) (c : Dev nD)

abbrev x0 : Vec Ideal S8320x1024 .f32 := m ((c : Thread nD τ).loc main_arg0)
abbrev x1 : Vec Ideal S1x1024 .f32 := m ((c : Thread nD τ).loc main_arg1)
abbrev x2 : Vec Ideal S1024x2432 .f32 := m ((c : Thread nD τ).loc main_arg2)

/-- The weight, transposed. -/
theorem V_w (j : Fin 2432) (k : Fin 1024) : (V m c main_v1 : S2432x1024.Idx → EReal) (ix2 j k)
    = (m ((c : Thread nD τ).loc main_arg2) : S1024x2432.Idx → EReal) (ix2 k j) := by
  have h : V m c main_v1 = truncf (F := Ideal) .bf16 (transpose S2432x1024 [1, 0] (x2 m c)
      transposes_S1024x2432_S2432x1024_1_0) bitsLt_bf16_f32 := by
    unfold V
    simp only [hostOps0, List.flatten_cons, List.flatten_nil, List.append_nil, List.cons_append, List.nil_append]
    after_results
  rw [h]
  exact ValueIdx.transpose_ix2_apply _ _ j k

/-- What the launch is given is what the reference computes from. -/
theorem fed_eq : MixArrays.fed m c = MixRef.fed (x0 m c) (x1 m c) (x2 m c) :=
  MixRef.fedOf_eq (x0 m c) (x1 m c) (x2 m c) (V_main_arg0 m c) (V_main_arg1 m c) (V_w m c)

end

/-! ## The claims -/

/-- Equal arguments have equal results. -/
theorem same {A0 A1 A2 β : Type} {x0 y0 : A0} {x1 y1 : A1} {x2 y2 : A2} (v : A0 → A1 → A2 → β) (h0 : x0 = y0)
    (h1 : x1 = y1) (h2 : x2 = y2) : v x0 x1 x2 = v y0 y1 y2 := by
  subst h0 h1 h2
  rfl

theorem reference_frame : quiescent_MixRefIdeal (hMixRefIdeal := Cert.MixRefIdeal.Gen.facts) := fun m ρ _ =>
  (θ_run Cert.MixRefIdeal.defs _ _).mono
    (fun r h => ⟨fun c => (h c).2.2.2.2.2.2.2, sem_eq_zero_of_no_sems (by decide) r.2⟩)
    (Cert.MixRefIdeal.Value.run (F := Ideal) m ρ)

theorem values : algebraic_MixIdeal_MixRefIdeal (hMixIdeal := Cert.MixIdeal.Gen.facts)
    (hMixRefIdeal := Cert.MixRefIdeal.Gen.facts) := by
  intro m g m' g' _ hagree
  refine ⟨fun c => Cert.MixRefIdeal.Read.val_main_v13 (F := Ideal) (x0 m c) (x1 m c) (x2 m c),
    fun c => Cert.MixRefIdeal.Read.val_main_v14 (F := Ideal) (x0 m c) (x1 m c) (x2 m c),
    fun c => Cert.MixRefIdeal.Read.val_main_v21 (F := Ideal) (x0 m c) (x1 m c) (x2 m c),
    fun c => Cert.MixRefIdeal.Read.val_main_v16 (F := Ideal) (x0 m c) (x1 m c) (x2 m c),
    fun c => Cert.MixRefIdeal.Read.val_main_v22 (F := Ideal) (x0 m c) (x1 m c) (x2 m c),
    fun c => Cert.MixRefIdeal.Read.val_main_v20 (F := Ideal) (x0 m c) (x1 m c) (x2 m c),
    fun c => Cert.MixRefIdeal.Read.val_main_v23 (F := Ideal) (x0 m c) (x1 m c), ?_, ?_⟩
  · refine (θ_run Cert.MixIdeal.defs _ _).mono (fun r h c => ?_) (Cert.MixIdeal.Value.run_blocks (F := Ideal) m g)
    obtain ⟨e0, e1, e2, e3, -, -, e4, e5, -, -, e6, kept⟩ := h c
    have K0 := MixArrays.gq_array m c
    have K1 := MixArrays.gk_array m c
    have K2 := MixArrays.gv_array m c
    have K3 := MixArrays.gg_array m c
    have K4 := MixArrays.sv_array m c
    have K5 := MixArrays.ga_array m c
    have K6 := MixArrays.n_array m c
    rw [fed_eq m c] at K0 K1 K2 K3 K4 K5 K6
    exact ⟨e0.trans (K0.trans (MixRef.gq_array (x0 m c) (x1 m c) (x2 m c)).symm),
      e1.trans (K1.trans (MixRef.gk_array (x0 m c) (x1 m c) (x2 m c)).symm),
      e2.trans (K2.trans (MixRef.gv_array (x0 m c) (x1 m c) (x2 m c)).symm),
      e3.trans (K3.trans (MixRef.gg_array (x0 m c) (x1 m c) (x2 m c)).symm),
      e4.trans (K4.trans (MixRef.sv_array (x0 m c) (x1 m c) (x2 m c)).symm),
      e5.trans (K5.trans (MixRef.ga_array (x0 m c) (x1 m c) (x2 m c)).symm),
      e6.trans (K6.trans (MixRef.n_array (x0 m c) (x1 m c) (x2 m c)).symm), kept⟩
  · refine (θ_run Cert.MixRefIdeal.defs _ _).mono (fun r h c => ?_) (Cert.MixRefIdeal.Value.run (F := Ideal) m' g')
    obtain ⟨e0, e1, e2, e3, e4, e5, e6, kept⟩ := h c
    obtain ⟨a0, a1, a2, -⟩ := hagree c
    exact ⟨e0.trans ((Cert.MixRefIdeal.Read.val_main_v13_eq _ _ _).trans
        (same (Cert.MixRefIdeal.Read.val_main_v13 (F := Ideal)) a0 a1 a2)),
      e1.trans ((Cert.MixRefIdeal.Read.val_main_v14_eq _ _ _).trans
        (same (Cert.MixRefIdeal.Read.val_main_v14 (F := Ideal)) a0 a1 a2)),
      e2.trans ((Cert.MixRefIdeal.Read.val_main_v21_eq _ _ _).trans
        (same (Cert.MixRefIdeal.Read.val_main_v21 (F := Ideal)) a0 a1 a2)),
      e3.trans ((Cert.MixRefIdeal.Read.val_main_v16_eq _ _ _).trans
        (same (Cert.MixRefIdeal.Read.val_main_v16 (F := Ideal)) a0 a1 a2)),
      e4.trans ((Cert.MixRefIdeal.Read.val_main_v22_eq _ _ _).trans
        (same (Cert.MixRefIdeal.Read.val_main_v22 (F := Ideal)) a0 a1 a2)),
      e5.trans ((Cert.MixRefIdeal.Read.val_main_v20_eq _ _ _).trans
        (same (Cert.MixRefIdeal.Read.val_main_v20 (F := Ideal)) a0 a1 a2)),
      e6.trans ((Cert.MixRefIdeal.Read.val_main_v23_eq _ _).trans
        (same (fun x0 x1 _ => Cert.MixRefIdeal.Read.val_main_v23 (F := Ideal) x0 x1) a0 a1 a2)), kept⟩

end Cert.Proof.Mix

end
-- ==== Proof.lean ====
/-
  The certificate: the launches of both feed-forward blocks' backward passes leave the gradients of their forward
  lines, the forward launches of both leave what those lines say, the second one's with the mixer's output projected in
  front and the loss and its gradient behind, the mixer's input launch leaves the normalized rows and their projection,
  the attention's backward launch leaves the gradient of the linear attention's gate, and they and their references run
  without fault and keep their arguments.
-/
module

public import proofs.«01_k».proof.Defs
public import proofs.«01_k».proof.Proof.Gen.Kernel.Frame
public import proofs.«01_k».proof.Proof.Gen.First.Frame
public import proofs.«01_k».proof.Proof.Second
public import proofs.«01_k».proof.Proof.FirstBlock
public import proofs.«01_k».proof.Proof.AttnFrame
public import proofs.«01_k».proof.Proof.Gen.Forward.Frame
public import proofs.«01_k».proof.Proof.Forward
public import proofs.«01_k».proof.Proof.Gen.Loss.Frame
public import proofs.«01_k».proof.Proof.Loss
public import proofs.«01_k».proof.Proof.Gen.Mix.Frame
public import proofs.«01_k».proof.Proof.Mix

@[expose] public section

noncomputable section
namespace Cert.Proof

theorem claim : Cert.Claim :=
  ⟨Cert.Kernel.Gen.facts, Cert.KernelIdeal.Gen.facts, Cert.ReferenceIdeal.Gen.facts, Cert.First.Gen.facts,
    Cert.FirstIdeal.Gen.facts, Cert.FirstRefIdeal.Gen.facts, Cert.Attention.Gen.facts, Cert.AttentionIdeal.Gen.facts,
    Cert.AttentionRefIdeal.Gen.facts, Cert.Forward.Gen.facts, Cert.ForwardIdeal.Gen.facts, Cert.ForwardRefIdeal.Gen.facts,
    Cert.Loss.Gen.facts, Cert.LossIdeal.Gen.facts, Cert.LossRefIdeal.Gen.facts,
    Cert.Mix.Gen.facts, Cert.MixIdeal.Gen.facts, Cert.MixRefIdeal.Gen.facts,
    Finite.facts, FirstFinite.facts, AttnFinite.facts,
    fun m ρ _ => Cert.Kernel.Gen.frame m ρ, fun m ρ _ => Cert.KernelIdeal.Gen.frame m ρ,
    fun m ρ _ => Cert.KernelIdeal.Gen.frame m ρ, Second.reference_frame, fun m ρ _ => Second.reference_frame m ρ trivial,
    fun m ρ _ => Cert.First.Gen.frame m ρ, fun m ρ _ => Cert.FirstIdeal.Gen.frame m ρ,
    fun m ρ _ => Cert.FirstIdeal.Gen.frame m ρ, FirstBlock.reference_frame,
    fun m ρ _ => FirstBlock.reference_frame m ρ trivial,
    Attention.frame_kernel, Attention.frame_ideal, fun m ρ _ => Attention.frame_ideal m ρ trivial,
    Attention.reference_frame, fun m ρ _ => Attention.reference_frame m ρ trivial,
    fun m ρ _ => Cert.Forward.Gen.frame m ρ, fun m ρ _ => Cert.ForwardIdeal.Gen.frame m ρ, Forward.reference_frame,
    fun m ρ _ => Cert.Loss.Gen.frame m ρ, fun m ρ _ => Cert.LossIdeal.Gen.frame m ρ, Loss.reference_frame,
    fun m ρ _ => Cert.Mix.Gen.frame m ρ, fun m ρ _ => Cert.MixIdeal.Gen.frame m ρ, Mix.reference_frame,
    trivial, Second.values, trivial, FirstBlock.values, trivial, Attention.values,
    trivial, Forward.values, trivial, Loss.values, trivial, Mix.values⟩

end Cert.Proof

end
